-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossRefIdeal (m : (ℓ : Loc Cert.LnLossRefIdeal.nD Cert.LnLossRefIdeal.τ Cert.LnLossRefIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamWout (m : (ℓ : Loc Cert.AdamWout.nD Cert.AdamWout.τ Cert.AdamWout.sig) → Buf (Elt Bits) ℓ) : Prop :=
  True

def Pre_AdamWoutIdeal (m : (ℓ : Loc Cert.AdamWoutIdeal.nD Cert.AdamWoutIdeal.τ Cert.AdamWoutIdeal.sig) → Buf (Elt Ideal) ℓ) : Prop :=
  True

def Pre_AdamWoutRefIdeal (m : (ℓ : Loc Cert.AdamWoutRefIdeal.nD Cert.AdamWoutRefIdeal.τ Cert.AdamWoutRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumWin (m : (ℓ : Loc Cert.SumWin.nD Cert.SumWin.τ Cert.SumWin.sig) → Buf (Elt Bits) ℓ) : Prop :=
  True

def Pre_SumWinIdeal (m : (ℓ : Loc Cert.SumWinIdeal.nD Cert.SumWinIdeal.τ Cert.SumWinIdeal.sig) → Buf (Elt Ideal) ℓ) : Prop :=
  True

def Pre_SumWinRefIdeal (m : (ℓ : Loc Cert.SumWinRefIdeal.nD Cert.SumWinRefIdeal.τ Cert.SumWinRefIdeal.sig) → Buf (Elt Ideal) ℓ) : Prop :=
  True

def Pre_SumWout (m : (ℓ : Loc Cert.SumWout.nD Cert.SumWout.τ Cert.SumWout.sig) → Buf (Elt Bits) ℓ) : Prop :=
  True

def Pre_SumWoutIdeal (m : (ℓ : Loc Cert.SumWoutIdeal.nD Cert.SumWoutIdeal.τ Cert.SumWoutIdeal.sig) → Buf (Elt Ideal) ℓ) : Prop :=
  True

def Pre_SumWoutRefIdeal (m : (ℓ : Loc Cert.SumWoutRefIdeal.nD Cert.SumWoutRefIdeal.τ Cert.SumWoutRefIdeal.sig) → Buf (Elt Ideal) ℓ) : Prop :=
  True

def Pre_SumPack (m : (ℓ : Loc Cert.SumPack.nD Cert.SumPack.τ Cert.SumPack.sig) → Buf (Elt Bits) ℓ) : Prop :=
  True

def Pre_SumPackIdeal (m : (ℓ : Loc Cert.SumPackIdeal.nD Cert.SumPackIdeal.τ Cert.SumPackIdeal.sig) → Buf (Elt Ideal) ℓ) : Prop :=
  True

def Pre_SumPackRefIdeal (m : (ℓ : Loc Cert.SumPackRefIdeal.nD Cert.SumPackRefIdeal.τ Cert.SumPackRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_SibWin (m : (ℓ : Loc Cert.SibWin.nD Cert.SibWin.τ Cert.SibWin.sig) → Buf (Elt Bits) ℓ) : Prop :=
  True

def Pre_SibWinIdeal (m : (ℓ : Loc Cert.SibWinIdeal.nD Cert.SibWinIdeal.τ Cert.SibWinIdeal.sig) → Buf (Elt Ideal) ℓ) : Prop :=
  True

def Pre_SibWinRefIdeal (m : (ℓ : Loc Cert.SibWinRefIdeal.nD Cert.SibWinRefIdeal.τ Cert.SibWinRefIdeal.sig) → Buf (Elt Ideal) ℓ) : Prop :=
  True

def Pre_SibWout (m : (ℓ : Loc Cert.SibWout.nD Cert.SibWout.τ Cert.SibWout.sig) → Buf (Elt Bits) ℓ) : Prop :=
  True

def Pre_SibWoutIdeal (m : (ℓ : Loc Cert.SibWoutIdeal.nD Cert.SibWoutIdeal.τ Cert.SibWoutIdeal.sig) → Buf (Elt Ideal) ℓ) : Prop :=
  True

def Pre_SibWoutRefIdeal (m : (ℓ : Loc Cert.SibWoutRefIdeal.nD Cert.SibWoutRefIdeal.τ Cert.SibWoutRefIdeal.sig) → Buf (Elt Ideal) ℓ) : Prop :=
  True

def Pre_SibPack (m : (ℓ : Loc Cert.SibPack.nD Cert.SibPack.τ Cert.SibPack.sig) → Buf (Elt Bits) ℓ) : Prop :=
  True

def Pre_SibPackIdeal (m : (ℓ : Loc Cert.SibPackIdeal.nD Cert.SibPackIdeal.τ Cert.SibPackIdeal.sig) → Buf (Elt Ideal) ℓ) : Prop :=
  True

def Pre_SibPackRefIdeal (m : (ℓ : Loc Cert.SibPackRefIdeal.nD Cert.SibPackRefIdeal.τ Cert.SibPackRefIdeal.sig) → Buf (Elt Ideal) ℓ) : Prop :=
  True

def Pre_SibPackFirst (m : (ℓ : Loc Cert.SibPackFirst.nD Cert.SibPackFirst.τ Cert.SibPackFirst.sig) → Buf (Elt Bits) ℓ) : Prop :=
  True

def Pre_SibPackFirstIdeal (m : (ℓ : Loc Cert.SibPackFirstIdeal.nD Cert.SibPackFirstIdeal.τ Cert.SibPackFirstIdeal.sig) → Buf (Elt Ideal) ℓ) : Prop :=
  True

def Pre_SibPackFirstRefIdeal (m : (ℓ : Loc Cert.SibPackFirstRefIdeal.nD Cert.SibPackFirstRefIdeal.τ Cert.SibPackFirstRefIdeal.sig) → Buf (Elt Ideal) ℓ) : Prop :=
  True

def Pre_SumPackFirst (m : (ℓ : Loc Cert.SumPackFirst.nD Cert.SumPackFirst.τ Cert.SumPackFirst.sig) → Buf (Elt Bits) ℓ) : Prop :=
  True

def Pre_SumPackFirstIdeal (m : (ℓ : Loc Cert.SumPackFirstIdeal.nD Cert.SumPackFirstIdeal.τ Cert.SumPackFirstIdeal.sig) → Buf (Elt Ideal) ℓ) : Prop :=
  True

def Pre_SumPackFirstRefIdeal (m : (ℓ : Loc Cert.SumPackFirstRefIdeal.nD Cert.SumPackFirstRefIdeal.τ Cert.SumPackFirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3))
      ∧ r.2.sem = fun _ => 0)

def quiescent_AdamWout [hAdamWout : Cert.AdamWout.Facts] : Prop :=
  ∀ (m : (ℓ : Loc Cert.AdamWout.nD Cert.AdamWout.τ Cert.AdamWout.sig) → Buf (Elt Bits) ℓ) (g : Dev Cert.AdamWout.nD → PrngReg), Pre_AdamWout m →
    θ_run (Cert.AdamWout.defs (F := Bits)) (onTc (τ := Cert.AdamWout.τ) (Cert.AdamWout.main (F := Bits))) ⟨m, fun _ => 0, g⟩ (fun r => (∀ c : Dev Cert.AdamWout.nD,
      r.2.mem ((c.tc : Thread Cert.AdamWout.nD Cert.AdamWout.τ).loc Cert.AdamWout.main_arg0) = m ((c.tc : Thread Cert.AdamWout.nD Cert.AdamWout.τ).loc Cert.AdamWout.main_arg0)
      ∧ r.2.mem ((c.tc : Thread Cert.AdamWout.nD Cert.AdamWout.τ).loc Cert.AdamWout.main_arg1) = m ((c.tc : Thread Cert.AdamWout.nD Cert.AdamWout.τ).loc Cert.AdamWout.main_arg1)
      ∧ r.2.mem ((c.tc : Thread Cert.AdamWout.nD Cert.AdamWout.τ).loc Cert.AdamWout.main_arg2) = m ((c.tc : Thread Cert.AdamWout.nD Cert.AdamWout.τ).loc Cert.AdamWout.main_arg2)
      ∧ r.2.mem ((c.tc : Thread Cert.AdamWout.nD Cert.AdamWout.τ).loc Cert.AdamWout.main_arg3) = m ((c.tc : Thread Cert.AdamWout.nD Cert.AdamWout.τ).loc Cert.AdamWout.main_arg3))
      ∧ r.2.sem = fun _ => 0)

def quiescent_AdamWoutIdeal [hAdamWoutIdeal : Cert.AdamWoutIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg), Pre_AdamWoutIdeal m →
    θ_run (Cert.AdamWoutIdeal.defs (F := Ideal)) (onTc (τ := Cert.AdamWoutIdeal.τ) (Cert.AdamWoutIdeal.main (F := Ideal))) ⟨m, fun _ => 0, g⟩ (fun r => (∀ c : Dev Cert.AdamWoutIdeal.nD,
      r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
      ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
      ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
      ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3))
      ∧ r.2.sem = fun _ => 0)

def quiescent_AdamWoutRefIdeal [hAdamWoutRefIdeal : Cert.AdamWoutRefIdeal.Facts] : Prop :=
  ∀ (m : (ℓ : Loc Cert.AdamWoutRefIdeal.nD Cert.AdamWoutRefIdeal.τ Cert.AdamWoutRefIdeal.sig) → Buf (Elt Ideal) ℓ) (g : Dev Cert.AdamWoutRefIdeal.nD → PrngReg), Pre_AdamWoutRefIdeal m →
    θ_run (Cert.AdamWoutRefIdeal.defs (F := Ideal)) (onTc (τ := Cert.AdamWoutRefIdeal.τ) (Cert.AdamWoutRefIdeal.main (F := Ideal))) ⟨m, fun _ => 0, g⟩ (fun r => (∀ c : Dev Cert.AdamWoutRefIdeal.nD,
      r.2.mem ((c.tc : Thread Cert.AdamWoutRefIdeal.nD Cert.AdamWoutRefIdeal.τ).loc Cert.AdamWoutRefIdeal.main_arg0) = m ((c.tc : Thread Cert.AdamWoutRefIdeal.nD Cert.AdamWoutRefIdeal.τ).loc Cert.AdamWoutRefIdeal.main_arg0)
      ∧ r.2.mem ((c.tc : Thread Cert.AdamWoutRefIdeal.nD Cert.AdamWoutRefIdeal.τ).loc Cert.AdamWoutRefIdeal.main_arg1) = m ((c.tc : Thread Cert.AdamWoutRefIdeal.nD Cert.AdamWoutRefIdeal.τ).loc Cert.AdamWoutRefIdeal.main_arg1)
      ∧ r.2.mem ((c.tc : Thread Cert.AdamWoutRefIdeal.nD Cert.AdamWoutRefIdeal.τ).loc Cert.AdamWoutRefIdeal.main_arg2) = m ((c.tc : Thread Cert.AdamWoutRefIdeal.nD Cert.AdamWoutRefIdeal.τ).loc Cert.AdamWoutRefIdeal.main_arg2)
      ∧ r.2.mem ((c.tc : Thread Cert.AdamWoutRefIdeal.nD Cert.AdamWoutRefIdeal.τ).loc Cert.AdamWoutRefIdeal.main_arg3) = m ((c.tc : Thread Cert.AdamWoutRefIdeal.nD Cert.AdamWoutRefIdeal.τ).loc Cert.AdamWoutRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumWin [hSumWin : Cert.SumWin.Facts] : Prop :=
  ∀ (m : (ℓ : Loc Cert.SumWin.nD Cert.SumWin.τ Cert.SumWin.sig) → Buf (Elt Bits) ℓ) (g : Dev Cert.SumWin.nD → PrngReg), Pre_SumWin m →
    θ_run (Cert.SumWin.defs (F := Bits)) (onTc (τ := Cert.SumWin.τ) (Cert.SumWin.main (F := Bits))) ⟨m, fun _ => 0, g⟩ (fun r => (∀ c : Dev Cert.SumWin.nD,
      r.2.mem ((c.tc : Thread Cert.SumWin.nD Cert.SumWin.τ).loc Cert.SumWin.main_arg0) = m ((c.tc : Thread Cert.SumWin.nD Cert.SumWin.τ).loc Cert.SumWin.main_arg0)
      ∧ r.2.mem ((c.tc : Thread Cert.SumWin.nD Cert.SumWin.τ).loc Cert.SumWin.main_arg1) = m ((c.tc : Thread Cert.SumWin.nD Cert.SumWin.τ).loc Cert.SumWin.main_arg1)
      ∧ r.2.mem ((c.tc : Thread Cert.SumWin.nD Cert.SumWin.τ).loc Cert.SumWin.main_arg2) = m ((c.tc : Thread Cert.SumWin.nD Cert.SumWin.τ).loc Cert.SumWin.main_arg2))
      ∧ r.2.sem = fun _ => 0)

def quiescent_SumWinIdeal [hSumWinIdeal : Cert.SumWinIdeal.Facts] : Prop :=
  ∀ (m : (ℓ : Loc Cert.SumWinIdeal.nD Cert.SumWinIdeal.τ Cert.SumWinIdeal.sig) → Buf (Elt Ideal) ℓ) (g : Dev Cert.SumWinIdeal.nD → PrngReg), Pre_SumWinIdeal m →
    θ_run (Cert.SumWinIdeal.defs (F := Ideal)) (onTc (τ := Cert.SumWinIdeal.τ) (Cert.SumWinIdeal.main (F := Ideal))) ⟨m, fun _ => 0, g⟩ (fun r => (∀ c : Dev Cert.SumWinIdeal.nD,
      r.2.mem ((c.tc : Thread Cert.SumWinIdeal.nD Cert.SumWinIdeal.τ).loc Cert.SumWinIdeal.main_arg0) = m ((c.tc : Thread Cert.SumWinIdeal.nD Cert.SumWinIdeal.τ).loc Cert.SumWinIdeal.main_arg0)
      ∧ r.2.mem ((c.tc : Thread Cert.SumWinIdeal.nD Cert.SumWinIdeal.τ).loc Cert.SumWinIdeal.main_arg1) = m ((c.tc : Thread Cert.SumWinIdeal.nD Cert.SumWinIdeal.τ).loc Cert.SumWinIdeal.main_arg1)
      ∧ r.2.mem ((c.tc : Thread Cert.SumWinIdeal.nD Cert.SumWinIdeal.τ).loc Cert.SumWinIdeal.main_arg2) = m ((c.tc : Thread Cert.SumWinIdeal.nD Cert.SumWinIdeal.τ).loc Cert.SumWinIdeal.main_arg2))
      ∧ r.2.sem = fun _ => 0)

def quiescent_SumWinRefIdeal [hSumWinRefIdeal : Cert.SumWinRefIdeal.Facts] : Prop :=
  ∀ (m : (ℓ : Loc Cert.SumWinRefIdeal.nD Cert.SumWinRefIdeal.τ Cert.SumWinRefIdeal.sig) → Buf (Elt Ideal) ℓ) (g : Dev Cert.SumWinRefIdeal.nD → PrngReg), Pre_SumWinRefIdeal m →
    θ_run (Cert.SumWinRefIdeal.defs (F := Ideal)) (onTc (τ := Cert.SumWinRefIdeal.τ) (Cert.SumWinRefIdeal.main (F := Ideal))) ⟨m, fun _ => 0, g⟩ (fun r => (∀ c : Dev Cert.SumWinRefIdeal.nD,
      r.2.mem ((c.tc : Thread Cert.SumWinRefIdeal.nD Cert.SumWinRefIdeal.τ).loc Cert.SumWinRefIdeal.main_arg0) = m ((c.tc : Thread Cert.SumWinRefIdeal.nD Cert.SumWinRefIdeal.τ).loc Cert.SumWinRefIdeal.main_arg0)
      ∧ r.2.mem ((c.tc : Thread Cert.SumWinRefIdeal.nD Cert.SumWinRefIdeal.τ).loc Cert.SumWinRefIdeal.main_arg1) = m ((c.tc : Thread Cert.SumWinRefIdeal.nD Cert.SumWinRefIdeal.τ).loc Cert.SumWinRefIdeal.main_arg1)
      ∧ r.2.mem ((c.tc : Thread Cert.SumWinRefIdeal.nD Cert.SumWinRefIdeal.τ).loc Cert.SumWinRefIdeal.main_arg2) = m ((c.tc : Thread Cert.SumWinRefIdeal.nD Cert.SumWinRefIdeal.τ).loc Cert.SumWinRefIdeal.main_arg2))
      ∧ r.2.sem = fun _ => 0)

def quiescent_SumWout [hSumWout : Cert.SumWout.Facts] : Prop :=
  ∀ (m : (ℓ : Loc Cert.SumWout.nD Cert.SumWout.τ Cert.SumWout.sig) → Buf (Elt Bits) ℓ) (g : Dev Cert.SumWout.nD → PrngReg), Pre_SumWout m →
    θ_run (Cert.SumWout.defs (F := Bits)) (onTc (τ := Cert.SumWout.τ) (Cert.SumWout.main (F := Bits))) ⟨m, fun _ => 0, g⟩ (fun r => (∀ c : Dev Cert.SumWout.nD,
      r.2.mem ((c.tc : Thread Cert.SumWout.nD Cert.SumWout.τ).loc Cert.SumWout.main_arg0) = m ((c.tc : Thread Cert.SumWout.nD Cert.SumWout.τ).loc Cert.SumWout.main_arg0)
      ∧ r.2.mem ((c.tc : Thread Cert.SumWout.nD Cert.SumWout.τ).loc Cert.SumWout.main_arg1) = m ((c.tc : Thread Cert.SumWout.nD Cert.SumWout.τ).loc Cert.SumWout.main_arg1))
      ∧ r.2.sem = fun _ => 0)

def quiescent_SumWoutIdeal [hSumWoutIdeal : Cert.SumWoutIdeal.Facts] : Prop :=
  ∀ (m : (ℓ : Loc Cert.SumWoutIdeal.nD Cert.SumWoutIdeal.τ Cert.SumWoutIdeal.sig) → Buf (Elt Ideal) ℓ) (g : Dev Cert.SumWoutIdeal.nD → PrngReg), Pre_SumWoutIdeal m →
    θ_run (Cert.SumWoutIdeal.defs (F := Ideal)) (onTc (τ := Cert.SumWoutIdeal.τ) (Cert.SumWoutIdeal.main (F := Ideal))) ⟨m, fun _ => 0, g⟩ (fun r => (∀ c : Dev Cert.SumWoutIdeal.nD,
      r.2.mem ((c.tc : Thread Cert.SumWoutIdeal.nD Cert.SumWoutIdeal.τ).loc Cert.SumWoutIdeal.main_arg0) = m ((c.tc : Thread Cert.SumWoutIdeal.nD Cert.SumWoutIdeal.τ).loc Cert.SumWoutIdeal.main_arg0)
      ∧ r.2.mem ((c.tc : Thread Cert.SumWoutIdeal.nD Cert.SumWoutIdeal.τ).loc Cert.SumWoutIdeal.main_arg1) = m ((c.tc : Thread Cert.SumWoutIdeal.nD Cert.SumWoutIdeal.τ).loc Cert.SumWoutIdeal.main_arg1))
      ∧ r.2.sem = fun _ => 0)

def quiescent_SumWoutRefIdeal [hSumWoutRefIdeal : Cert.SumWoutRefIdeal.Facts] : Prop :=
  ∀ (m : (ℓ : Loc Cert.SumWoutRefIdeal.nD Cert.SumWoutRefIdeal.τ Cert.SumWoutRefIdeal.sig) → Buf (Elt Ideal) ℓ) (g : Dev Cert.SumWoutRefIdeal.nD → PrngReg), Pre_SumWoutRefIdeal m →
    θ_run (Cert.SumWoutRefIdeal.defs (F := Ideal)) (onTc (τ := Cert.SumWoutRefIdeal.τ) (Cert.SumWoutRefIdeal.main (F := Ideal))) ⟨m, fun _ => 0, g⟩ (fun r => (∀ c : Dev Cert.SumWoutRefIdeal.nD,
      r.2.mem ((c.tc : Thread Cert.SumWoutRefIdeal.nD Cert.SumWoutRefIdeal.τ).loc Cert.SumWoutRefIdeal.main_arg0) = m ((c.tc : Thread Cert.SumWoutRefIdeal.nD Cert.SumWoutRefIdeal.τ).loc Cert.SumWoutRefIdeal.main_arg0)
      ∧ r.2.mem ((c.tc : Thread Cert.SumWoutRefIdeal.nD Cert.SumWoutRefIdeal.τ).loc Cert.SumWoutRefIdeal.main_arg1) = m ((c.tc : Thread Cert.SumWoutRefIdeal.nD Cert.SumWoutRefIdeal.τ).loc Cert.SumWoutRefIdeal.main_arg1))
      ∧ r.2.sem = fun _ => 0)

def quiescent_SumPack [hSumPack : Cert.SumPack.Facts] : Prop :=
  ∀ (m : (ℓ : Loc Cert.SumPack.nD Cert.SumPack.τ Cert.SumPack.sig) → Buf (Elt Bits) ℓ) (g : Dev Cert.SumPack.nD → PrngReg), Pre_SumPack m →
    θ_run (Cert.SumPack.defs (F := Bits)) (onTc (τ := Cert.SumPack.τ) (Cert.SumPack.main (F := Bits))) ⟨m, fun _ => 0, g⟩ (fun r => (∀ c : Dev Cert.SumPack.nD,
      r.2.mem ((c.tc : Thread Cert.SumPack.nD Cert.SumPack.τ).loc Cert.SumPack.main_arg0) = m ((c.tc : Thread Cert.SumPack.nD Cert.SumPack.τ).loc Cert.SumPack.main_arg0)
      ∧ r.2.mem ((c.tc : Thread Cert.SumPack.nD Cert.SumPack.τ).loc Cert.SumPack.main_arg1) = m ((c.tc : Thread Cert.SumPack.nD Cert.SumPack.τ).loc Cert.SumPack.main_arg1))
      ∧ r.2.sem = fun _ => 0)

def quiescent_SumPackIdeal [hSumPackIdeal : Cert.SumPackIdeal.Facts] : Prop :=
  ∀ (m : (ℓ : Loc Cert.SumPackIdeal.nD Cert.SumPackIdeal.τ Cert.SumPackIdeal.sig) → Buf (Elt Ideal) ℓ) (g : Dev Cert.SumPackIdeal.nD → PrngReg), Pre_SumPackIdeal m →
    θ_run (Cert.SumPackIdeal.defs (F := Ideal)) (onTc (τ := Cert.SumPackIdeal.τ) (Cert.SumPackIdeal.main (F := Ideal))) ⟨m, fun _ => 0, g⟩ (fun r => (∀ c : Dev Cert.SumPackIdeal.nD,
      r.2.mem ((c.tc : Thread Cert.SumPackIdeal.nD Cert.SumPackIdeal.τ).loc Cert.SumPackIdeal.main_arg0) = m ((c.tc : Thread Cert.SumPackIdeal.nD Cert.SumPackIdeal.τ).loc Cert.SumPackIdeal.main_arg0)
      ∧ r.2.mem ((c.tc : Thread Cert.SumPackIdeal.nD Cert.SumPackIdeal.τ).loc Cert.SumPackIdeal.main_arg1) = m ((c.tc : Thread Cert.SumPackIdeal.nD Cert.SumPackIdeal.τ).loc Cert.SumPackIdeal.main_arg1))
      ∧ r.2.sem = fun _ => 0)

def quiescent_SumPackRefIdeal [hSumPackRefIdeal : Cert.SumPackRefIdeal.Facts] : Prop :=
  ∀ (m : (ℓ : Loc Cert.SumPackRefIdeal.nD Cert.SumPackRefIdeal.τ Cert.SumPackRefIdeal.sig) → Buf (Elt Ideal) ℓ) (g : Dev Cert.SumPackRefIdeal.nD → PrngReg), Pre_SumPackRefIdeal m →
    θ_run (Cert.SumPackRefIdeal.defs (F := Ideal)) (onTc (τ := Cert.SumPackRefIdeal.τ) (Cert.SumPackRefIdeal.main (F := Ideal))) ⟨m, fun _ => 0, g⟩ (fun r => (∀ c : Dev Cert.SumPackRefIdeal.nD,
      r.2.mem ((c.tc : Thread Cert.SumPackRefIdeal.nD Cert.SumPackRefIdeal.τ).loc Cert.SumPackRefIdeal.main_arg0) = m ((c.tc : Thread Cert.SumPackRefIdeal.nD Cert.SumPackRefIdeal.τ).loc Cert.SumPackRefIdeal.main_arg0)
      ∧ r.2.mem ((c.tc : Thread Cert.SumPackRefIdeal.nD Cert.SumPackRefIdeal.τ).loc Cert.SumPackRefIdeal.main_arg1) = m ((c.tc : Thread Cert.SumPackRefIdeal.nD Cert.SumPackRefIdeal.τ).loc Cert.SumPackRefIdeal.main_arg1))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_SibWin [hSibWin : Cert.SibWin.Facts] : Prop :=
  ∀ (m : (ℓ : Loc Cert.SibWin.nD Cert.SibWin.τ Cert.SibWin.sig) → Buf (Elt Bits) ℓ) (g : Dev Cert.SibWin.nD → PrngReg), Pre_SibWin m →
    θ_run (Cert.SibWin.defs (F := Bits)) (onTc (τ := Cert.SibWin.τ) (Cert.SibWin.main (F := Bits))) ⟨m, fun _ => 0, g⟩ (fun r => (∀ c : Dev Cert.SibWin.nD,
      r.2.mem ((c.tc : Thread Cert.SibWin.nD Cert.SibWin.τ).loc Cert.SibWin.main_arg0) = m ((c.tc : Thread Cert.SibWin.nD Cert.SibWin.τ).loc Cert.SibWin.main_arg0)
      ∧ r.2.mem ((c.tc : Thread Cert.SibWin.nD Cert.SibWin.τ).loc Cert.SibWin.main_arg1) = m ((c.tc : Thread Cert.SibWin.nD Cert.SibWin.τ).loc Cert.SibWin.main_arg1))
      ∧ r.2.sem = fun _ => 0)

def quiescent_SibWinIdeal [hSibWinIdeal : Cert.SibWinIdeal.Facts] : Prop :=
  ∀ (m : (ℓ : Loc Cert.SibWinIdeal.nD Cert.SibWinIdeal.τ Cert.SibWinIdeal.sig) → Buf (Elt Ideal) ℓ) (g : Dev Cert.SibWinIdeal.nD → PrngReg), Pre_SibWinIdeal m →
    θ_run (Cert.SibWinIdeal.defs (F := Ideal)) (onTc (τ := Cert.SibWinIdeal.τ) (Cert.SibWinIdeal.main (F := Ideal))) ⟨m, fun _ => 0, g⟩ (fun r => (∀ c : Dev Cert.SibWinIdeal.nD,
      r.2.mem ((c.tc : Thread Cert.SibWinIdeal.nD Cert.SibWinIdeal.τ).loc Cert.SibWinIdeal.main_arg0) = m ((c.tc : Thread Cert.SibWinIdeal.nD Cert.SibWinIdeal.τ).loc Cert.SibWinIdeal.main_arg0)
      ∧ r.2.mem ((c.tc : Thread Cert.SibWinIdeal.nD Cert.SibWinIdeal.τ).loc Cert.SibWinIdeal.main_arg1) = m ((c.tc : Thread Cert.SibWinIdeal.nD Cert.SibWinIdeal.τ).loc Cert.SibWinIdeal.main_arg1))
      ∧ r.2.sem = fun _ => 0)

def quiescent_SibWinRefIdeal [hSibWinRefIdeal : Cert.SibWinRefIdeal.Facts] : Prop :=
  ∀ (m : (ℓ : Loc Cert.SibWinRefIdeal.nD Cert.SibWinRefIdeal.τ Cert.SibWinRefIdeal.sig) → Buf (Elt Ideal) ℓ) (g : Dev Cert.SibWinRefIdeal.nD → PrngReg), Pre_SibWinRefIdeal m →
    θ_run (Cert.SibWinRefIdeal.defs (F := Ideal)) (onTc (τ := Cert.SibWinRefIdeal.τ) (Cert.SibWinRefIdeal.main (F := Ideal))) ⟨m, fun _ => 0, g⟩ (fun r => (∀ c : Dev Cert.SibWinRefIdeal.nD,
      r.2.mem ((c.tc : Thread Cert.SibWinRefIdeal.nD Cert.SibWinRefIdeal.τ).loc Cert.SibWinRefIdeal.main_arg0) = m ((c.tc : Thread Cert.SibWinRefIdeal.nD Cert.SibWinRefIdeal.τ).loc Cert.SibWinRefIdeal.main_arg0)
      ∧ r.2.mem ((c.tc : Thread Cert.SibWinRefIdeal.nD Cert.SibWinRefIdeal.τ).loc Cert.SibWinRefIdeal.main_arg1) = m ((c.tc : Thread Cert.SibWinRefIdeal.nD Cert.SibWinRefIdeal.τ).loc Cert.SibWinRefIdeal.main_arg1))
      ∧ r.2.sem = fun _ => 0)

def quiescent_SibWout [hSibWout : Cert.SibWout.Facts] : Prop :=
  ∀ (m : (ℓ : Loc Cert.SibWout.nD Cert.SibWout.τ Cert.SibWout.sig) → Buf (Elt Bits) ℓ) (g : Dev Cert.SibWout.nD → PrngReg), Pre_SibWout m →
    θ_run (Cert.SibWout.defs (F := Bits)) (onTc (τ := Cert.SibWout.τ) (Cert.SibWout.main (F := Bits))) ⟨m, fun _ => 0, g⟩ (fun r => (∀ c : Dev Cert.SibWout.nD,
      r.2.mem ((c.tc : Thread Cert.SibWout.nD Cert.SibWout.τ).loc Cert.SibWout.main_arg0) = m ((c.tc : Thread Cert.SibWout.nD Cert.SibWout.τ).loc Cert.SibWout.main_arg0)
      ∧ r.2.mem ((c.tc : Thread Cert.SibWout.nD Cert.SibWout.τ).loc Cert.SibWout.main_arg1) = m ((c.tc : Thread Cert.SibWout.nD Cert.SibWout.τ).loc Cert.SibWout.main_arg1))
      ∧ r.2.sem = fun _ => 0)

def quiescent_SibWoutIdeal [hSibWoutIdeal : Cert.SibWoutIdeal.Facts] : Prop :=
  ∀ (m : (ℓ : Loc Cert.SibWoutIdeal.nD Cert.SibWoutIdeal.τ Cert.SibWoutIdeal.sig) → Buf (Elt Ideal) ℓ) (g : Dev Cert.SibWoutIdeal.nD → PrngReg), Pre_SibWoutIdeal m →
    θ_run (Cert.SibWoutIdeal.defs (F := Ideal)) (onTc (τ := Cert.SibWoutIdeal.τ) (Cert.SibWoutIdeal.main (F := Ideal))) ⟨m, fun _ => 0, g⟩ (fun r => (∀ c : Dev Cert.SibWoutIdeal.nD,
      r.2.mem ((c.tc : Thread Cert.SibWoutIdeal.nD Cert.SibWoutIdeal.τ).loc Cert.SibWoutIdeal.main_arg0) = m ((c.tc : Thread Cert.SibWoutIdeal.nD Cert.SibWoutIdeal.τ).loc Cert.SibWoutIdeal.main_arg0)
      ∧ r.2.mem ((c.tc : Thread Cert.SibWoutIdeal.nD Cert.SibWoutIdeal.τ).loc Cert.SibWoutIdeal.main_arg1) = m ((c.tc : Thread Cert.SibWoutIdeal.nD Cert.SibWoutIdeal.τ).loc Cert.SibWoutIdeal.main_arg1))
      ∧ r.2.sem = fun _ => 0)

def quiescent_SibWoutRefIdeal [hSibWoutRefIdeal : Cert.SibWoutRefIdeal.Facts] : Prop :=
  ∀ (m : (ℓ : Loc Cert.SibWoutRefIdeal.nD Cert.SibWoutRefIdeal.τ Cert.SibWoutRefIdeal.sig) → Buf (Elt Ideal) ℓ) (g : Dev Cert.SibWoutRefIdeal.nD → PrngReg), Pre_SibWoutRefIdeal m →
    θ_run (Cert.SibWoutRefIdeal.defs (F := Ideal)) (onTc (τ := Cert.SibWoutRefIdeal.τ) (Cert.SibWoutRefIdeal.main (F := Ideal))) ⟨m, fun _ => 0, g⟩ (fun r => (∀ c : Dev Cert.SibWoutRefIdeal.nD,
      r.2.mem ((c.tc : Thread Cert.SibWoutRefIdeal.nD Cert.SibWoutRefIdeal.τ).loc Cert.SibWoutRefIdeal.main_arg0) = m ((c.tc : Thread Cert.SibWoutRefIdeal.nD Cert.SibWoutRefIdeal.τ).loc Cert.SibWoutRefIdeal.main_arg0)
      ∧ r.2.mem ((c.tc : Thread Cert.SibWoutRefIdeal.nD Cert.SibWoutRefIdeal.τ).loc Cert.SibWoutRefIdeal.main_arg1) = m ((c.tc : Thread Cert.SibWoutRefIdeal.nD Cert.SibWoutRefIdeal.τ).loc Cert.SibWoutRefIdeal.main_arg1))
      ∧ r.2.sem = fun _ => 0)

def quiescent_SibPack [hSibPack : Cert.SibPack.Facts] : Prop :=
  ∀ (m : (ℓ : Loc Cert.SibPack.nD Cert.SibPack.τ Cert.SibPack.sig) → Buf (Elt Bits) ℓ) (g : Dev Cert.SibPack.nD → PrngReg), Pre_SibPack m →
    θ_run (Cert.SibPack.defs (F := Bits)) (onTc (τ := Cert.SibPack.τ) (Cert.SibPack.main (F := Bits))) ⟨m, fun _ => 0, g⟩ (fun r => (∀ c : Dev Cert.SibPack.nD,
      r.2.mem ((c.tc : Thread Cert.SibPack.nD Cert.SibPack.τ).loc Cert.SibPack.main_arg0) = m ((c.tc : Thread Cert.SibPack.nD Cert.SibPack.τ).loc Cert.SibPack.main_arg0)
      ∧ r.2.mem ((c.tc : Thread Cert.SibPack.nD Cert.SibPack.τ).loc Cert.SibPack.main_arg1) = m ((c.tc : Thread Cert.SibPack.nD Cert.SibPack.τ).loc Cert.SibPack.main_arg1))
      ∧ r.2.sem = fun _ => 0)

def quiescent_SibPackIdeal [hSibPackIdeal : Cert.SibPackIdeal.Facts] : Prop :=
  ∀ (m : (ℓ : Loc Cert.SibPackIdeal.nD Cert.SibPackIdeal.τ Cert.SibPackIdeal.sig) → Buf (Elt Ideal) ℓ) (g : Dev Cert.SibPackIdeal.nD → PrngReg), Pre_SibPackIdeal m →
    θ_run (Cert.SibPackIdeal.defs (F := Ideal)) (onTc (τ := Cert.SibPackIdeal.τ) (Cert.SibPackIdeal.main (F := Ideal))) ⟨m, fun _ => 0, g⟩ (fun r => (∀ c : Dev Cert.SibPackIdeal.nD,
      r.2.mem ((c.tc : Thread Cert.SibPackIdeal.nD Cert.SibPackIdeal.τ).loc Cert.SibPackIdeal.main_arg0) = m ((c.tc : Thread Cert.SibPackIdeal.nD Cert.SibPackIdeal.τ).loc Cert.SibPackIdeal.main_arg0)
      ∧ r.2.mem ((c.tc : Thread Cert.SibPackIdeal.nD Cert.SibPackIdeal.τ).loc Cert.SibPackIdeal.main_arg1) = m ((c.tc : Thread Cert.SibPackIdeal.nD Cert.SibPackIdeal.τ).loc Cert.SibPackIdeal.main_arg1))
      ∧ r.2.sem = fun _ => 0)

def quiescent_SibPackRefIdeal [hSibPackRefIdeal : Cert.SibPackRefIdeal.Facts] : Prop :=
  ∀ (m : (ℓ : Loc Cert.SibPackRefIdeal.nD Cert.SibPackRefIdeal.τ Cert.SibPackRefIdeal.sig) → Buf (Elt Ideal) ℓ) (g : Dev Cert.SibPackRefIdeal.nD → PrngReg), Pre_SibPackRefIdeal m →
    θ_run (Cert.SibPackRefIdeal.defs (F := Ideal)) (onTc (τ := Cert.SibPackRefIdeal.τ) (Cert.SibPackRefIdeal.main (F := Ideal))) ⟨m, fun _ => 0, g⟩ (fun r => (∀ c : Dev Cert.SibPackRefIdeal.nD,
      r.2.mem ((c.tc : Thread Cert.SibPackRefIdeal.nD Cert.SibPackRefIdeal.τ).loc Cert.SibPackRefIdeal.main_arg0) = m ((c.tc : Thread Cert.SibPackRefIdeal.nD Cert.SibPackRefIdeal.τ).loc Cert.SibPackRefIdeal.main_arg0)
      ∧ r.2.mem ((c.tc : Thread Cert.SibPackRefIdeal.nD Cert.SibPackRefIdeal.τ).loc Cert.SibPackRefIdeal.main_arg1) = m ((c.tc : Thread Cert.SibPackRefIdeal.nD Cert.SibPackRefIdeal.τ).loc Cert.SibPackRefIdeal.main_arg1))
      ∧ r.2.sem = fun _ => 0)

def quiescent_SibPackFirst [hSibPackFirst : Cert.SibPackFirst.Facts] : Prop :=
  ∀ (m : (ℓ : Loc Cert.SibPackFirst.nD Cert.SibPackFirst.τ Cert.SibPackFirst.sig) → Buf (Elt Bits) ℓ) (g : Dev Cert.SibPackFirst.nD → PrngReg), Pre_SibPackFirst m →
    θ_run (Cert.SibPackFirst.defs (F := Bits)) (onTc (τ := Cert.SibPackFirst.τ) (Cert.SibPackFirst.main (F := Bits))) ⟨m, fun _ => 0, g⟩ (fun r => (∀ c : Dev Cert.SibPackFirst.nD,
      r.2.mem ((c.tc : Thread Cert.SibPackFirst.nD Cert.SibPackFirst.τ).loc Cert.SibPackFirst.main_arg0) = m ((c.tc : Thread Cert.SibPackFirst.nD Cert.SibPackFirst.τ).loc Cert.SibPackFirst.main_arg0)
      ∧ r.2.mem ((c.tc : Thread Cert.SibPackFirst.nD Cert.SibPackFirst.τ).loc Cert.SibPackFirst.main_arg1) = m ((c.tc : Thread Cert.SibPackFirst.nD Cert.SibPackFirst.τ).loc Cert.SibPackFirst.main_arg1))
      ∧ r.2.sem = fun _ => 0)

def quiescent_SibPackFirstIdeal [hSibPackFirstIdeal : Cert.SibPackFirstIdeal.Facts] : Prop :=
  ∀ (m : (ℓ : Loc Cert.SibPackFirstIdeal.nD Cert.SibPackFirstIdeal.τ Cert.SibPackFirstIdeal.sig) → Buf (Elt Ideal) ℓ) (g : Dev Cert.SibPackFirstIdeal.nD → PrngReg), Pre_SibPackFirstIdeal m →
    θ_run (Cert.SibPackFirstIdeal.defs (F := Ideal)) (onTc (τ := Cert.SibPackFirstIdeal.τ) (Cert.SibPackFirstIdeal.main (F := Ideal))) ⟨m, fun _ => 0, g⟩ (fun r => (∀ c : Dev Cert.SibPackFirstIdeal.nD,
      r.2.mem ((c.tc : Thread Cert.SibPackFirstIdeal.nD Cert.SibPackFirstIdeal.τ).loc Cert.SibPackFirstIdeal.main_arg0) = m ((c.tc : Thread Cert.SibPackFirstIdeal.nD Cert.SibPackFirstIdeal.τ).loc Cert.SibPackFirstIdeal.main_arg0)
      ∧ r.2.mem ((c.tc : Thread Cert.SibPackFirstIdeal.nD Cert.SibPackFirstIdeal.τ).loc Cert.SibPackFirstIdeal.main_arg1) = m ((c.tc : Thread Cert.SibPackFirstIdeal.nD Cert.SibPackFirstIdeal.τ).loc Cert.SibPackFirstIdeal.main_arg1))
      ∧ r.2.sem = fun _ => 0)

def quiescent_SibPackFirstRefIdeal [hSibPackFirstRefIdeal : Cert.SibPackFirstRefIdeal.Facts] : Prop :=
  ∀ (m : (ℓ : Loc Cert.SibPackFirstRefIdeal.nD Cert.SibPackFirstRefIdeal.τ Cert.SibPackFirstRefIdeal.sig) → Buf (Elt Ideal) ℓ) (g : Dev Cert.SibPackFirstRefIdeal.nD → PrngReg), Pre_SibPackFirstRefIdeal m →
    θ_run (Cert.SibPackFirstRefIdeal.defs (F := Ideal)) (onTc (τ := Cert.SibPackFirstRefIdeal.τ) (Cert.SibPackFirstRefIdeal.main (F := Ideal))) ⟨m, fun _ => 0, g⟩ (fun r => (∀ c : Dev Cert.SibPackFirstRefIdeal.nD,
      r.2.mem ((c.tc : Thread Cert.SibPackFirstRefIdeal.nD Cert.SibPackFirstRefIdeal.τ).loc Cert.SibPackFirstRefIdeal.main_arg0) = m ((c.tc : Thread Cert.SibPackFirstRefIdeal.nD Cert.SibPackFirstRefIdeal.τ).loc Cert.SibPackFirstRefIdeal.main_arg0)
      ∧ r.2.mem ((c.tc : Thread Cert.SibPackFirstRefIdeal.nD Cert.SibPackFirstRefIdeal.τ).loc Cert.SibPackFirstRefIdeal.main_arg1) = m ((c.tc : Thread Cert.SibPackFirstRefIdeal.nD Cert.SibPackFirstRefIdeal.τ).loc Cert.SibPackFirstRefIdeal.main_arg1))
      ∧ r.2.sem = fun _ => 0)

def quiescent_SumPackFirst [hSumPackFirst : Cert.SumPackFirst.Facts] : Prop :=
  ∀ (m : (ℓ : Loc Cert.SumPackFirst.nD Cert.SumPackFirst.τ Cert.SumPackFirst.sig) → Buf (Elt Bits) ℓ) (g : Dev Cert.SumPackFirst.nD → PrngReg), Pre_SumPackFirst m →
    θ_run (Cert.SumPackFirst.defs (F := Bits)) (onTc (τ := Cert.SumPackFirst.τ) (Cert.SumPackFirst.main (F := Bits))) ⟨m, fun _ => 0, g⟩ (fun r => (∀ c : Dev Cert.SumPackFirst.nD,
      r.2.mem ((c.tc : Thread Cert.SumPackFirst.nD Cert.SumPackFirst.τ).loc Cert.SumPackFirst.main_arg0) = m ((c.tc : Thread Cert.SumPackFirst.nD Cert.SumPackFirst.τ).loc Cert.SumPackFirst.main_arg0)
      ∧ r.2.mem ((c.tc : Thread Cert.SumPackFirst.nD Cert.SumPackFirst.τ).loc Cert.SumPackFirst.main_arg1) = m ((c.tc : Thread Cert.SumPackFirst.nD Cert.SumPackFirst.τ).loc Cert.SumPackFirst.main_arg1))
      ∧ r.2.sem = fun _ => 0)

def quiescent_SumPackFirstIdeal [hSumPackFirstIdeal : Cert.SumPackFirstIdeal.Facts] : Prop :=
  ∀ (m : (ℓ : Loc Cert.SumPackFirstIdeal.nD Cert.SumPackFirstIdeal.τ Cert.SumPackFirstIdeal.sig) → Buf (Elt Ideal) ℓ) (g : Dev Cert.SumPackFirstIdeal.nD → PrngReg), Pre_SumPackFirstIdeal m →
    θ_run (Cert.SumPackFirstIdeal.defs (F := Ideal)) (onTc (τ := Cert.SumPackFirstIdeal.τ) (Cert.SumPackFirstIdeal.main (F := Ideal))) ⟨m, fun _ => 0, g⟩ (fun r => (∀ c : Dev Cert.SumPackFirstIdeal.nD,
      r.2.mem ((c.tc : Thread Cert.SumPackFirstIdeal.nD Cert.SumPackFirstIdeal.τ).loc Cert.SumPackFirstIdeal.main_arg0) = m ((c.tc : Thread Cert.SumPackFirstIdeal.nD Cert.SumPackFirstIdeal.τ).loc Cert.SumPackFirstIdeal.main_arg0)
      ∧ r.2.mem ((c.tc : Thread Cert.SumPackFirstIdeal.nD Cert.SumPackFirstIdeal.τ).loc Cert.SumPackFirstIdeal.main_arg1) = m ((c.tc : Thread Cert.SumPackFirstIdeal.nD Cert.SumPackFirstIdeal.τ).loc Cert.SumPackFirstIdeal.main_arg1))
      ∧ r.2.sem = fun _ => 0)

def quiescent_SumPackFirstRefIdeal [hSumPackFirstRefIdeal : Cert.SumPackFirstRefIdeal.Facts] : Prop :=
  ∀ (m : (ℓ : Loc Cert.SumPackFirstRefIdeal.nD Cert.SumPackFirstRefIdeal.τ Cert.SumPackFirstRefIdeal.sig) → Buf (Elt Ideal) ℓ) (g : Dev Cert.SumPackFirstRefIdeal.nD → PrngReg), Pre_SumPackFirstRefIdeal m →
    θ_run (Cert.SumPackFirstRefIdeal.defs (F := Ideal)) (onTc (τ := Cert.SumPackFirstRefIdeal.τ) (Cert.SumPackFirstRefIdeal.main (F := Ideal))) ⟨m, fun _ => 0, g⟩ (fun r => (∀ c : Dev Cert.SumPackFirstRefIdeal.nD,
      r.2.mem ((c.tc : Thread Cert.SumPackFirstRefIdeal.nD Cert.SumPackFirstRefIdeal.τ).loc Cert.SumPackFirstRefIdeal.main_arg0) = m ((c.tc : Thread Cert.SumPackFirstRefIdeal.nD Cert.SumPackFirstRefIdeal.τ).loc Cert.SumPackFirstRefIdeal.main_arg0)
      ∧ r.2.mem ((c.tc : Thread Cert.SumPackFirstRefIdeal.nD Cert.SumPackFirstRefIdeal.τ).loc Cert.SumPackFirstRefIdeal.main_arg1) = m ((c.tc : Thread Cert.SumPackFirstRefIdeal.nD Cert.SumPackFirstRefIdeal.τ).loc Cert.SumPackFirstRefIdeal.main_arg1))
      ∧ r.2.sem = fun _ => 0)

def preserves_Kernel_KernelIdeal : Prop :=
  True

def algebraic_KernelIdeal_ReferenceIdeal_on_rows_claimed [hKernelIdeal : Cert.KernelIdeal.Facts] [hReferenceIdeal : Cert.ReferenceIdeal.Facts] [hOn_rows_claimed : Cert.On_rows_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 8, 128]⟩ : Shape).Idx, (Cert.On_rows_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.KernelIdeal.nD Cert.KernelIdeal.τ).loc Cert.KernelIdeal.main_v16_6) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 8, 128]⟩ : Shape).Idx, (Cert.On_rows_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.ReferenceIdeal.nD Cert.ReferenceIdeal.τ).loc Cert.ReferenceIdeal.main_v84) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v4) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v7) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v10) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v61) = v0 c
          ∧ r.2.mem ((c.tc : Thread Cert.LnBwdRefIdeal.nD Cert.LnBwdRefIdeal.τ).loc Cert.LnBwdRefIdeal.main_v62) = v1 c
          ∧ r.2.mem ((c.tc : Thread Cert.LnBwdRefIdeal.nD Cert.LnBwdRefIdeal.τ).loc Cert.LnBwdRefIdeal.main_v35) = v2 c
          ∧ r.2.mem ((c.tc : Thread Cert.LnBwdRefIdeal.nD Cert.LnBwdRefIdeal.τ).loc Cert.LnBwdRefIdeal.main_v32) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_LnLoss_LnLossIdeal : Prop :=
  True

def algebraic_LnLossIdeal_LnLossRefIdeal [hLnLossIdeal : Cert.LnLossIdeal.Facts] [hLnLossRefIdeal : Cert.LnLossRefIdeal.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)
      ∧ m' ((c.tc : Thread Cert.LnLossRefIdeal.nD Cert.LnLossRefIdeal.τ).loc Cert.LnLossRefIdeal.main_arg4) = m ((c.tc : Thread Cert.LnLossIdeal.nD Cert.LnLossIdeal.τ).loc Cert.LnLossIdeal.main_arg4)) →
    ∃ (v0 : (c : Dev Cert.LnLossIdeal.nD) → Buf (Elt Ideal) ((c.tc : Thread Cert.LnLossIdeal.nD Cert.LnLossIdeal.τ).loc Cert.LnLossIdeal.main_v0_0)) (v1 : (c : Dev Cert.LnLossIdeal.nD) → Buf (Elt Ideal) ((c.tc : Thread Cert.LnLossIdeal.nD Cert.LnLossIdeal.τ).loc Cert.LnLossIdeal.main_v0_1)) (v2 : (c : Dev Cert.LnLossIdeal.nD) → Buf (Elt Ideal) ((c.tc : Thread Cert.LnLossIdeal.nD Cert.LnLossIdeal.τ).loc Cert.LnLossIdeal.main_v0_2)) (v3 : (c : Dev Cert.LnLossIdeal.nD) → Buf (Elt Ideal) ((c.tc : Thread Cert.LnLossIdeal.nD Cert.LnLossIdeal.τ).loc Cert.LnLossIdeal.main_v0_3)) (v4 : (c : Dev Cert.LnLossIdeal.nD) → Buf (Elt Ideal) ((c.tc : Thread Cert.LnLossIdeal.nD Cert.LnLossIdeal.τ).loc Cert.LnLossIdeal.main_v0_4)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v0_0) = v0 c
          ∧ r.2.mem ((c.tc : Thread Cert.LnLossIdeal.nD Cert.LnLossIdeal.τ).loc Cert.LnLossIdeal.main_v0_1) = v1 c
          ∧ r.2.mem ((c.tc : Thread Cert.LnLossIdeal.nD Cert.LnLossIdeal.τ).loc Cert.LnLossIdeal.main_v0_2) = v2 c
          ∧ r.2.mem ((c.tc : Thread Cert.LnLossIdeal.nD Cert.LnLossIdeal.τ).loc Cert.LnLossIdeal.main_v0_3) = v3 c
          ∧ r.2.mem ((c.tc : Thread Cert.LnLossIdeal.nD Cert.LnLossIdeal.τ).loc Cert.LnLossIdeal.main_v0_4) = v4 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v75) = v0 c
          ∧ r.2.mem ((c.tc : Thread Cert.LnLossRefIdeal.nD Cert.LnLossRefIdeal.τ).loc Cert.LnLossRefIdeal.main_v76) = v1 c
          ∧ r.2.mem ((c.tc : Thread Cert.LnLossRefIdeal.nD Cert.LnLossRefIdeal.τ).loc Cert.LnLossRefIdeal.main_v49) = v2 c
          ∧ r.2.mem ((c.tc : Thread Cert.LnLossRefIdeal.nD Cert.LnLossRefIdeal.τ).loc Cert.LnLossRefIdeal.main_v46) = v3 c
          ∧ r.2.mem ((c.tc : Thread Cert.LnLossRefIdeal.nD Cert.LnLossRefIdeal.τ).loc Cert.LnLossRefIdeal.main_v77) = v4 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3)
          ∧ r.2.mem ((c.tc : Thread Cert.LnLossRefIdeal.nD Cert.LnLossRefIdeal.τ).loc Cert.LnLossRefIdeal.main_arg4) = m' ((c.tc : Thread Cert.LnLossRefIdeal.nD Cert.LnLossRefIdeal.τ).loc Cert.LnLossRefIdeal.main_arg4))

def preserves_AdamWin_AdamWinIdeal : Prop :=
  True

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)) →
    ∃ (v0 : (c : Dev Cert.AdamWinIdeal.nD) → Buf (Elt Ideal) ((c.tc : Thread Cert.AdamWinIdeal.nD Cert.AdamWinIdeal.τ).loc Cert.AdamWinIdeal.main_v0_0)) (v1 : (c : Dev Cert.AdamWinIdeal.nD) → Buf (Elt Ideal) ((c.tc : Thread Cert.AdamWinIdeal.nD Cert.AdamWinIdeal.τ).loc Cert.AdamWinIdeal.main_v0_1)) (v2 : (c : Dev Cert.AdamWinIdeal.nD) → Buf (Elt Ideal) ((c.tc : Thread Cert.AdamWinIdeal.nD Cert.AdamWinIdeal.τ).loc Cert.AdamWinIdeal.main_v0_2)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v0_0) = v0 c
          ∧ r.2.mem ((c.tc : Thread Cert.AdamWinIdeal.nD Cert.AdamWinIdeal.τ).loc Cert.AdamWinIdeal.main_v0_1) = v1 c
          ∧ r.2.mem ((c.tc : Thread Cert.AdamWinIdeal.nD Cert.AdamWinIdeal.τ).loc Cert.AdamWinIdeal.main_v0_2) = v2 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_v23) = v0 c
          ∧ r.2.mem ((c.tc : Thread Cert.AdamWinRefIdeal.nD Cert.AdamWinRefIdeal.τ).loc Cert.AdamWinRefIdeal.main_v4) = v1 c
          ∧ r.2.mem ((c.tc : Thread Cert.AdamWinRefIdeal.nD Cert.AdamWinRefIdeal.τ).loc Cert.AdamWinRefIdeal.main_v10) = v2 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3))

def preserves_AdamWout_AdamWoutIdeal : Prop :=
  True

def algebraic_AdamWoutIdeal_AdamWoutRefIdeal [hAdamWoutIdeal : Cert.AdamWoutIdeal.Facts] [hAdamWoutRefIdeal : Cert.AdamWoutRefIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg)
    (m' : (ℓ : Loc Cert.AdamWoutRefIdeal.nD Cert.AdamWoutRefIdeal.τ Cert.AdamWoutRefIdeal.sig) → Buf (Elt Ideal) ℓ) (g' : Dev Cert.AdamWoutRefIdeal.nD → PrngReg), Pre_AdamWoutIdeal m →
    (∀ c : Dev Cert.AdamWoutIdeal.nD,
      m' ((c.tc : Thread Cert.AdamWoutRefIdeal.nD Cert.AdamWoutRefIdeal.τ).loc Cert.AdamWoutRefIdeal.main_arg0) = m ((c.tc : Thread Cert.AdamWoutIdeal.nD Cert.AdamWoutIdeal.τ).loc Cert.AdamWoutIdeal.main_arg0)
      ∧ m' ((c.tc : Thread Cert.AdamWoutRefIdeal.nD Cert.AdamWoutRefIdeal.τ).loc Cert.AdamWoutRefIdeal.main_arg1) = m ((c.tc : Thread Cert.AdamWoutIdeal.nD Cert.AdamWoutIdeal.τ).loc Cert.AdamWoutIdeal.main_arg1)
      ∧ m' ((c.tc : Thread Cert.AdamWoutRefIdeal.nD Cert.AdamWoutRefIdeal.τ).loc Cert.AdamWoutRefIdeal.main_arg2) = m ((c.tc : Thread Cert.AdamWoutIdeal.nD Cert.AdamWoutIdeal.τ).loc Cert.AdamWoutIdeal.main_arg2)
      ∧ m' ((c.tc : Thread Cert.AdamWoutRefIdeal.nD Cert.AdamWoutRefIdeal.τ).loc Cert.AdamWoutRefIdeal.main_arg3) = m ((c.tc : Thread Cert.AdamWoutIdeal.nD Cert.AdamWoutIdeal.τ).loc Cert.AdamWoutIdeal.main_arg3)) →
    ∃ (v0 : (c : Dev Cert.AdamWoutIdeal.nD) → Buf (Elt Ideal) ((c.tc : Thread Cert.AdamWoutIdeal.nD Cert.AdamWoutIdeal.τ).loc Cert.AdamWoutIdeal.main_v0_0)) (v1 : (c : Dev Cert.AdamWoutIdeal.nD) → Buf (Elt Ideal) ((c.tc : Thread Cert.AdamWoutIdeal.nD Cert.AdamWoutIdeal.τ).loc Cert.AdamWoutIdeal.main_v0_1)) (v2 : (c : Dev Cert.AdamWoutIdeal.nD) → Buf (Elt Ideal) ((c.tc : Thread Cert.AdamWoutIdeal.nD Cert.AdamWoutIdeal.τ).loc Cert.AdamWoutIdeal.main_v0_2)),
      θ_run (Cert.AdamWoutIdeal.defs (F := Ideal)) (onTc (τ := Cert.AdamWoutIdeal.τ) (Cert.AdamWoutIdeal.main (F := Ideal))) ⟨m, fun _ => 0, g⟩ (fun r => ∀ c : Dev Cert.AdamWoutIdeal.nD,
          r.2.mem ((c.tc : Thread Cert.AdamWoutIdeal.nD Cert.AdamWoutIdeal.τ).loc Cert.AdamWoutIdeal.main_v0_0) = v0 c
          ∧ r.2.mem ((c.tc : Thread Cert.AdamWoutIdeal.nD Cert.AdamWoutIdeal.τ).loc Cert.AdamWoutIdeal.main_v0_1) = v1 c
          ∧ r.2.mem ((c.tc : Thread Cert.AdamWoutIdeal.nD Cert.AdamWoutIdeal.τ).loc Cert.AdamWoutIdeal.main_v0_2) = v2 c
          ∧ r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
          ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
          ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
          ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3))
      ∧ θ_run (Cert.AdamWoutRefIdeal.defs (F := Ideal)) (onTc (τ := Cert.AdamWoutRefIdeal.τ) (Cert.AdamWoutRefIdeal.main (F := Ideal))) ⟨m', fun _ => 0, g'⟩ (fun r => ∀ c : Dev Cert.AdamWoutRefIdeal.nD,
          r.2.mem ((c.tc : Thread Cert.AdamWoutRefIdeal.nD Cert.AdamWoutRefIdeal.τ).loc Cert.AdamWoutRefIdeal.main_v23) = v0 c
          ∧ r.2.mem ((c.tc : Thread Cert.AdamWoutRefIdeal.nD Cert.AdamWoutRefIdeal.τ).loc Cert.AdamWoutRefIdeal.main_v4) = v1 c
          ∧ r.2.mem ((c.tc : Thread Cert.AdamWoutRefIdeal.nD Cert.AdamWoutRefIdeal.τ).loc Cert.AdamWoutRefIdeal.main_v10) = v2 c
          ∧ r.2.mem ((c.tc : Thread Cert.AdamWoutRefIdeal.nD Cert.AdamWoutRefIdeal.τ).loc Cert.AdamWoutRefIdeal.main_arg0) = m' ((c.tc : Thread Cert.AdamWoutRefIdeal.nD Cert.AdamWoutRefIdeal.τ).loc Cert.AdamWoutRefIdeal.main_arg0)
          ∧ r.2.mem ((c.tc : Thread Cert.AdamWoutRefIdeal.nD Cert.AdamWoutRefIdeal.τ).loc Cert.AdamWoutRefIdeal.main_arg1) = m' ((c.tc : Thread Cert.AdamWoutRefIdeal.nD Cert.AdamWoutRefIdeal.τ).loc Cert.AdamWoutRefIdeal.main_arg1)
          ∧ r.2.mem ((c.tc : Thread Cert.AdamWoutRefIdeal.nD Cert.AdamWoutRefIdeal.τ).loc Cert.AdamWoutRefIdeal.main_arg2) = m' ((c.tc : Thread Cert.AdamWoutRefIdeal.nD Cert.AdamWoutRefIdeal.τ).loc Cert.AdamWoutRefIdeal.main_arg2)
          ∧ r.2.mem ((c.tc : Thread Cert.AdamWoutRefIdeal.nD Cert.AdamWoutRefIdeal.τ).loc Cert.AdamWoutRefIdeal.main_arg3) = m' ((c.tc : Thread Cert.AdamWoutRefIdeal.nD Cert.AdamWoutRefIdeal.τ).loc Cert.AdamWoutRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumWin_SumWinIdeal : Prop :=
  True

def algebraic_SumWinIdeal_SumWinRefIdeal [hSumWinIdeal : Cert.SumWinIdeal.Facts] [hSumWinRefIdeal : Cert.SumWinRefIdeal.Facts] : Prop :=
  ∀ (m : (ℓ : Loc Cert.SumWinIdeal.nD Cert.SumWinIdeal.τ Cert.SumWinIdeal.sig) → Buf (Elt Ideal) ℓ) (g : Dev Cert.SumWinIdeal.nD → PrngReg)
    (m' : (ℓ : Loc Cert.SumWinRefIdeal.nD Cert.SumWinRefIdeal.τ Cert.SumWinRefIdeal.sig) → Buf (Elt Ideal) ℓ) (g' : Dev Cert.SumWinRefIdeal.nD → PrngReg), Pre_SumWinIdeal m →
    (∀ c : Dev Cert.SumWinIdeal.nD,
      m' ((c.tc : Thread Cert.SumWinRefIdeal.nD Cert.SumWinRefIdeal.τ).loc Cert.SumWinRefIdeal.main_arg0) = m ((c.tc : Thread Cert.SumWinIdeal.nD Cert.SumWinIdeal.τ).loc Cert.SumWinIdeal.main_arg0)
      ∧ m' ((c.tc : Thread Cert.SumWinRefIdeal.nD Cert.SumWinRefIdeal.τ).loc Cert.SumWinRefIdeal.main_arg1) = m ((c.tc : Thread Cert.SumWinIdeal.nD Cert.SumWinIdeal.τ).loc Cert.SumWinIdeal.main_arg1)
      ∧ m' ((c.tc : Thread Cert.SumWinRefIdeal.nD Cert.SumWinRefIdeal.τ).loc Cert.SumWinRefIdeal.main_arg2) = m ((c.tc : Thread Cert.SumWinIdeal.nD Cert.SumWinIdeal.τ).loc Cert.SumWinIdeal.main_arg2)) →
    ∃ (v0 : (c : Dev Cert.SumWinIdeal.nD) → Buf (Elt Ideal) ((c.tc : Thread Cert.SumWinIdeal.nD Cert.SumWinIdeal.τ).loc Cert.SumWinIdeal.main_v1)),
      θ_run (Cert.SumWinIdeal.defs (F := Ideal)) (onTc (τ := Cert.SumWinIdeal.τ) (Cert.SumWinIdeal.main (F := Ideal))) ⟨m, fun _ => 0, g⟩ (fun r => ∀ c : Dev Cert.SumWinIdeal.nD,
          r.2.mem ((c.tc : Thread Cert.SumWinIdeal.nD Cert.SumWinIdeal.τ).loc Cert.SumWinIdeal.main_v1) = v0 c
          ∧ r.2.mem ((c.tc : Thread Cert.SumWinIdeal.nD Cert.SumWinIdeal.τ).loc Cert.SumWinIdeal.main_arg0) = m ((c.tc : Thread Cert.SumWinIdeal.nD Cert.SumWinIdeal.τ).loc Cert.SumWinIdeal.main_arg0)
          ∧ r.2.mem ((c.tc : Thread Cert.SumWinIdeal.nD Cert.SumWinIdeal.τ).loc Cert.SumWinIdeal.main_arg1) = m ((c.tc : Thread Cert.SumWinIdeal.nD Cert.SumWinIdeal.τ).loc Cert.SumWinIdeal.main_arg1)
          ∧ r.2.mem ((c.tc : Thread Cert.SumWinIdeal.nD Cert.SumWinIdeal.τ).loc Cert.SumWinIdeal.main_arg2) = m ((c.tc : Thread Cert.SumWinIdeal.nD Cert.SumWinIdeal.τ).loc Cert.SumWinIdeal.main_arg2))
      ∧ θ_run (Cert.SumWinRefIdeal.defs (F := Ideal)) (onTc (τ := Cert.SumWinRefIdeal.τ) (Cert.SumWinRefIdeal.main (F := Ideal))) ⟨m', fun _ => 0, g'⟩ (fun r => ∀ c : Dev Cert.SumWinRefIdeal.nD,
          r.2.mem ((c.tc : Thread Cert.SumWinRefIdeal.nD Cert.SumWinRefIdeal.τ).loc Cert.SumWinRefIdeal.main_v9) = v0 c
          ∧ r.2.mem ((c.tc : Thread Cert.SumWinRefIdeal.nD Cert.SumWinRefIdeal.τ).loc Cert.SumWinRefIdeal.main_arg0) = m' ((c.tc : Thread Cert.SumWinRefIdeal.nD Cert.SumWinRefIdeal.τ).loc Cert.SumWinRefIdeal.main_arg0)
          ∧ r.2.mem ((c.tc : Thread Cert.SumWinRefIdeal.nD Cert.SumWinRefIdeal.τ).loc Cert.SumWinRefIdeal.main_arg1) = m' ((c.tc : Thread Cert.SumWinRefIdeal.nD Cert.SumWinRefIdeal.τ).loc Cert.SumWinRefIdeal.main_arg1)
          ∧ r.2.mem ((c.tc : Thread Cert.SumWinRefIdeal.nD Cert.SumWinRefIdeal.τ).loc Cert.SumWinRefIdeal.main_arg2) = m' ((c.tc : Thread Cert.SumWinRefIdeal.nD Cert.SumWinRefIdeal.τ).loc Cert.SumWinRefIdeal.main_arg2))

def preserves_SumWout_SumWoutIdeal : Prop :=
  True

def algebraic_SumWoutIdeal_SumWoutRefIdeal [hSumWoutIdeal : Cert.SumWoutIdeal.Facts] [hSumWoutRefIdeal : Cert.SumWoutRefIdeal.Facts] : Prop :=
  ∀ (m : (ℓ : Loc Cert.SumWoutIdeal.nD Cert.SumWoutIdeal.τ Cert.SumWoutIdeal.sig) → Buf (Elt Ideal) ℓ) (g : Dev Cert.SumWoutIdeal.nD → PrngReg)
    (m' : (ℓ : Loc Cert.SumWoutRefIdeal.nD Cert.SumWoutRefIdeal.τ Cert.SumWoutRefIdeal.sig) → Buf (Elt Ideal) ℓ) (g' : Dev Cert.SumWoutRefIdeal.nD → PrngReg), Pre_SumWoutIdeal m →
    (∀ c : Dev Cert.SumWoutIdeal.nD,
      m' ((c.tc : Thread Cert.SumWoutRefIdeal.nD Cert.SumWoutRefIdeal.τ).loc Cert.SumWoutRefIdeal.main_arg0) = m ((c.tc : Thread Cert.SumWoutIdeal.nD Cert.SumWoutIdeal.τ).loc Cert.SumWoutIdeal.main_arg0)
      ∧ m' ((c.tc : Thread Cert.SumWoutRefIdeal.nD Cert.SumWoutRefIdeal.τ).loc Cert.SumWoutRefIdeal.main_arg1) = m ((c.tc : Thread Cert.SumWoutIdeal.nD Cert.SumWoutIdeal.τ).loc Cert.SumWoutIdeal.main_arg1)) →
    ∃ (v0 : (c : Dev Cert.SumWoutIdeal.nD) → Buf (Elt Ideal) ((c.tc : Thread Cert.SumWoutIdeal.nD Cert.SumWoutIdeal.τ).loc Cert.SumWoutIdeal.main_v1)),
      θ_run (Cert.SumWoutIdeal.defs (F := Ideal)) (onTc (τ := Cert.SumWoutIdeal.τ) (Cert.SumWoutIdeal.main (F := Ideal))) ⟨m, fun _ => 0, g⟩ (fun r => ∀ c : Dev Cert.SumWoutIdeal.nD,
          r.2.mem ((c.tc : Thread Cert.SumWoutIdeal.nD Cert.SumWoutIdeal.τ).loc Cert.SumWoutIdeal.main_v1) = v0 c
          ∧ r.2.mem ((c.tc : Thread Cert.SumWoutIdeal.nD Cert.SumWoutIdeal.τ).loc Cert.SumWoutIdeal.main_arg0) = m ((c.tc : Thread Cert.SumWoutIdeal.nD Cert.SumWoutIdeal.τ).loc Cert.SumWoutIdeal.main_arg0)
          ∧ r.2.mem ((c.tc : Thread Cert.SumWoutIdeal.nD Cert.SumWoutIdeal.τ).loc Cert.SumWoutIdeal.main_arg1) = m ((c.tc : Thread Cert.SumWoutIdeal.nD Cert.SumWoutIdeal.τ).loc Cert.SumWoutIdeal.main_arg1))
      ∧ θ_run (Cert.SumWoutRefIdeal.defs (F := Ideal)) (onTc (τ := Cert.SumWoutRefIdeal.τ) (Cert.SumWoutRefIdeal.main (F := Ideal))) ⟨m', fun _ => 0, g'⟩ (fun r => ∀ c : Dev Cert.SumWoutRefIdeal.nD,
          r.2.mem ((c.tc : Thread Cert.SumWoutRefIdeal.nD Cert.SumWoutRefIdeal.τ).loc Cert.SumWoutRefIdeal.main_v5) = v0 c
          ∧ r.2.mem ((c.tc : Thread Cert.SumWoutRefIdeal.nD Cert.SumWoutRefIdeal.τ).loc Cert.SumWoutRefIdeal.main_arg0) = m' ((c.tc : Thread Cert.SumWoutRefIdeal.nD Cert.SumWoutRefIdeal.τ).loc Cert.SumWoutRefIdeal.main_arg0)
          ∧ r.2.mem ((c.tc : Thread Cert.SumWoutRefIdeal.nD Cert.SumWoutRefIdeal.τ).loc Cert.SumWoutRefIdeal.main_arg1) = m' ((c.tc : Thread Cert.SumWoutRefIdeal.nD Cert.SumWoutRefIdeal.τ).loc Cert.SumWoutRefIdeal.main_arg1))

def preserves_SumPack_SumPackIdeal : Prop :=
  True

def algebraic_SumPackIdeal_SumPackRefIdeal [hSumPackIdeal : Cert.SumPackIdeal.Facts] [hSumPackRefIdeal : Cert.SumPackRefIdeal.Facts] : Prop :=
  ∀ (m : (ℓ : Loc Cert.SumPackIdeal.nD Cert.SumPackIdeal.τ Cert.SumPackIdeal.sig) → Buf (Elt Ideal) ℓ) (g : Dev Cert.SumPackIdeal.nD → PrngReg)
    (m' : (ℓ : Loc Cert.SumPackRefIdeal.nD Cert.SumPackRefIdeal.τ Cert.SumPackRefIdeal.sig) → Buf (Elt Ideal) ℓ) (g' : Dev Cert.SumPackRefIdeal.nD → PrngReg), Pre_SumPackIdeal m →
    (∀ c : Dev Cert.SumPackIdeal.nD,
      m' ((c.tc : Thread Cert.SumPackRefIdeal.nD Cert.SumPackRefIdeal.τ).loc Cert.SumPackRefIdeal.main_arg0) = m ((c.tc : Thread Cert.SumPackIdeal.nD Cert.SumPackIdeal.τ).loc Cert.SumPackIdeal.main_arg0)
      ∧ m' ((c.tc : Thread Cert.SumPackRefIdeal.nD Cert.SumPackRefIdeal.τ).loc Cert.SumPackRefIdeal.main_arg1) = m ((c.tc : Thread Cert.SumPackIdeal.nD Cert.SumPackIdeal.τ).loc Cert.SumPackIdeal.main_arg1)) →
    ∃ (v0 : (c : Dev Cert.SumPackIdeal.nD) → Buf (Elt Ideal) ((c.tc : Thread Cert.SumPackIdeal.nD Cert.SumPackIdeal.τ).loc Cert.SumPackIdeal.main_v1)),
      θ_run (Cert.SumPackIdeal.defs (F := Ideal)) (onTc (τ := Cert.SumPackIdeal.τ) (Cert.SumPackIdeal.main (F := Ideal))) ⟨m, fun _ => 0, g⟩ (fun r => ∀ c : Dev Cert.SumPackIdeal.nD,
          r.2.mem ((c.tc : Thread Cert.SumPackIdeal.nD Cert.SumPackIdeal.τ).loc Cert.SumPackIdeal.main_v1) = v0 c
          ∧ r.2.mem ((c.tc : Thread Cert.SumPackIdeal.nD Cert.SumPackIdeal.τ).loc Cert.SumPackIdeal.main_arg0) = m ((c.tc : Thread Cert.SumPackIdeal.nD Cert.SumPackIdeal.τ).loc Cert.SumPackIdeal.main_arg0)
          ∧ r.2.mem ((c.tc : Thread Cert.SumPackIdeal.nD Cert.SumPackIdeal.τ).loc Cert.SumPackIdeal.main_arg1) = m ((c.tc : Thread Cert.SumPackIdeal.nD Cert.SumPackIdeal.τ).loc Cert.SumPackIdeal.main_arg1))
      ∧ θ_run (Cert.SumPackRefIdeal.defs (F := Ideal)) (onTc (τ := Cert.SumPackRefIdeal.τ) (Cert.SumPackRefIdeal.main (F := Ideal))) ⟨m', fun _ => 0, g'⟩ (fun r => ∀ c : Dev Cert.SumPackRefIdeal.nD,
          r.2.mem ((c.tc : Thread Cert.SumPackRefIdeal.nD Cert.SumPackRefIdeal.τ).loc Cert.SumPackRefIdeal.main_v5) = v0 c
          ∧ r.2.mem ((c.tc : Thread Cert.SumPackRefIdeal.nD Cert.SumPackRefIdeal.τ).loc Cert.SumPackRefIdeal.main_arg0) = m' ((c.tc : Thread Cert.SumPackRefIdeal.nD Cert.SumPackRefIdeal.τ).loc Cert.SumPackRefIdeal.main_arg0)
          ∧ r.2.mem ((c.tc : Thread Cert.SumPackRefIdeal.nD Cert.SumPackRefIdeal.τ).loc Cert.SumPackRefIdeal.main_arg1) = m' ((c.tc : Thread Cert.SumPackRefIdeal.nD Cert.SumPackRefIdeal.τ).loc Cert.SumPackRefIdeal.main_arg1))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v24) = v0 c
          ∧ r.2.mem ((c.tc : Thread Cert.LnFwdRefIdeal.nD Cert.LnFwdRefIdeal.τ).loc Cert.LnFwdRefIdeal.main_v25) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_SibWin_SibWinIdeal : Prop :=
  True

def algebraic_SibWinIdeal_SibWinRefIdeal [hSibWinIdeal : Cert.SibWinIdeal.Facts] [hSibWinRefIdeal : Cert.SibWinRefIdeal.Facts] : Prop :=
  ∀ (m : (ℓ : Loc Cert.SibWinIdeal.nD Cert.SibWinIdeal.τ Cert.SibWinIdeal.sig) → Buf (Elt Ideal) ℓ) (g : Dev Cert.SibWinIdeal.nD → PrngReg)
    (m' : (ℓ : Loc Cert.SibWinRefIdeal.nD Cert.SibWinRefIdeal.τ Cert.SibWinRefIdeal.sig) → Buf (Elt Ideal) ℓ) (g' : Dev Cert.SibWinRefIdeal.nD → PrngReg), Pre_SibWinIdeal m →
    (∀ c : Dev Cert.SibWinIdeal.nD,
      m' ((c.tc : Thread Cert.SibWinRefIdeal.nD Cert.SibWinRefIdeal.τ).loc Cert.SibWinRefIdeal.main_arg0) = m ((c.tc : Thread Cert.SibWinIdeal.nD Cert.SibWinIdeal.τ).loc Cert.SibWinIdeal.main_arg0)
      ∧ m' ((c.tc : Thread Cert.SibWinRefIdeal.nD Cert.SibWinRefIdeal.τ).loc Cert.SibWinRefIdeal.main_arg1) = m ((c.tc : Thread Cert.SibWinIdeal.nD Cert.SibWinIdeal.τ).loc Cert.SibWinIdeal.main_arg1)) →
    ∃ (v0 : (c : Dev Cert.SibWinIdeal.nD) → Buf (Elt Ideal) ((c.tc : Thread Cert.SibWinIdeal.nD Cert.SibWinIdeal.τ).loc Cert.SibWinIdeal.main_v3)),
      θ_run (Cert.SibWinIdeal.defs (F := Ideal)) (onTc (τ := Cert.SibWinIdeal.τ) (Cert.SibWinIdeal.main (F := Ideal))) ⟨m, fun _ => 0, g⟩ (fun r => ∀ c : Dev Cert.SibWinIdeal.nD,
          r.2.mem ((c.tc : Thread Cert.SibWinIdeal.nD Cert.SibWinIdeal.τ).loc Cert.SibWinIdeal.main_v3) = v0 c
          ∧ r.2.mem ((c.tc : Thread Cert.SibWinIdeal.nD Cert.SibWinIdeal.τ).loc Cert.SibWinIdeal.main_arg0) = m ((c.tc : Thread Cert.SibWinIdeal.nD Cert.SibWinIdeal.τ).loc Cert.SibWinIdeal.main_arg0)
          ∧ r.2.mem ((c.tc : Thread Cert.SibWinIdeal.nD Cert.SibWinIdeal.τ).loc Cert.SibWinIdeal.main_arg1) = m ((c.tc : Thread Cert.SibWinIdeal.nD Cert.SibWinIdeal.τ).loc Cert.SibWinIdeal.main_arg1))
      ∧ θ_run (Cert.SibWinRefIdeal.defs (F := Ideal)) (onTc (τ := Cert.SibWinRefIdeal.τ) (Cert.SibWinRefIdeal.main (F := Ideal))) ⟨m', fun _ => 0, g'⟩ (fun r => ∀ c : Dev Cert.SibWinRefIdeal.nD,
          r.2.mem ((c.tc : Thread Cert.SibWinRefIdeal.nD Cert.SibWinRefIdeal.τ).loc Cert.SibWinRefIdeal.main_v7) = v0 c
          ∧ r.2.mem ((c.tc : Thread Cert.SibWinRefIdeal.nD Cert.SibWinRefIdeal.τ).loc Cert.SibWinRefIdeal.main_arg0) = m' ((c.tc : Thread Cert.SibWinRefIdeal.nD Cert.SibWinRefIdeal.τ).loc Cert.SibWinRefIdeal.main_arg0)
          ∧ r.2.mem ((c.tc : Thread Cert.SibWinRefIdeal.nD Cert.SibWinRefIdeal.τ).loc Cert.SibWinRefIdeal.main_arg1) = m' ((c.tc : Thread Cert.SibWinRefIdeal.nD Cert.SibWinRefIdeal.τ).loc Cert.SibWinRefIdeal.main_arg1))

def preserves_SibWout_SibWoutIdeal : Prop :=
  True

def algebraic_SibWoutIdeal_SibWoutRefIdeal [hSibWoutIdeal : Cert.SibWoutIdeal.Facts] [hSibWoutRefIdeal : Cert.SibWoutRefIdeal.Facts] : Prop :=
  ∀ (m : (ℓ : Loc Cert.SibWoutIdeal.nD Cert.SibWoutIdeal.τ Cert.SibWoutIdeal.sig) → Buf (Elt Ideal) ℓ) (g : Dev Cert.SibWoutIdeal.nD → PrngReg)
    (m' : (ℓ : Loc Cert.SibWoutRefIdeal.nD Cert.SibWoutRefIdeal.τ Cert.SibWoutRefIdeal.sig) → Buf (Elt Ideal) ℓ) (g' : Dev Cert.SibWoutRefIdeal.nD → PrngReg), Pre_SibWoutIdeal m →
    (∀ c : Dev Cert.SibWoutIdeal.nD,
      m' ((c.tc : Thread Cert.SibWoutRefIdeal.nD Cert.SibWoutRefIdeal.τ).loc Cert.SibWoutRefIdeal.main_arg0) = m ((c.tc : Thread Cert.SibWoutIdeal.nD Cert.SibWoutIdeal.τ).loc Cert.SibWoutIdeal.main_arg0)
      ∧ m' ((c.tc : Thread Cert.SibWoutRefIdeal.nD Cert.SibWoutRefIdeal.τ).loc Cert.SibWoutRefIdeal.main_arg1) = m ((c.tc : Thread Cert.SibWoutIdeal.nD Cert.SibWoutIdeal.τ).loc Cert.SibWoutIdeal.main_arg1)) →
    ∃ (v0 : (c : Dev Cert.SibWoutIdeal.nD) → Buf (Elt Ideal) ((c.tc : Thread Cert.SibWoutIdeal.nD Cert.SibWoutIdeal.τ).loc Cert.SibWoutIdeal.main_v3)),
      θ_run (Cert.SibWoutIdeal.defs (F := Ideal)) (onTc (τ := Cert.SibWoutIdeal.τ) (Cert.SibWoutIdeal.main (F := Ideal))) ⟨m, fun _ => 0, g⟩ (fun r => ∀ c : Dev Cert.SibWoutIdeal.nD,
          r.2.mem ((c.tc : Thread Cert.SibWoutIdeal.nD Cert.SibWoutIdeal.τ).loc Cert.SibWoutIdeal.main_v3) = v0 c
          ∧ r.2.mem ((c.tc : Thread Cert.SibWoutIdeal.nD Cert.SibWoutIdeal.τ).loc Cert.SibWoutIdeal.main_arg0) = m ((c.tc : Thread Cert.SibWoutIdeal.nD Cert.SibWoutIdeal.τ).loc Cert.SibWoutIdeal.main_arg0)
          ∧ r.2.mem ((c.tc : Thread Cert.SibWoutIdeal.nD Cert.SibWoutIdeal.τ).loc Cert.SibWoutIdeal.main_arg1) = m ((c.tc : Thread Cert.SibWoutIdeal.nD Cert.SibWoutIdeal.τ).loc Cert.SibWoutIdeal.main_arg1))
      ∧ θ_run (Cert.SibWoutRefIdeal.defs (F := Ideal)) (onTc (τ := Cert.SibWoutRefIdeal.τ) (Cert.SibWoutRefIdeal.main (F := Ideal))) ⟨m', fun _ => 0, g'⟩ (fun r => ∀ c : Dev Cert.SibWoutRefIdeal.nD,
          r.2.mem ((c.tc : Thread Cert.SibWoutRefIdeal.nD Cert.SibWoutRefIdeal.τ).loc Cert.SibWoutRefIdeal.main_v7) = v0 c
          ∧ r.2.mem ((c.tc : Thread Cert.SibWoutRefIdeal.nD Cert.SibWoutRefIdeal.τ).loc Cert.SibWoutRefIdeal.main_arg0) = m' ((c.tc : Thread Cert.SibWoutRefIdeal.nD Cert.SibWoutRefIdeal.τ).loc Cert.SibWoutRefIdeal.main_arg0)
          ∧ r.2.mem ((c.tc : Thread Cert.SibWoutRefIdeal.nD Cert.SibWoutRefIdeal.τ).loc Cert.SibWoutRefIdeal.main_arg1) = m' ((c.tc : Thread Cert.SibWoutRefIdeal.nD Cert.SibWoutRefIdeal.τ).loc Cert.SibWoutRefIdeal.main_arg1))

def preserves_SibPack_SibPackIdeal : Prop :=
  True

def algebraic_SibPackIdeal_SibPackRefIdeal [hSibPackIdeal : Cert.SibPackIdeal.Facts] [hSibPackRefIdeal : Cert.SibPackRefIdeal.Facts] : Prop :=
  ∀ (m : (ℓ : Loc Cert.SibPackIdeal.nD Cert.SibPackIdeal.τ Cert.SibPackIdeal.sig) → Buf (Elt Ideal) ℓ) (g : Dev Cert.SibPackIdeal.nD → PrngReg)
    (m' : (ℓ : Loc Cert.SibPackRefIdeal.nD Cert.SibPackRefIdeal.τ Cert.SibPackRefIdeal.sig) → Buf (Elt Ideal) ℓ) (g' : Dev Cert.SibPackRefIdeal.nD → PrngReg), Pre_SibPackIdeal m →
    (∀ c : Dev Cert.SibPackIdeal.nD,
      m' ((c.tc : Thread Cert.SibPackRefIdeal.nD Cert.SibPackRefIdeal.τ).loc Cert.SibPackRefIdeal.main_arg0) = m ((c.tc : Thread Cert.SibPackIdeal.nD Cert.SibPackIdeal.τ).loc Cert.SibPackIdeal.main_arg0)
      ∧ m' ((c.tc : Thread Cert.SibPackRefIdeal.nD Cert.SibPackRefIdeal.τ).loc Cert.SibPackRefIdeal.main_arg1) = m ((c.tc : Thread Cert.SibPackIdeal.nD Cert.SibPackIdeal.τ).loc Cert.SibPackIdeal.main_arg1)) →
    ∃ (v0 : (c : Dev Cert.SibPackIdeal.nD) → Buf (Elt Ideal) ((c.tc : Thread Cert.SibPackIdeal.nD Cert.SibPackIdeal.τ).loc Cert.SibPackIdeal.main_v3)),
      θ_run (Cert.SibPackIdeal.defs (F := Ideal)) (onTc (τ := Cert.SibPackIdeal.τ) (Cert.SibPackIdeal.main (F := Ideal))) ⟨m, fun _ => 0, g⟩ (fun r => ∀ c : Dev Cert.SibPackIdeal.nD,
          r.2.mem ((c.tc : Thread Cert.SibPackIdeal.nD Cert.SibPackIdeal.τ).loc Cert.SibPackIdeal.main_v3) = v0 c
          ∧ r.2.mem ((c.tc : Thread Cert.SibPackIdeal.nD Cert.SibPackIdeal.τ).loc Cert.SibPackIdeal.main_arg0) = m ((c.tc : Thread Cert.SibPackIdeal.nD Cert.SibPackIdeal.τ).loc Cert.SibPackIdeal.main_arg0)
          ∧ r.2.mem ((c.tc : Thread Cert.SibPackIdeal.nD Cert.SibPackIdeal.τ).loc Cert.SibPackIdeal.main_arg1) = m ((c.tc : Thread Cert.SibPackIdeal.nD Cert.SibPackIdeal.τ).loc Cert.SibPackIdeal.main_arg1))
      ∧ θ_run (Cert.SibPackRefIdeal.defs (F := Ideal)) (onTc (τ := Cert.SibPackRefIdeal.τ) (Cert.SibPackRefIdeal.main (F := Ideal))) ⟨m', fun _ => 0, g'⟩ (fun r => ∀ c : Dev Cert.SibPackRefIdeal.nD,
          r.2.mem ((c.tc : Thread Cert.SibPackRefIdeal.nD Cert.SibPackRefIdeal.τ).loc Cert.SibPackRefIdeal.main_v7) = v0 c
          ∧ r.2.mem ((c.tc : Thread Cert.SibPackRefIdeal.nD Cert.SibPackRefIdeal.τ).loc Cert.SibPackRefIdeal.main_arg0) = m' ((c.tc : Thread Cert.SibPackRefIdeal.nD Cert.SibPackRefIdeal.τ).loc Cert.SibPackRefIdeal.main_arg0)
          ∧ r.2.mem ((c.tc : Thread Cert.SibPackRefIdeal.nD Cert.SibPackRefIdeal.τ).loc Cert.SibPackRefIdeal.main_arg1) = m' ((c.tc : Thread Cert.SibPackRefIdeal.nD Cert.SibPackRefIdeal.τ).loc Cert.SibPackRefIdeal.main_arg1))

def preserves_SibPackFirst_SibPackFirstIdeal : Prop :=
  True

def algebraic_SibPackFirstIdeal_SibPackFirstRefIdeal [hSibPackFirstIdeal : Cert.SibPackFirstIdeal.Facts] [hSibPackFirstRefIdeal : Cert.SibPackFirstRefIdeal.Facts] : Prop :=
  ∀ (m : (ℓ : Loc Cert.SibPackFirstIdeal.nD Cert.SibPackFirstIdeal.τ Cert.SibPackFirstIdeal.sig) → Buf (Elt Ideal) ℓ) (g : Dev Cert.SibPackFirstIdeal.nD → PrngReg)
    (m' : (ℓ : Loc Cert.SibPackFirstRefIdeal.nD Cert.SibPackFirstRefIdeal.τ Cert.SibPackFirstRefIdeal.sig) → Buf (Elt Ideal) ℓ) (g' : Dev Cert.SibPackFirstRefIdeal.nD → PrngReg), Pre_SibPackFirstIdeal m →
    (∀ c : Dev Cert.SibPackFirstIdeal.nD,
      m' ((c.tc : Thread Cert.SibPackFirstRefIdeal.nD Cert.SibPackFirstRefIdeal.τ).loc Cert.SibPackFirstRefIdeal.main_arg0) = m ((c.tc : Thread Cert.SibPackFirstIdeal.nD Cert.SibPackFirstIdeal.τ).loc Cert.SibPackFirstIdeal.main_arg0)
      ∧ m' ((c.tc : Thread Cert.SibPackFirstRefIdeal.nD Cert.SibPackFirstRefIdeal.τ).loc Cert.SibPackFirstRefIdeal.main_arg1) = m ((c.tc : Thread Cert.SibPackFirstIdeal.nD Cert.SibPackFirstIdeal.τ).loc Cert.SibPackFirstIdeal.main_arg1)) →
    ∃ (v0 : (c : Dev Cert.SibPackFirstIdeal.nD) → Buf (Elt Ideal) ((c.tc : Thread Cert.SibPackFirstIdeal.nD Cert.SibPackFirstIdeal.τ).loc Cert.SibPackFirstIdeal.main_v3)),
      θ_run (Cert.SibPackFirstIdeal.defs (F := Ideal)) (onTc (τ := Cert.SibPackFirstIdeal.τ) (Cert.SibPackFirstIdeal.main (F := Ideal))) ⟨m, fun _ => 0, g⟩ (fun r => ∀ c : Dev Cert.SibPackFirstIdeal.nD,
          r.2.mem ((c.tc : Thread Cert.SibPackFirstIdeal.nD Cert.SibPackFirstIdeal.τ).loc Cert.SibPackFirstIdeal.main_v3) = v0 c
          ∧ r.2.mem ((c.tc : Thread Cert.SibPackFirstIdeal.nD Cert.SibPackFirstIdeal.τ).loc Cert.SibPackFirstIdeal.main_arg0) = m ((c.tc : Thread Cert.SibPackFirstIdeal.nD Cert.SibPackFirstIdeal.τ).loc Cert.SibPackFirstIdeal.main_arg0)
          ∧ r.2.mem ((c.tc : Thread Cert.SibPackFirstIdeal.nD Cert.SibPackFirstIdeal.τ).loc Cert.SibPackFirstIdeal.main_arg1) = m ((c.tc : Thread Cert.SibPackFirstIdeal.nD Cert.SibPackFirstIdeal.τ).loc Cert.SibPackFirstIdeal.main_arg1))
      ∧ θ_run (Cert.SibPackFirstRefIdeal.defs (F := Ideal)) (onTc (τ := Cert.SibPackFirstRefIdeal.τ) (Cert.SibPackFirstRefIdeal.main (F := Ideal))) ⟨m', fun _ => 0, g'⟩ (fun r => ∀ c : Dev Cert.SibPackFirstRefIdeal.nD,
          r.2.mem ((c.tc : Thread Cert.SibPackFirstRefIdeal.nD Cert.SibPackFirstRefIdeal.τ).loc Cert.SibPackFirstRefIdeal.main_v7) = v0 c
          ∧ r.2.mem ((c.tc : Thread Cert.SibPackFirstRefIdeal.nD Cert.SibPackFirstRefIdeal.τ).loc Cert.SibPackFirstRefIdeal.main_arg0) = m' ((c.tc : Thread Cert.SibPackFirstRefIdeal.nD Cert.SibPackFirstRefIdeal.τ).loc Cert.SibPackFirstRefIdeal.main_arg0)
          ∧ r.2.mem ((c.tc : Thread Cert.SibPackFirstRefIdeal.nD Cert.SibPackFirstRefIdeal.τ).loc Cert.SibPackFirstRefIdeal.main_arg1) = m' ((c.tc : Thread Cert.SibPackFirstRefIdeal.nD Cert.SibPackFirstRefIdeal.τ).loc Cert.SibPackFirstRefIdeal.main_arg1))

def preserves_SumPackFirst_SumPackFirstIdeal : Prop :=
  True

def algebraic_SumPackFirstIdeal_SumPackFirstRefIdeal [hSumPackFirstIdeal : Cert.SumPackFirstIdeal.Facts] [hSumPackFirstRefIdeal : Cert.SumPackFirstRefIdeal.Facts] : Prop :=
  ∀ (m : (ℓ : Loc Cert.SumPackFirstIdeal.nD Cert.SumPackFirstIdeal.τ Cert.SumPackFirstIdeal.sig) → Buf (Elt Ideal) ℓ) (g : Dev Cert.SumPackFirstIdeal.nD → PrngReg)
    (m' : (ℓ : Loc Cert.SumPackFirstRefIdeal.nD Cert.SumPackFirstRefIdeal.τ Cert.SumPackFirstRefIdeal.sig) → Buf (Elt Ideal) ℓ) (g' : Dev Cert.SumPackFirstRefIdeal.nD → PrngReg), Pre_SumPackFirstIdeal m →
    (∀ c : Dev Cert.SumPackFirstIdeal.nD,
      m' ((c.tc : Thread Cert.SumPackFirstRefIdeal.nD Cert.SumPackFirstRefIdeal.τ).loc Cert.SumPackFirstRefIdeal.main_arg0) = m ((c.tc : Thread Cert.SumPackFirstIdeal.nD Cert.SumPackFirstIdeal.τ).loc Cert.SumPackFirstIdeal.main_arg0)
      ∧ m' ((c.tc : Thread Cert.SumPackFirstRefIdeal.nD Cert.SumPackFirstRefIdeal.τ).loc Cert.SumPackFirstRefIdeal.main_arg1) = m ((c.tc : Thread Cert.SumPackFirstIdeal.nD Cert.SumPackFirstIdeal.τ).loc Cert.SumPackFirstIdeal.main_arg1)) →
    ∃ (v0 : (c : Dev Cert.SumPackFirstIdeal.nD) → Buf (Elt Ideal) ((c.tc : Thread Cert.SumPackFirstIdeal.nD Cert.SumPackFirstIdeal.τ).loc Cert.SumPackFirstIdeal.main_v1)),
      θ_run (Cert.SumPackFirstIdeal.defs (F := Ideal)) (onTc (τ := Cert.SumPackFirstIdeal.τ) (Cert.SumPackFirstIdeal.main (F := Ideal))) ⟨m, fun _ => 0, g⟩ (fun r => ∀ c : Dev Cert.SumPackFirstIdeal.nD,
          r.2.mem ((c.tc : Thread Cert.SumPackFirstIdeal.nD Cert.SumPackFirstIdeal.τ).loc Cert.SumPackFirstIdeal.main_v1) = v0 c
          ∧ r.2.mem ((c.tc : Thread Cert.SumPackFirstIdeal.nD Cert.SumPackFirstIdeal.τ).loc Cert.SumPackFirstIdeal.main_arg0) = m ((c.tc : Thread Cert.SumPackFirstIdeal.nD Cert.SumPackFirstIdeal.τ).loc Cert.SumPackFirstIdeal.main_arg0)
          ∧ r.2.mem ((c.tc : Thread Cert.SumPackFirstIdeal.nD Cert.SumPackFirstIdeal.τ).loc Cert.SumPackFirstIdeal.main_arg1) = m ((c.tc : Thread Cert.SumPackFirstIdeal.nD Cert.SumPackFirstIdeal.τ).loc Cert.SumPackFirstIdeal.main_arg1))
      ∧ θ_run (Cert.SumPackFirstRefIdeal.defs (F := Ideal)) (onTc (τ := Cert.SumPackFirstRefIdeal.τ) (Cert.SumPackFirstRefIdeal.main (F := Ideal))) ⟨m', fun _ => 0, g'⟩ (fun r => ∀ c : Dev Cert.SumPackFirstRefIdeal.nD,
          r.2.mem ((c.tc : Thread Cert.SumPackFirstRefIdeal.nD Cert.SumPackFirstRefIdeal.τ).loc Cert.SumPackFirstRefIdeal.main_v5) = v0 c
          ∧ r.2.mem ((c.tc : Thread Cert.SumPackFirstRefIdeal.nD Cert.SumPackFirstRefIdeal.τ).loc Cert.SumPackFirstRefIdeal.main_arg0) = m' ((c.tc : Thread Cert.SumPackFirstRefIdeal.nD Cert.SumPackFirstRefIdeal.τ).loc Cert.SumPackFirstRefIdeal.main_arg0)
          ∧ r.2.mem ((c.tc : Thread Cert.SumPackFirstRefIdeal.nD Cert.SumPackFirstRefIdeal.τ).loc Cert.SumPackFirstRefIdeal.main_arg1) = m' ((c.tc : Thread Cert.SumPackFirstRefIdeal.nD Cert.SumPackFirstRefIdeal.τ).loc Cert.SumPackFirstRefIdeal.main_arg1))

def Claim : Prop :=
  ∃ (hKernel : Cert.Kernel.Facts) (hKernelIdeal : Cert.KernelIdeal.Facts) (hReferenceIdeal : Cert.ReferenceIdeal.Facts) (hDcat : Cert.Dcat.Facts) (hDcatIdeal : Cert.DcatIdeal.Facts) (hDcatRefIdeal : Cert.DcatRefIdeal.Facts) (hDwout : Cert.Dwout.Facts) (hDwoutIdeal : Cert.DwoutIdeal.Facts) (hDwoutRefIdeal : Cert.DwoutRefIdeal.Facts) (hDwin : Cert.Dwin.Facts) (hDwinIdeal : Cert.DwinIdeal.Facts) (hDwinRefIdeal : Cert.DwinRefIdeal.Facts) (hDh : Cert.Dh.Facts) (hDhIdeal : Cert.DhIdeal.Facts) (hDhRefIdeal : Cert.DhRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hLnBwd : Cert.LnBwd.Facts) (hLnBwdIdeal : Cert.LnBwdIdeal.Facts) (hLnBwdRefIdeal : Cert.LnBwdRefIdeal.Facts) (hLnLoss : Cert.LnLoss.Facts) (hLnLossIdeal : Cert.LnLossIdeal.Facts) (hLnLossRefIdeal : Cert.LnLossRefIdeal.Facts) (hAdamWin : Cert.AdamWin.Facts) (hAdamWinIdeal : Cert.AdamWinIdeal.Facts) (hAdamWinRefIdeal : Cert.AdamWinRefIdeal.Facts) (hAdamWout : Cert.AdamWout.Facts) (hAdamWoutIdeal : Cert.AdamWoutIdeal.Facts) (hAdamWoutRefIdeal : Cert.AdamWoutRefIdeal.Facts) (hSumSmall : Cert.SumSmall.Facts) (hSumSmallIdeal : Cert.SumSmallIdeal.Facts) (hSumSmallRefIdeal : Cert.SumSmallRefIdeal.Facts) (hSumWin : Cert.SumWin.Facts) (hSumWinIdeal : Cert.SumWinIdeal.Facts) (hSumWinRefIdeal : Cert.SumWinRefIdeal.Facts) (hSumWout : Cert.SumWout.Facts) (hSumWoutIdeal : Cert.SumWoutIdeal.Facts) (hSumWoutRefIdeal : Cert.SumWoutRefIdeal.Facts) (hSumPack : Cert.SumPack.Facts) (hSumPackIdeal : Cert.SumPackIdeal.Facts) (hSumPackRefIdeal : Cert.SumPackRefIdeal.Facts) (hLnFwd : Cert.LnFwd.Facts) (hLnFwdIdeal : Cert.LnFwdIdeal.Facts) (hLnFwdRefIdeal : Cert.LnFwdRefIdeal.Facts) (hSibWin : Cert.SibWin.Facts) (hSibWinIdeal : Cert.SibWinIdeal.Facts) (hSibWinRefIdeal : Cert.SibWinRefIdeal.Facts) (hSibWout : Cert.SibWout.Facts) (hSibWoutIdeal : Cert.SibWoutIdeal.Facts) (hSibWoutRefIdeal : Cert.SibWoutRefIdeal.Facts) (hSibPack : Cert.SibPack.Facts) (hSibPackIdeal : Cert.SibPackIdeal.Facts) (hSibPackRefIdeal : Cert.SibPackRefIdeal.Facts) (hSibPackFirst : Cert.SibPackFirst.Facts) (hSibPackFirstIdeal : Cert.SibPackFirstIdeal.Facts) (hSibPackFirstRefIdeal : Cert.SibPackFirstRefIdeal.Facts) (hSumPackFirst : Cert.SumPackFirst.Facts) (hSumPackFirstIdeal : Cert.SumPackFirstIdeal.Facts) (hSumPackFirstRefIdeal : Cert.SumPackFirstRefIdeal.Facts) (hOn_rows_claimed : Cert.On_rows_claimed.Facts),
    quiescent_Kernel (hKernel := hKernel)
    ∧ quiescent_KernelIdeal (hKernelIdeal := hKernelIdeal)
    ∧ quiescent_ReferenceIdeal (hReferenceIdeal := hReferenceIdeal)
    ∧ quiescent_Dcat (hDcat := hDcat)
    ∧ quiescent_DcatIdeal (hDcatIdeal := hDcatIdeal)
    ∧ quiescent_DcatRefIdeal (hDcatRefIdeal := hDcatRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dh (hDh := hDh)
    ∧ quiescent_DhIdeal (hDhIdeal := hDhIdeal)
    ∧ quiescent_DhRefIdeal (hDhRefIdeal := hDhRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_LnLoss (hLnLoss := hLnLoss)
    ∧ quiescent_LnLossIdeal (hLnLossIdeal := hLnLossIdeal)
    ∧ quiescent_LnLossRefIdeal (hLnLossRefIdeal := hLnLossRefIdeal)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamWout (hAdamWout := hAdamWout)
    ∧ quiescent_AdamWoutIdeal (hAdamWoutIdeal := hAdamWoutIdeal)
    ∧ quiescent_AdamWoutRefIdeal (hAdamWoutRefIdeal := hAdamWoutRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumWin (hSumWin := hSumWin)
    ∧ quiescent_SumWinIdeal (hSumWinIdeal := hSumWinIdeal)
    ∧ quiescent_SumWinRefIdeal (hSumWinRefIdeal := hSumWinRefIdeal)
    ∧ quiescent_SumWout (hSumWout := hSumWout)
    ∧ quiescent_SumWoutIdeal (hSumWoutIdeal := hSumWoutIdeal)
    ∧ quiescent_SumWoutRefIdeal (hSumWoutRefIdeal := hSumWoutRefIdeal)
    ∧ quiescent_SumPack (hSumPack := hSumPack)
    ∧ quiescent_SumPackIdeal (hSumPackIdeal := hSumPackIdeal)
    ∧ quiescent_SumPackRefIdeal (hSumPackRefIdeal := hSumPackRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_SibWin (hSibWin := hSibWin)
    ∧ quiescent_SibWinIdeal (hSibWinIdeal := hSibWinIdeal)
    ∧ quiescent_SibWinRefIdeal (hSibWinRefIdeal := hSibWinRefIdeal)
    ∧ quiescent_SibWout (hSibWout := hSibWout)
    ∧ quiescent_SibWoutIdeal (hSibWoutIdeal := hSibWoutIdeal)
    ∧ quiescent_SibWoutRefIdeal (hSibWoutRefIdeal := hSibWoutRefIdeal)
    ∧ quiescent_SibPack (hSibPack := hSibPack)
    ∧ quiescent_SibPackIdeal (hSibPackIdeal := hSibPackIdeal)
    ∧ quiescent_SibPackRefIdeal (hSibPackRefIdeal := hSibPackRefIdeal)
    ∧ quiescent_SibPackFirst (hSibPackFirst := hSibPackFirst)
    ∧ quiescent_SibPackFirstIdeal (hSibPackFirstIdeal := hSibPackFirstIdeal)
    ∧ quiescent_SibPackFirstRefIdeal (hSibPackFirstRefIdeal := hSibPackFirstRefIdeal)
    ∧ quiescent_SumPackFirst (hSumPackFirst := hSumPackFirst)
    ∧ quiescent_SumPackFirstIdeal (hSumPackFirstIdeal := hSumPackFirstIdeal)
    ∧ quiescent_SumPackFirstRefIdeal (hSumPackFirstRefIdeal := hSumPackFirstRefIdeal)
    ∧ preserves_Kernel_KernelIdeal
    ∧ algebraic_KernelIdeal_ReferenceIdeal_on_rows_claimed (hKernelIdeal := hKernelIdeal) (hReferenceIdeal := hReferenceIdeal) (hOn_rows_claimed := hOn_rows_claimed)
    ∧ preserves_Dcat_DcatIdeal
    ∧ algebraic_DcatIdeal_DcatRefIdeal (hDcatIdeal := hDcatIdeal) (hDcatRefIdeal := hDcatRefIdeal)
    ∧ preserves_Dwout_DwoutIdeal
    ∧ algebraic_DwoutIdeal_DwoutRefIdeal (hDwoutIdeal := hDwoutIdeal) (hDwoutRefIdeal := hDwoutRefIdeal)
    ∧ preserves_Dwin_DwinIdeal
    ∧ algebraic_DwinIdeal_DwinRefIdeal (hDwinIdeal := hDwinIdeal) (hDwinRefIdeal := hDwinRefIdeal)
    ∧ preserves_Dh_DhIdeal
    ∧ algebraic_DhIdeal_DhRefIdeal (hDhIdeal := hDhIdeal) (hDhRefIdeal := hDhRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_LnBwd_LnBwdIdeal
    ∧ algebraic_LnBwdIdeal_LnBwdRefIdeal (hLnBwdIdeal := hLnBwdIdeal) (hLnBwdRefIdeal := hLnBwdRefIdeal)
    ∧ preserves_LnLoss_LnLossIdeal
    ∧ algebraic_LnLossIdeal_LnLossRefIdeal (hLnLossIdeal := hLnLossIdeal) (hLnLossRefIdeal := hLnLossRefIdeal)
    ∧ preserves_AdamWin_AdamWinIdeal
    ∧ algebraic_AdamWinIdeal_AdamWinRefIdeal (hAdamWinIdeal := hAdamWinIdeal) (hAdamWinRefIdeal := hAdamWinRefIdeal)
    ∧ preserves_AdamWout_AdamWoutIdeal
    ∧ algebraic_AdamWoutIdeal_AdamWoutRefIdeal (hAdamWoutIdeal := hAdamWoutIdeal) (hAdamWoutRefIdeal := hAdamWoutRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumWin_SumWinIdeal
    ∧ algebraic_SumWinIdeal_SumWinRefIdeal (hSumWinIdeal := hSumWinIdeal) (hSumWinRefIdeal := hSumWinRefIdeal)
    ∧ preserves_SumWout_SumWoutIdeal
    ∧ algebraic_SumWoutIdeal_SumWoutRefIdeal (hSumWoutIdeal := hSumWoutIdeal) (hSumWoutRefIdeal := hSumWoutRefIdeal)
    ∧ preserves_SumPack_SumPackIdeal
    ∧ algebraic_SumPackIdeal_SumPackRefIdeal (hSumPackIdeal := hSumPackIdeal) (hSumPackRefIdeal := hSumPackRefIdeal)
    ∧ preserves_LnFwd_LnFwdIdeal
    ∧ algebraic_LnFwdIdeal_LnFwdRefIdeal (hLnFwdIdeal := hLnFwdIdeal) (hLnFwdRefIdeal := hLnFwdRefIdeal)
    ∧ preserves_SibWin_SibWinIdeal
    ∧ algebraic_SibWinIdeal_SibWinRefIdeal (hSibWinIdeal := hSibWinIdeal) (hSibWinRefIdeal := hSibWinRefIdeal)
    ∧ preserves_SibWout_SibWoutIdeal
    ∧ algebraic_SibWoutIdeal_SibWoutRefIdeal (hSibWoutIdeal := hSibWoutIdeal) (hSibWoutRefIdeal := hSibWoutRefIdeal)
    ∧ preserves_SibPack_SibPackIdeal
    ∧ algebraic_SibPackIdeal_SibPackRefIdeal (hSibPackIdeal := hSibPackIdeal) (hSibPackRefIdeal := hSibPackRefIdeal)
    ∧ preserves_SibPackFirst_SibPackFirstIdeal
    ∧ algebraic_SibPackFirstIdeal_SibPackFirstRefIdeal (hSibPackFirstIdeal := hSibPackFirstIdeal) (hSibPackFirstRefIdeal := hSibPackFirstRefIdeal)
    ∧ preserves_SumPackFirst_SumPackFirstIdeal
    ∧ algebraic_SumPackFirstIdeal_SumPackFirstRefIdeal (hSumPackFirstIdeal := hSumPackFirstIdeal) (hSumPackFirstRefIdeal := hSumPackFirstRefIdeal)
-- ==== On_rows_claimed.lean ====
abbrev S2048x8320 : Shape := ⟨2, ![2048, 8320]⟩
abbrev S1x4224 : Shape := ⟨2, ![1, 4224]⟩
abbrev S1x1024 : Shape := ⟨2, ![1, 1024]⟩
abbrev S64x1024 : Shape := ⟨2, ![64, 1024]⟩
abbrev S1024 : Shape := ⟨1, ![1024]⟩
abbrev S32x16x128x128 : Shape := ⟨4, ![32, 16, 128, 128]⟩
abbrev S2048x2048 : Shape := ⟨2, ![2048, 2048]⟩
abbrev S2048x1024 : Shape := ⟨2, ![2048, 1024]⟩
abbrev S8x8x128 : Shape := ⟨3, ![8, 8, 128]⟩
abbrev S_ : Shape := ⟨0, ![]⟩

class Facts : Prop where
  bcast_S_S8x8x128 : S_.BroadcastsInDim S8x8x128 (![] : Fin 0 → Fin S8x8x128.rank)

variable [Facts]

def fn {F : FTy → Type} [FloatOps F] (main_arg0 : FVec F S2048x8320 .f32) (main_arg1 : FVec F S1x4224 .f32) (main_arg2 : FVec F S1x1024 .f32) (main_arg3 : FVec F S64x1024 .f32) (main_arg4 : FVec F S1x1024 .f32) (main_arg5 : FVec F S64x1024 .f32) (main_arg6 : FVec F S1024 .f32) (main_arg7 : FVec F S1024 .f32) (main_arg8 : FVec F S1024 .f32) (main_arg9 : FVec F S1024 .f32) (main_arg10 : FVec F S1024 .f32) (main_arg11 : FVec F S32x16x128x128 .f32) (main_arg12 : FVec F S2048x2048 .f32) (main_arg13 : FVec F S2048x1024 .f32) : IVec S8x8x128 1 :=
  let main_v0 : IVec S8x8x128 32 := iotaInDim S8x8x128 32 1
  let main_c : IVec S_ 32 := constantI S_ 32 2#32
  let main_v1 : IVec S8x8x128 32 := broadcastInDim S8x8x128 ![] bcast_S_S8x8x128 main_c
  let main_v2 : IVec S8x8x128 1 := cmpi .eq main_v0 main_v1
  let main_c_0 : IVec S_ 32 := constantI S_ 32 4#32
  let main_v3 : IVec S8x8x128 32 := broadcastInDim S8x8x128 ![] bcast_S_S8x8x128 main_c_0
  let main_v4 : IVec S8x8x128 1 := cmpi .eq main_v0 main_v3
  let main_v5 : IVec S8x8x128 1 := ori main_v2 main_v4
  main_v5
-- ==== Kernel.lean ====
abbrev S2048x8320 : Shape := ⟨2, ![2048, 8320]⟩
abbrev S1x4224 : Shape := ⟨2, ![1, 4224]⟩
abbrev S1x1024 : Shape := ⟨2, ![1, 1024]⟩
abbrev S64x1024 : Shape := ⟨2, ![64, 1024]⟩
abbrev S1024 : Shape := ⟨1, ![1024]⟩
abbrev S32x16x128x128 : Shape := ⟨4, ![32, 16, 128, 128]⟩
abbrev S2048x2048 : Shape := ⟨2, ![2048, 2048]⟩
abbrev S2048x1024 : Shape := ⟨2, ![2048, 1024]⟩
abbrev S_ : Shape := ⟨0, ![]⟩
abbrev S128x1024 : Shape := ⟨2, ![128, 1024]⟩
abbrev S8x1024 : Shape := ⟨2, ![8, 1024]⟩
abbrev S8x8x128 : Shape := ⟨3, ![8, 8, 128]⟩
abbrev S64x4224 : Shape := ⟨2, ![64, 4224]⟩
abbrev S8x4224 : Shape := ⟨2, ![8, 4224]⟩
abbrev S1x16x128x128 : Shape := ⟨4, ![1, 16, 128, 128]⟩
abbrev S8x128x128 : Shape := ⟨3, ![8, 128, 128]⟩
abbrev S8x1x128 : Shape := ⟨3, ![8, 1, 128]⟩
abbrev S64x128 : Shape := ⟨2, ![64, 128]⟩
abbrev S1x64x128 : Shape := ⟨3, ![1, 64, 128]⟩
abbrev S8x64x128 : Shape := ⟨3, ![8, 64, 128]⟩
abbrev S1x8x128x128 : Shape := ⟨4, ![1, 8, 128, 128]⟩
abbrev S64x1 : Shape := ⟨2, ![64, 1]⟩
abbrev S64x384 : Shape := ⟨2, ![64, 384]⟩
abbrev S384x1024 : Shape := ⟨2, ![384, 1024]⟩
abbrev S1x128 : Shape := ⟨2, ![1, 128]⟩
abbrev S128x128 : Shape := ⟨2, ![128, 128]⟩
abbrev S512x128 : Shape := ⟨2, ![512, 128]⟩
abbrev S1x64x1 : Shape := ⟨3, ![1, 64, 1]⟩
abbrev S1x1x128 : Shape := ⟨3, ![1, 1, 128]⟩
abbrev S8x256x128 : Shape := ⟨3, ![8, 256, 128]⟩
abbrev S8x256x384 : Shape := ⟨3, ![8, 256, 384]⟩
abbrev S8x256x256 : Shape := ⟨3, ![8, 256, 256]⟩
abbrev S1x128x128 : Shape := ⟨3, ![1, 128, 128]⟩
abbrev S8x128x256 : Shape := ⟨3, ![8, 128, 256]⟩
abbrev S8x128x384 : Shape := ⟨3, ![8, 128, 384]⟩
abbrev S8x384x128 : Shape := ⟨3, ![8, 384, 128]⟩
abbrev S8x128 : Shape := ⟨2, ![8, 128]⟩
abbrev S8x128x1 : Shape := ⟨3, ![8, 128, 1]⟩
abbrev S8x256x768 : Shape := ⟨3, ![8, 256, 768]⟩
abbrev S8x768x128 : Shape := ⟨3, ![8, 768, 128]⟩
abbrev S8x768x256 : Shape := ⟨3, ![8, 768, 256]⟩
abbrev S64x896 : Shape := ⟨2, ![64, 896]⟩
abbrev S64x768 : Shape := ⟨2, ![64, 768]⟩
abbrev S64x640 : Shape := ⟨2, ![64, 640]⟩
abbrev S64x256 : Shape := ⟨2, ![64, 256]⟩
abbrev S64x512 : Shape := ⟨2, ![64, 512]⟩
abbrev S64x3072 : Shape := ⟨2, ![64, 3072]⟩
abbrev S128x3072 : Shape := ⟨2, ![128, 3072]⟩
abbrev S192x128 : Shape := ⟨2, ![192, 128]⟩
abbrev S192x1024 : Shape := ⟨2, ![192, 1024]⟩
abbrev S64x4096 : Shape := ⟨2, ![64, 4096]⟩
abbrev S64x2048 : Shape := ⟨2, ![64, 2048]⟩
abbrev S64x1152 : Shape := ⟨2, ![64, 1152]⟩
abbrev S64x2176 : Shape := ⟨2, ![64, 2176]⟩
abbrev S64x3200 : Shape := ⟨2, ![64, 3200]⟩
abbrev S4224 : Shape := ⟨1, ![4224]⟩

abbrev nBuf : Space → Nat
  | .hbm => 40
  | .vmem => 26
  | .smem => 0
  | _ => 0

abbrev bufTy : (tb : Table) → Fin (tcTables nBuf tb) → BufTy
  | .hbm, ⟨0, _⟩ => ⟨S2048x8320, .f32⟩
  | .hbm, ⟨1, _⟩ => ⟨S1x4224, .f32⟩
  | .hbm, ⟨2, _⟩ => ⟨S1x1024, .f32⟩
  | .hbm, ⟨3, _⟩ => ⟨S64x1024, .f32⟩
  | .hbm, ⟨4, _⟩ => ⟨S1x1024, .f32⟩
  | .hbm, ⟨5, _⟩ => ⟨S64x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S32x16x128x128, .f32⟩
  | .hbm, ⟨12, _⟩ => ⟨S2048x2048, .f32⟩
  | .hbm, ⟨13, _⟩ => ⟨S2048x1024, .f32⟩
  | .hbm, ⟨14, _⟩ => ⟨S_, .f32⟩
  | .hbm, ⟨15, _⟩ => ⟨S64x1024, .f32⟩
  | .hbm, ⟨16, _⟩ => ⟨S128x1024, .f32⟩
  | .hbm, ⟨17, _⟩ => ⟨S_, .f32⟩
  | .hbm, ⟨18, _⟩ => ⟨S64x1024, .f32⟩
  | .hbm, ⟨19, _⟩ => ⟨S128x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8x1024, .f32⟩
  | .hbm, ⟨31, _⟩ => ⟨S8x8x128, .f32⟩
  | .hbm, ⟨32, _⟩ => ⟨S8x8x128, .f32⟩
  | .hbm, ⟨33, _⟩ => ⟨S2048x8320, .bf16⟩
  | .hbm, ⟨34, _⟩ => ⟨S1x4224, .f32⟩
  | .hbm, ⟨35, _⟩ => ⟨S1x1024, .f32⟩
  | .hbm, ⟨36, _⟩ => ⟨S1x1024, .f32⟩
  | .hbm, ⟨37, _⟩ => ⟨S128x1024, .f32⟩
  | .hbm, ⟨38, _⟩ => ⟨S128x1024, .f32⟩
  | .hbm, ⟨39, _⟩ => ⟨S8x8x128, .f32⟩
  | .local _ .vmem, ⟨0, _⟩ => ⟨S64x4224, .f32⟩
  | .local _ .vmem, ⟨1, _⟩ => ⟨S64x4224, .f32⟩
  | .local _ .vmem, ⟨2, _⟩ => ⟨S8x4224, .f32⟩
  | .local _ .vmem, ⟨3, _⟩ => ⟨S8x4224, .f32⟩
  | .local _ .vmem, ⟨4, _⟩ => ⟨S1x4224, .f32⟩
  | .local _ .vmem, ⟨5, _⟩ => ⟨S1x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S8x8x128, .f32⟩
  | .local _ .vmem, ⟨10, _⟩ => ⟨S1x16x128x128, .f32⟩
  | .local _ .vmem, ⟨11, _⟩ => ⟨S1x16x128x128, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x4224, .bf16⟩
  | .local _ .vmem, ⟨17, _⟩ => ⟨S64x4224, .bf16⟩
  | .local _ .vmem, ⟨18, _⟩ => ⟨S1x4224, .f32⟩
  | .local _ .vmem, ⟨19, _⟩ => ⟨S1x1024, .f32⟩
  | .local _ .vmem, ⟨20, _⟩ => ⟨S1x1024, .f32⟩
  | .local _ .vmem, ⟨21, _⟩ => ⟨S128x1024, .f32⟩
  | .local _ .vmem, ⟨22, _⟩ => ⟨S128x1024, .f32⟩
  | .local _ .vmem, ⟨23, _⟩ => ⟨S8x8x128, .f32⟩
  | .local _ .vmem, ⟨24, _⟩ => ⟨S8x128x128, .f32⟩
  | .local _ .vmem, ⟨25, _⟩ => ⟨S1x4224, .f32⟩
  | _, _ => ⟨S2048x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v16_5 : Ref sig .tc := ⟨.hbm, 38, rfl⟩
abbrev main_v16_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x4224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x4224 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x4224 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S2048x8320 : Shape := ⟨2, ![2048, 8320]⟩
abbrev S1x4224 : Shape := ⟨2, ![1, 4224]⟩
abbrev S1x1024 : Shape := ⟨2, ![1, 1024]⟩
abbrev S64x1024 : Shape := ⟨2, ![64, 1024]⟩
abbrev S1024 : Shape := ⟨1, ![1024]⟩
abbrev S32x16x128x128 : Shape := ⟨4, ![32, 16, 128, 128]⟩
abbrev S2048x2048 : Shape := ⟨2, ![2048, 2048]⟩
abbrev S2048x1024 : Shape := ⟨2, ![2048, 1024]⟩
abbrev S2048x4224 : Shape := ⟨2, ![2048, 4224]⟩
abbrev S1x2048x4224 : Shape := ⟨3, ![1, 2048, 4224]⟩
abbrev S_ : Shape := ⟨0, ![]⟩
abbrev S1x2049x4224 : Shape := ⟨3, ![1, 2049, 4224]⟩
abbrev S1x1x4224 : Shape := ⟨3, ![1, 1, 4224]⟩
abbrev S1x2048x1024 : Shape := ⟨3, ![1, 2048, 1024]⟩
abbrev S1x2048x64 : Shape := ⟨3, ![1, 2048, 64]⟩
abbrev S1x1x1024 : Shape := ⟨3, ![1, 1, 1024]⟩
abbrev S1x2048x16x64 : Shape := ⟨4, ![1, 2048, 16, 64]⟩
abbrev S16x64 : Shape := ⟨2, ![16, 64]⟩
abbrev S1x1x16x64 : Shape := ⟨4, ![1, 1, 16, 64]⟩
abbrev S1x2048x16 : Shape := ⟨3, ![1, 2048, 16]⟩
abbrev S1x2048x16x1 : Shape := ⟨4, ![1, 2048, 16, 1]⟩
abbrev S1x16x64 : Shape := ⟨3, ![1, 16, 64]⟩
abbrev S2048x16 : Shape := ⟨2, ![2048, 16]⟩
abbrev S8x1024 : Shape := ⟨2, ![8, 1024]⟩
abbrev S8x8x128 : Shape := ⟨3, ![8, 8, 128]⟩

abbrev nBuf : Space → Nat
  | .hbm => 123
  | .vmem => 0
  | .smem => 0
  | _ => 0

abbrev bufTy : (tb : Table) → Fin (tcTables nBuf tb) → BufTy
  | .hbm, ⟨0, _⟩ => ⟨S2048x8320, .f32⟩
  | .hbm, ⟨1, _⟩ => ⟨S1x4224, .f32⟩
  | .hbm, ⟨2, _⟩ => ⟨S1x1024, .f32⟩
  | .hbm, ⟨3, _⟩ => ⟨S64x1024, .f32⟩
  | .hbm, ⟨4, _⟩ => ⟨S1x1024, .f32⟩
  | .hbm, ⟨5, _⟩ => ⟨S64x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S32x16x128x128, .f32⟩
  | .hbm, ⟨12, _⟩ => ⟨S2048x2048, .f32⟩
  | .hbm, ⟨13, _⟩ => ⟨S2048x1024, .f32⟩
  | .hbm, ⟨14, _⟩ => ⟨S2048x4224, .f32⟩
  | .hbm, ⟨15, _⟩ => ⟨S1x2048x4224, .f32⟩
  | .hbm, ⟨16, _⟩ => ⟨S_, .i32⟩
  | .hbm, ⟨17, _⟩ => ⟨S_, .f32⟩
  | .hbm, ⟨18, _⟩ => ⟨S1x2049x4224, .f32⟩
  | .hbm, ⟨19, _⟩ => ⟨S1x2048x4224, .f32⟩
  | .hbm, ⟨20, _⟩ => ⟨S1x2048x4224, .f32⟩
  | .hbm, ⟨21, _⟩ => ⟨S1x1x4224, .f32⟩
  | .hbm, ⟨22, _⟩ => ⟨S1x2048x4224, .f32⟩
  | .hbm, ⟨23, _⟩ => ⟨S1x2048x4224, .f32⟩
  | .hbm, ⟨24, _⟩ => ⟨S1x2048x4224, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x64, .f32⟩
  | .hbm, ⟨30, _⟩ => ⟨S1x2048x64, .f32⟩
  | .hbm, ⟨31, _⟩ => ⟨S1x2048x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x2048x1024, .f32⟩
  | .hbm, ⟨42, _⟩ => ⟨S1x2048x1024, .f32⟩
  | .hbm, ⟨43, _⟩ => ⟨S_, .f32⟩
  | .hbm, ⟨44, _⟩ => ⟨S1x2048x1024, .f32⟩
  | .hbm, ⟨45, _⟩ => ⟨S1x2048x1024, .f32⟩
  | .hbm, ⟨46, _⟩ => ⟨S1x1x1024, .f32⟩
  | .hbm, ⟨47, _⟩ => ⟨S1x2048x1024, .f32⟩
  | .hbm, ⟨48, _⟩ => ⟨S1x2048x1024, .f32⟩
  | .hbm, ⟨49, _⟩ => ⟨S_, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1x2048x16x64, .f32⟩
  | .hbm, ⟨54, _⟩ => ⟨S1x2048x16x64, .f32⟩
  | .hbm, ⟨55, _⟩ => ⟨S1x2048x16x64, .f32⟩
  | .hbm, ⟨56, _⟩ => ⟨S16x64, .f32⟩
  | .hbm, ⟨57, _⟩ => ⟨S1x2048x16x64, .f32⟩
  | .hbm, ⟨58, _⟩ => ⟨S16x64, .f32⟩
  | .hbm, ⟨59, _⟩ => ⟨S1x1x16x64, .f32⟩
  | .hbm, ⟨60, _⟩ => ⟨S1x2048x16x64, .f32⟩
  | .hbm, ⟨61, _⟩ => ⟨S1x2048x16x64, .f32⟩
  | .hbm, ⟨62, _⟩ => ⟨S_, .f32⟩
  | .hbm, ⟨63, _⟩ => ⟨S1x2048x16, .f32⟩
  | .hbm, ⟨64, _⟩ => ⟨S1x2048x16x1, .f32⟩
  | .hbm, ⟨65, _⟩ => ⟨S1x2048x16x64, .f32⟩
  | .hbm, ⟨66, _⟩ => ⟨S1x2048x16x64, .f32⟩
  | .hbm, ⟨67, _⟩ => ⟨S1x1x16x64, .f32⟩
  | .hbm, ⟨68, _⟩ => ⟨S1x2048x16x64, .f32⟩
  | .hbm, ⟨69, _⟩ => ⟨S1x2048x16x64, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S_, .f32⟩
  | .hbm, ⟨74, _⟩ => ⟨S1x2048x1024, .f32⟩
  | .hbm, ⟨75, _⟩ => ⟨S1x2048x1024, .f32⟩
  | .hbm, ⟨76, _⟩ => ⟨S_, .f32⟩
  | .hbm, ⟨77, _⟩ => ⟨S1x2048x1024, .f32⟩
  | .hbm, ⟨78, _⟩ => ⟨S1x2048x1024, .f32⟩
  | .hbm, ⟨79, _⟩ => ⟨S1x2048x1024, .f32⟩
  | .hbm, ⟨80, _⟩ => ⟨S1x2048x1024, .f32⟩
  | .hbm, ⟨81, _⟩ => ⟨S2048x1024, .f32⟩
  | .hbm, ⟨82, _⟩ => ⟨S1x2048x1024, .f32⟩
  | .hbm, ⟨83, _⟩ => ⟨S1x2048x1024, .f32⟩
  | .hbm, ⟨84, _⟩ => ⟨S1x2048x16x64, .f32⟩
  | .hbm, ⟨85, _⟩ => ⟨S_, .f32⟩
  | .hbm, ⟨86, _⟩ => ⟨S1x16x64, .f32⟩
  | .hbm, ⟨87, _⟩ => ⟨S1x1x16x64, .f32⟩
  | .hbm, ⟨88, _⟩ => ⟨S_, .f32⟩
  | .hbm, ⟨89, _⟩ => ⟨S16x64, .f32⟩
  | .hbm, ⟨90, _⟩ => ⟨S1x2048x16x64, .f32⟩
  | .hbm, ⟨91, _⟩ => ⟨S_, .f32⟩
  | .hbm, ⟨92, _⟩ => ⟨S1x2048x16, .f32⟩
  | .hbm, ⟨93, _⟩ => ⟨S1x2048x16x1, .f32⟩
  | .hbm, ⟨94, _⟩ => ⟨S_, .f32⟩
  | .hbm, ⟨95, _⟩ => ⟨S2048x16, .f32⟩
  | .hbm, ⟨96, _⟩ => ⟨S1x2048x16, .f32⟩
  | .hbm, ⟨97, _⟩ => ⟨S1x2048x16x64, .f32⟩
  | .hbm, ⟨98, _⟩ => ⟨S1x2048x16x64, .f32⟩
  | .hbm, ⟨99, _⟩ => ⟨S_, .f32⟩
  | .hbm, ⟨100, _⟩ => ⟨S1x16x64, .f32⟩
  | .hbm, ⟨101, _⟩ => ⟨S1x1x16x64, .f32⟩
  | .hbm, ⟨102, _⟩ => ⟨S_, .f32⟩
  | .hbm, ⟨103, _⟩ => ⟨S16x64, .f32⟩
  | .hbm, ⟨104, _⟩ => ⟨S1024, .f32⟩
  | .hbm, ⟨105, _⟩ => ⟨S1024, .f32⟩
  | .hbm, ⟨106, _⟩ => ⟨S_, .f32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1x1024, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S1x1024, .f32⟩
  | .hbm, ⟨117, _⟩ => ⟨S1x1024, .f32⟩
  | .hbm, ⟨118, _⟩ => ⟨S1x1024, .f32⟩
  | .hbm, ⟨119, _⟩ => ⟨S1x1024, .f32⟩
  | .hbm, ⟨120, _⟩ => ⟨S8x1024, .f32⟩
  | .hbm, ⟨121, _⟩ => ⟨S8x8x128, .f32⟩
  | .hbm, ⟨122, _⟩ => ⟨S8x8x128, .f32⟩
  | _, _ => ⟨S2048x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_4 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_cst_7 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_cst_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_cst_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]
-- ==== Dcat.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwout.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .local _ .vmem, ⟨0, _⟩ => ⟨S2048x512, .f32⟩
  | .local _ .vmem, ⟨1, _⟩ => ⟨S2048x512, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwin.lean ====
abbrev S2048x8320 : Shape := ⟨2, ![2048, 8320]⟩
abbrev S2048x2048 : Shape := ⟨2, ![2048, 2048]⟩
abbrev S8320x2048 : Shape := ⟨2, ![8320, 2048]⟩
abbrev S2048x640 : Shape := ⟨2, ![2048, 640]⟩
abbrev S640x2048 : Shape := ⟨2, ![640, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8320, .bf16⟩
  | .hbm, ⟨1, _⟩ => ⟨S2048x2048, .bf16⟩
  | .hbm, ⟨2, _⟩ => ⟨S8320x2048, .bf16⟩
  | .local _ .vmem, ⟨0, _⟩ => ⟨S2048x640, .bf16⟩
  | .local _ .vmem, ⟨1, _⟩ => ⟨S2048x640, .bf16⟩
  | .local _ .vmem, ⟨2, _⟩ => ⟨S2048x2048, .bf16⟩
  | .local _ .vmem, ⟨3, _⟩ => ⟨S640x2048, .bf16⟩
  | .local _ .vmem, ⟨4, _⟩ => ⟨S640x2048, .bf16⟩
  | _, _ => ⟨S2048x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S2048x8320 : Shape := ⟨2, ![2048, 8320]⟩
abbrev S2048x2048 : Shape := ⟨2, ![2048, 2048]⟩
abbrev S_ : Shape := ⟨0, ![]⟩
abbrev S8320x2048 : Shape := ⟨2, ![8320, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8320, .bf16⟩
  | .hbm, ⟨1, _⟩ => ⟨S2048x2048, .bf16⟩
  | .hbm, ⟨2, _⟩ => ⟨S_, .f32⟩
  | .hbm, ⟨3, _⟩ => ⟨S2048x8320, .f32⟩
  | .hbm, ⟨4, _⟩ => ⟨S2048x2048, .f32⟩
  | .hbm, ⟨5, _⟩ => ⟨S2048x8320, .f32⟩
  | .hbm, ⟨6, _⟩ => ⟨S2048x8320, .f32⟩
  | .hbm, ⟨7, _⟩ => ⟨S8320x2048, .f32⟩
  | .hbm, ⟨8, _⟩ => ⟨S2048x8320, .f32⟩
  | .hbm, ⟨9, _⟩ => ⟨S8320x2048, .f32⟩
  | .hbm, ⟨10, _⟩ => ⟨S8320x2048, .bf16⟩
  | _, _ => ⟨S2048x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh.lean ====
abbrev S2048x8320 : Shape := ⟨2, ![2048, 8320]⟩
abbrev S8320x2048 : Shape := ⟨2, ![8320, 2048]⟩
abbrev S2048x2048 : Shape := ⟨2, ![2048, 2048]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8320, .bf16⟩
  | .hbm, ⟨1, _⟩ => ⟨S8320x2048, .bf16⟩
  | .hbm, ⟨2, _⟩ => ⟨S2048x2048, .f32⟩
  | .hbm, ⟨3, _⟩ => ⟨S2048x2048, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S2048x8320 : Shape := ⟨2, ![2048, 8320]⟩
abbrev S8320x2048 : Shape := ⟨2, ![8320, 2048]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x8320, .bf16⟩
  | .hbm, ⟨1, _⟩ => ⟨S8320x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S8320x2048, .f32⟩
  | .hbm, ⟨6, _⟩ => ⟨S2048x8320, .f32⟩
  | .hbm, ⟨7, _⟩ => ⟨S2048x8320, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x8320, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proj.lean ====
abbrev S2048x2048 : Shape := ⟨2, ![2048, 2048]⟩
abbrev S8320x2048 : Shape := ⟨2, ![8320, 2048]⟩
abbrev S2048x8320 : Shape := ⟨2, ![2048, 8320]⟩
abbrev S1024x2048 : Shape := ⟨2, ![1024, 2048]⟩
abbrev S1664x2048 : Shape := ⟨2, ![1664, 2048]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S2048x8320, .f32⟩
  | .local _ .vmem, ⟨0, _⟩ => ⟨S1024x2048, .bf16⟩
  | .local _ .vmem, ⟨1, _⟩ => ⟨S1024x2048, .bf16⟩
  | .local _ .vmem, ⟨2, _⟩ => ⟨S1664x2048, .bf16⟩
  | .local _ .vmem, ⟨3, _⟩ => ⟨S1664x2048, .bf16⟩
  | .local _ .vmem, ⟨4, _⟩ => ⟨S1024x1664, .f32⟩
  | .local _ .vmem, ⟨5, _⟩ => ⟨S1024x1664, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x2048 : Shape := ⟨2, ![2048, 2048]⟩
abbrev S8320x2048 : Shape := ⟨2, ![8320, 2048]⟩
abbrev S2048x8320 : Shape := ⟨2, ![2048, 8320]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8320x2048, .bf16⟩
  | .hbm, ⟨2, _⟩ => ⟨S2048x2048, .f32⟩
  | .hbm, ⟨3, _⟩ => ⟨S8320x2048, .f32⟩
  | .hbm, ⟨4, _⟩ => ⟨S2048x8320, .f32⟩
  | .hbm, ⟨5, _⟩ => ⟨S2048x8320, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LnBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S2048x2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S2048x2048, .f32⟩
  | .hbm, ⟨84, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== LnLoss.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnLossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S2048x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x2048, .f32⟩
  | .hbm, ⟨80, _⟩ => ⟨S2048x2048, .f32⟩
  | .hbm, ⟨81, _⟩ => ⟨S2048x1, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x2048, .f32⟩
  | .hbm, ⟨98, _⟩ => ⟨S2048x1, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S_, .f32⟩
  | .hbm, ⟨103, _⟩ => ⟨S2048, .f32⟩
  | .hbm, ⟨104, _⟩ => ⟨S2048x2048, .f32⟩
  | .hbm, ⟨105, _⟩ => ⟨S2048x2048, .f32⟩
  | .hbm, ⟨106, _⟩ => ⟨S2048x2048, .bf16⟩
  | .hbm, ⟨107, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_cst_12 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_cst_14 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_15 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_16 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩
abbrev main_cst_23 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== AdamWin.lean ====
abbrev S2080x2048 : Shape := ⟨2, ![2080, 2048]⟩
abbrev S208x2048 : Shape := ⟨2, ![208, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2080x2048, .f32⟩
  | .hbm, ⟨1, _⟩ => ⟨S2080x2048, .f32⟩
  | .hbm, ⟨2, _⟩ => ⟨S2080x2048, .f32⟩
  | .hbm, ⟨3, _⟩ => ⟨S2080x2048, .f32⟩
  | .hbm, ⟨4, _⟩ => ⟨S2080x2048, .f32⟩
  | .hbm, ⟨5, _⟩ => ⟨S2080x2048, .f32⟩
  | .hbm, ⟨6, _⟩ => ⟨S2080x2048, .f32⟩
  | .local _ .vmem, ⟨0, _⟩ => ⟨S208x2048, .f32⟩
  | .local _ .vmem, ⟨1, _⟩ => ⟨S208x2048, .f32⟩
  | .local _ .vmem, ⟨2, _⟩ => ⟨S208x2048, .f32⟩
  | .local _ .vmem, ⟨3, _⟩ => ⟨S208x2048, .f32⟩
  | .local _ .vmem, ⟨4, _⟩ => ⟨S208x2048, .f32⟩
  | .local _ .vmem, ⟨5, _⟩ => ⟨S208x2048, .f32⟩
  | .local _ .vmem, ⟨6, _⟩ => ⟨S208x2048, .f32⟩
  | .local _ .vmem, ⟨7, _⟩ => ⟨S208x2048, .f32⟩
  | .local _ .vmem, ⟨8, _⟩ => ⟨S208x2048, .f32⟩
  | .local _ .vmem, ⟨9, _⟩ => ⟨S208x2048, .f32⟩
  | .local _ .vmem, ⟨10, _⟩ => ⟨S208x2048, .f32⟩
  | .local _ .vmem, ⟨11, _⟩ => ⟨S208x2048, .f32⟩
  | .local _ .vmem, ⟨12, _⟩ => ⟨S208x2048, .f32⟩
  | .local _ .vmem, ⟨13, _⟩ => ⟨S208x2048, .f32⟩
  | _, _ => ⟨S2080x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWinRefIdeal.lean ====
abbrev S2080x2048 : Shape := ⟨2, ![2080, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2080x2048, .f32⟩
  | .hbm, ⟨1, _⟩ => ⟨S2080x2048, .f32⟩
  | .hbm, ⟨2, _⟩ => ⟨S2080x2048, .f32⟩
  | .hbm, ⟨3, _⟩ => ⟨S2080x2048, .f32⟩
  | .hbm, ⟨4, _⟩ => ⟨S_, .f32⟩
  | .hbm, ⟨5, _⟩ => ⟨S2080x2048, .f32⟩
  | .hbm, ⟨6, _⟩ => ⟨S2080x2048, .f32⟩
  | .hbm, ⟨7, _⟩ => ⟨S_, .f32⟩
  | .hbm, ⟨8, _⟩ => ⟨S2080x2048, .f32⟩
  | .hbm, ⟨9, _⟩ => ⟨S2080x2048, .f32⟩
  | .hbm, ⟨10, _⟩ => ⟨S2080x2048, .f32⟩
  | .hbm, ⟨11, _⟩ => ⟨S_, .f32⟩
  | .hbm, ⟨12, _⟩ => ⟨S2080x2048, .f32⟩
  | .hbm, ⟨13, _⟩ => ⟨S2080x2048, .f32⟩
  | .hbm, ⟨14, _⟩ => ⟨S2080x2048, .f32⟩
  | .hbm, ⟨15, _⟩ => ⟨S_, .f32⟩
  | .hbm, ⟨16, _⟩ => ⟨S2080x2048, .f32⟩
  | .hbm, ⟨17, _⟩ => ⟨S2080x2048, .f32⟩
  | .hbm, ⟨18, _⟩ => ⟨S2080x2048, .f32⟩
  | .hbm, ⟨19, _⟩ => ⟨S_, .f32⟩
  | .hbm, ⟨20, _⟩ => ⟨S2080x2048, .f32⟩
  | .hbm, ⟨21, _⟩ => ⟨S2080x2048, .f32⟩
  | .hbm, ⟨22, _⟩ => ⟨S_, .f32⟩
  | .hbm, ⟨23, _⟩ => ⟨S2080x2048, .f32⟩
  | .hbm, ⟨24, _⟩ => ⟨S2080x2048, .f32⟩
  | .hbm, ⟨25, _⟩ => ⟨S2080x2048, .f32⟩
  | .hbm, ⟨26, _⟩ => ⟨S_, .f32⟩
  | .hbm, ⟨27, _⟩ => ⟨S2080x2048, .f32⟩
  | .hbm, ⟨28, _⟩ => ⟨S2080x2048, .f32⟩
  | .hbm, ⟨29, _⟩ => ⟨S2080x2048, .f32⟩
  | .hbm, ⟨30, _⟩ => ⟨S_, .f32⟩
  | .hbm, ⟨31, _⟩ => ⟨S2080x2048, .f32⟩
  | .hbm, ⟨32, _⟩ => ⟨S2080x2048, .f32⟩
  | .hbm, ⟨33, _⟩ => ⟨S2080x2048, .f32⟩
  | .hbm, ⟨34, _⟩ => ⟨S_, .f32⟩
  | .hbm, ⟨35, _⟩ => ⟨S2080x2048, .f32⟩
  | .hbm, ⟨36, _⟩ => ⟨S2080x2048, .f32⟩
  | _, _ => ⟨S2080x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWout.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWoutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x288x128 : Shape := ⟨3, ![8, 288, 128]⟩
abbrev S288x128 : Shape := ⟨2, ![288, 128]⟩
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x288x128, .f32⟩
  | .hbm, ⟨1, _⟩ => ⟨S288x128, .f32⟩
  | .local _ .vmem, ⟨0, _⟩ => ⟨S8x32x128, .f32⟩
  | .local _ .vmem, ⟨1, _⟩ => ⟨S8x32x128, .f32⟩
  | .local _ .vmem, ⟨2, _⟩ => ⟨S32x128, .f32⟩
  | .local _ .vmem, ⟨3, _⟩ => ⟨S32x128, .f32⟩
  | _, _ => ⟨S8x288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x288x128 : Shape := ⟨3, ![8, 288, 128]⟩
abbrev S_ : Shape := ⟨0, ![]⟩
abbrev S288x128 : Shape := ⟨2, ![288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x288x128, .f32⟩
  | .hbm, ⟨1, _⟩ => ⟨S_, .f32⟩
  | .hbm, ⟨2, _⟩ => ⟨S288x128, .f32⟩
  | _, _ => ⟨S8x288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumWin.lean ====
abbrev S4160x2048 : Shape := ⟨2, ![4160, 2048]⟩
abbrev S3x1040x2048 : Shape := ⟨3, ![3, 1040, 2048]⟩
abbrev S2x1040x2048 : Shape := ⟨3, ![2, 1040, 2048]⟩
abbrev S4x1040x2048 : Shape := ⟨3, ![4, 1040, 2048]⟩
abbrev S4x208x2048 : Shape := ⟨3, ![4, 208, 2048]⟩
abbrev S3x208x2048 : Shape := ⟨3, ![3, 208, 2048]⟩
abbrev S1x208x2048 : Shape := ⟨3, ![1, 208, 2048]⟩
abbrev S208x2048 : Shape := ⟨2, ![208, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S3x1040x2048, .bf16⟩
  | .hbm, ⟨2, _⟩ => ⟨S2x1040x2048, .f32⟩
  | .hbm, ⟨3, _⟩ => ⟨S4x1040x2048, .bf16⟩
  | .hbm, ⟨4, _⟩ => ⟨S2x1040x2048, .f32⟩
  | .local _ .vmem, ⟨0, _⟩ => ⟨S4x208x2048, .bf16⟩
  | .local _ .vmem, ⟨1, _⟩ => ⟨S4x208x2048, .bf16⟩
  | .local _ .vmem, ⟨2, _⟩ => ⟨S3x208x2048, .bf16⟩
  | .local _ .vmem, ⟨3, _⟩ => ⟨S3x208x2048, .bf16⟩
  | .local _ .vmem, ⟨4, _⟩ => ⟨S1x208x2048, .f32⟩
  | .local _ .vmem, ⟨5, _⟩ => ⟨S1x208x2048, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x208x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x208x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x208x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumWinRefIdeal.lean ====
abbrev S4160x2048 : Shape := ⟨2, ![4160, 2048]⟩
abbrev S3x1040x2048 : Shape := ⟨3, ![3, 1040, 2048]⟩
abbrev S2x1040x2048 : Shape := ⟨3, ![2, 1040, 2048]⟩
abbrev S1040x2048 : Shape := ⟨2, ![1040, 2048]⟩
abbrev S_ : Shape := ⟨0, ![]⟩
abbrev S1x1040x2048 : Shape := ⟨3, ![1, 1040, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S3x1040x2048, .bf16⟩
  | .hbm, ⟨2, _⟩ => ⟨S2x1040x2048, .f32⟩
  | .hbm, ⟨3, _⟩ => ⟨S1040x2048, .bf16⟩
  | .hbm, ⟨4, _⟩ => ⟨S1040x2048, .f32⟩
  | .hbm, ⟨5, _⟩ => ⟨S3x1040x2048, .f32⟩
  | .hbm, ⟨6, _⟩ => ⟨S_, .f32⟩
  | .hbm, ⟨7, _⟩ => ⟨S1040x2048, .f32⟩
  | .hbm, ⟨8, _⟩ => ⟨S1040x2048, .f32⟩
  | .hbm, ⟨9, _⟩ => ⟨S1x1040x2048, .f32⟩
  | .hbm, ⟨10, _⟩ => ⟨S1040x2048, .f32⟩
  | .hbm, ⟨11, _⟩ => ⟨S1x1040x2048, .f32⟩
  | .hbm, ⟨12, _⟩ => ⟨S1x1040x2048, .f32⟩
  | .hbm, ⟨13, _⟩ => ⟨S2x1040x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== SumWout.lean ====
abbrev S1024x2048 : Shape := ⟨2, ![1024, 2048]⟩
abbrev S3x256x2048 : Shape := ⟨3, ![3, 256, 2048]⟩
abbrev S4x256x2048 : Shape := ⟨3, ![4, 256, 2048]⟩
abbrev S1x256x2048 : Shape := ⟨3, ![1, 256, 2048]⟩
abbrev S4x128x2048 : Shape := ⟨3, ![4, 128, 2048]⟩
abbrev S3x128x2048 : Shape := ⟨3, ![3, 128, 2048]⟩
abbrev S1x128x2048 : Shape := ⟨3, ![1, 128, 2048]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S3x256x2048, .bf16⟩
  | .hbm, ⟨2, _⟩ => ⟨S4x256x2048, .bf16⟩
  | .hbm, ⟨3, _⟩ => ⟨S1x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S3x128x2048, .bf16⟩
  | .local _ .vmem, ⟨3, _⟩ => ⟨S3x128x2048, .bf16⟩
  | .local _ .vmem, ⟨4, _⟩ => ⟨S1x128x2048, .f32⟩
  | .local _ .vmem, ⟨5, _⟩ => ⟨S1x128x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumWoutRefIdeal.lean ====
abbrev S1024x2048 : Shape := ⟨2, ![1024, 2048]⟩
abbrev S3x256x2048 : Shape := ⟨3, ![3, 256, 2048]⟩
abbrev S256x2048 : Shape := ⟨2, ![256, 2048]⟩
abbrev S_ : Shape := ⟨0, ![]⟩
abbrev S1x256x2048 : Shape := ⟨3, ![1, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S3x256x2048, .bf16⟩
  | .hbm, ⟨2, _⟩ => ⟨S256x2048, .bf16⟩
  | .hbm, ⟨3, _⟩ => ⟨S256x2048, .f32⟩
  | .hbm, ⟨4, _⟩ => ⟨S3x256x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S1x256x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumPack.lean ====
abbrev S512x256 : Shape := ⟨2, ![512, 256]⟩
abbrev S3x128x256 : Shape := ⟨3, ![3, 128, 256]⟩
abbrev S4x128x256 : Shape := ⟨3, ![4, 128, 256]⟩
abbrev S1x128x256 : Shape := ⟨3, ![1, 128, 256]⟩
abbrev S128x256 : Shape := ⟨2, ![128, 256]⟩

abbrev nBuf : Space → Nat
  | .hbm => 4
  | .vmem => 3
  | .smem => 0
  | _ => 0

abbrev bufTy : (tb : Table) → Fin (tcTables nBuf tb) → BufTy
  | .hbm, ⟨0, _⟩ => ⟨S512x256, .bf16⟩
  | .hbm, ⟨1, _⟩ => ⟨S3x128x256, .bf16⟩
  | .hbm, ⟨2, _⟩ => ⟨S4x128x256, .bf16⟩
  | .hbm, ⟨3, _⟩ => ⟨S1x128x256, .f32⟩
  | .local _ .vmem, ⟨0, _⟩ => ⟨S4x128x256, .bf16⟩
  | .local _ .vmem, ⟨1, _⟩ => ⟨S3x128x256, .bf16⟩
  | .local _ .vmem, ⟨2, _⟩ => ⟨S1x128x256, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPackRefIdeal.lean ====
abbrev S512x256 : Shape := ⟨2, ![512, 256]⟩
abbrev S3x128x256 : Shape := ⟨3, ![3, 128, 256]⟩
abbrev S128x256 : Shape := ⟨2, ![128, 256]⟩
abbrev S_ : Shape := ⟨0, ![]⟩
abbrev S1x128x256 : Shape := ⟨3, ![1, 128, 256]⟩

abbrev nBuf : Space → Nat
  | .hbm => 9
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S3x128x256, .bf16⟩
  | .hbm, ⟨2, _⟩ => ⟨S128x256, .bf16⟩
  | .hbm, ⟨3, _⟩ => ⟨S128x256, .f32⟩
  | .hbm, ⟨4, _⟩ => ⟨S3x128x256, .f32⟩
  | .hbm, ⟨5, _⟩ => ⟨S_, .f32⟩
  | .hbm, ⟨6, _⟩ => ⟨S128x256, .f32⟩
  | .hbm, ⟨7, _⟩ => ⟨S128x256, .f32⟩
  | .hbm, ⟨8, _⟩ => ⟨S1x128x256, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LnFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== SibWin.lean ====
abbrev S8320x2048 : Shape := ⟨2, ![8320, 2048]⟩
abbrev S4x1040x2048 : Shape := ⟨3, ![4, 1040, 2048]⟩
abbrev S_ : Shape := ⟨0, ![]⟩
abbrev S1 : Shape := ⟨1, ![1]⟩
abbrev S4x2x1040x2048 : Shape := ⟨4, ![4, 2, 1040, 2048]⟩
abbrev S4160x2048 : Shape := ⟨2, ![4160, 2048]⟩
abbrev S1x1x208x2048 : Shape := ⟨4, ![1, 1, 208, 2048]⟩
abbrev S1x208x2048 : Shape := ⟨3, ![1, 208, 2048]⟩
abbrev S208x2048 : Shape := ⟨2, ![208, 2048]⟩

abbrev nBuf : Space → Nat
  | .hbm => 6
  | .vmem => 6
  | .smem => 1
  | _ => 0

abbrev bufTy : (tb : Table) → Fin (tcTables nBuf tb) → BufTy
  | .hbm, ⟨0, _⟩ => ⟨S8320x2048, .bf16⟩
  | .hbm, ⟨1, _⟩ => ⟨S4x1040x2048, .bf16⟩
  | .hbm, ⟨2, _⟩ => ⟨S_, .i32⟩
  | .hbm, ⟨3, _⟩ => ⟨S1, .i32⟩
  | .hbm, ⟨4, _⟩ => ⟨S4x2x1040x2048, .bf16⟩
  | .hbm, ⟨5, _⟩ => ⟨S4160x2048, .bf16⟩
  | .local _ .vmem, ⟨0, _⟩ => ⟨S1x1x208x2048, .bf16⟩
  | .local _ .vmem, ⟨1, _⟩ => ⟨S1x1x208x2048, .bf16⟩
  | .local _ .vmem, ⟨2, _⟩ => ⟨S1x208x2048, .bf16⟩
  | .local _ .vmem, ⟨3, _⟩ => ⟨S1x208x2048, .bf16⟩
  | .local _ .vmem, ⟨4, _⟩ => ⟨S208x2048, .bf16⟩
  | .local _ .vmem, ⟨5, _⟩ => ⟨S208x2048, .bf16⟩
  | .local _ .smem, ⟨0, _⟩ => ⟨S1, .i32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x208x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x208x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S208x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibWinRefIdeal.lean ====
abbrev S8320x2048 : Shape := ⟨2, ![8320, 2048]⟩
abbrev S4x1040x2048 : Shape := ⟨3, ![4, 1040, 2048]⟩
abbrev S4x2x1040x2048 : Shape := ⟨4, ![4, 2, 1040, 2048]⟩
abbrev S4x1x1040x2048 : Shape := ⟨4, ![4, 1, 1040, 2048]⟩
abbrev S4160x2048 : Shape := ⟨2, ![4160, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S4x1040x2048, .bf16⟩
  | .hbm, ⟨2, _⟩ => ⟨S8320x2048, .f32⟩
  | .hbm, ⟨3, _⟩ => ⟨S4x2x1040x2048, .f32⟩
  | .hbm, ⟨4, _⟩ => ⟨S4x1x1040x2048, .f32⟩
  | .hbm, ⟨5, _⟩ => ⟨S4x1040x2048, .f32⟩
  | .hbm, ⟨6, _⟩ => ⟨S4x1040x2048, .f32⟩
  | .hbm, ⟨7, _⟩ => ⟨S4x1040x2048, .f32⟩
  | .hbm, ⟨8, _⟩ => ⟨S4160x2048, .f32⟩
  | .hbm, ⟨9, _⟩ => ⟨S4160x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SibWout.lean ====
abbrev S2048x2048 : Shape := ⟨2, ![2048, 2048]⟩
abbrev S4x256x2048 : Shape := ⟨3, ![4, 256, 2048]⟩
abbrev S_ : Shape := ⟨0, ![]⟩
abbrev S1 : Shape := ⟨1, ![1]⟩
abbrev S4x2x256x2048 : Shape := ⟨4, ![4, 2, 256, 2048]⟩
abbrev S1024x2048 : Shape := ⟨2, ![1024, 2048]⟩
abbrev S1x1x128x2048 : Shape := ⟨4, ![1, 1, 128, 2048]⟩
abbrev S1x128x2048 : Shape := ⟨3, ![1, 128, 2048]⟩
abbrev S128x2048 : Shape := ⟨2, ![128, 2048]⟩

abbrev nBuf : Space → Nat
  | .hbm => 6
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S4x256x2048, .bf16⟩
  | .hbm, ⟨2, _⟩ => ⟨S_, .i32⟩
  | .hbm, ⟨3, _⟩ => ⟨S1, .i32⟩
  | .hbm, ⟨4, _⟩ => ⟨S4x2x256x2048, .bf16⟩
  | .hbm, ⟨5, _⟩ => ⟨S1024x2048, .bf16⟩
  | .local _ .vmem, ⟨0, _⟩ => ⟨S1x1x128x2048, .bf16⟩
  | .local _ .vmem, ⟨1, _⟩ => ⟨S1x1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .bf16⟩
  | .local _ .vmem, ⟨5, _⟩ => ⟨S128x2048, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibWoutRefIdeal.lean ====
abbrev S2048x2048 : Shape := ⟨2, ![2048, 2048]⟩
abbrev S4x256x2048 : Shape := ⟨3, ![4, 256, 2048]⟩
abbrev S4x2x256x2048 : Shape := ⟨4, ![4, 2, 256, 2048]⟩
abbrev S4x1x256x2048 : Shape := ⟨4, ![4, 1, 256, 2048]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x256x2048, .bf16⟩
  | .hbm, ⟨2, _⟩ => ⟨S2048x2048, .f32⟩
  | .hbm, ⟨3, _⟩ => ⟨S4x2x256x2048, .f32⟩
  | .hbm, ⟨4, _⟩ => ⟨S4x1x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S1024x2048, .f32⟩
  | .hbm, ⟨9, _⟩ => ⟨S1024x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SibPack.lean ====
abbrev S1024x256 : Shape := ⟨2, ![1024, 256]⟩
abbrev S4x128x256 : Shape := ⟨3, ![4, 128, 256]⟩
abbrev S_ : Shape := ⟨0, ![]⟩
abbrev S1 : Shape := ⟨1, ![1]⟩
abbrev S4x2x128x256 : Shape := ⟨4, ![4, 2, 128, 256]⟩
abbrev S512x256 : Shape := ⟨2, ![512, 256]⟩
abbrev S1x1x128x256 : Shape := ⟨4, ![1, 1, 128, 256]⟩
abbrev S1x128x256 : Shape := ⟨3, ![1, 128, 256]⟩
abbrev S128x256 : Shape := ⟨2, ![128, 256]⟩

abbrev nBuf : Space → Nat
  | .hbm => 6
  | .vmem => 6
  | .smem => 1
  | _ => 0

abbrev bufTy : (tb : Table) → Fin (tcTables nBuf tb) → BufTy
  | .hbm, ⟨0, _⟩ => ⟨S1024x256, .bf16⟩
  | .hbm, ⟨1, _⟩ => ⟨S4x128x256, .bf16⟩
  | .hbm, ⟨2, _⟩ => ⟨S_, .i32⟩
  | .hbm, ⟨3, _⟩ => ⟨S1, .i32⟩
  | .hbm, ⟨4, _⟩ => ⟨S4x2x128x256, .bf16⟩
  | .hbm, ⟨5, _⟩ => ⟨S512x256, .bf16⟩
  | .local _ .vmem, ⟨0, _⟩ => ⟨S1x1x128x256, .bf16⟩
  | .local _ .vmem, ⟨1, _⟩ => ⟨S1x1x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S128x256, .bf16⟩
  | .local _ .vmem, ⟨5, _⟩ => ⟨S128x256, .bf16⟩
  | .local _ .smem, ⟨0, _⟩ => ⟨S1, .i32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibPackRefIdeal.lean ====
abbrev S1024x256 : Shape := ⟨2, ![1024, 256]⟩
abbrev S4x128x256 : Shape := ⟨3, ![4, 128, 256]⟩
abbrev S4x2x128x256 : Shape := ⟨4, ![4, 2, 128, 256]⟩
abbrev S4x1x128x256 : Shape := ⟨4, ![4, 1, 128, 256]⟩
abbrev S512x256 : Shape := ⟨2, ![512, 256]⟩

abbrev nBuf : Space → Nat
  | .hbm => 10
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S4x128x256, .bf16⟩
  | .hbm, ⟨2, _⟩ => ⟨S1024x256, .f32⟩
  | .hbm, ⟨3, _⟩ => ⟨S4x2x128x256, .f32⟩
  | .hbm, ⟨4, _⟩ => ⟨S4x1x128x256, .f32⟩
  | .hbm, ⟨5, _⟩ => ⟨S4x128x256, .f32⟩
  | .hbm, ⟨6, _⟩ => ⟨S4x128x256, .f32⟩
  | .hbm, ⟨7, _⟩ => ⟨S4x128x256, .f32⟩
  | .hbm, ⟨8, _⟩ => ⟨S512x256, .f32⟩
  | .hbm, ⟨9, _⟩ => ⟨S512x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SibPackFirst.lean ====
abbrev S1024x128 : Shape := ⟨2, ![1024, 128]⟩
abbrev S4x128x128 : Shape := ⟨3, ![4, 128, 128]⟩
abbrev S_ : Shape := ⟨0, ![]⟩
abbrev S1 : Shape := ⟨1, ![1]⟩
abbrev S4x2x128x128 : Shape := ⟨4, ![4, 2, 128, 128]⟩
abbrev S512x128 : Shape := ⟨2, ![512, 128]⟩
abbrev S1x1x128x128 : Shape := ⟨4, ![1, 1, 128, 128]⟩
abbrev S1x128x128 : Shape := ⟨3, ![1, 128, 128]⟩
abbrev S128x128 : Shape := ⟨2, ![128, 128]⟩

abbrev nBuf : Space → Nat
  | .hbm => 6
  | .vmem => 6
  | .smem => 1
  | _ => 0

abbrev bufTy : (tb : Table) → Fin (tcTables nBuf tb) → BufTy
  | .hbm, ⟨0, _⟩ => ⟨S1024x128, .bf16⟩
  | .hbm, ⟨1, _⟩ => ⟨S4x128x128, .bf16⟩
  | .hbm, ⟨2, _⟩ => ⟨S_, .i32⟩
  | .hbm, ⟨3, _⟩ => ⟨S1, .i32⟩
  | .hbm, ⟨4, _⟩ => ⟨S4x2x128x128, .bf16⟩
  | .hbm, ⟨5, _⟩ => ⟨S512x128, .bf16⟩
  | .local _ .vmem, ⟨0, _⟩ => ⟨S1x1x128x128, .bf16⟩
  | .local _ .vmem, ⟨1, _⟩ => ⟨S1x1x128x128, .bf16⟩
  | .local _ .vmem, ⟨2, _⟩ => ⟨S1x128x128, .bf16⟩
  | .local _ .vmem, ⟨3, _⟩ => ⟨S1x128x128, .bf16⟩
  | .local _ .vmem, ⟨4, _⟩ => ⟨S128x128, .bf16⟩
  | .local _ .vmem, ⟨5, _⟩ => ⟨S128x128, .bf16⟩
  | .local _ .smem, ⟨0, _⟩ => ⟨S1, .i32⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibPackFirstRefIdeal.lean ====
abbrev S1024x128 : Shape := ⟨2, ![1024, 128]⟩
abbrev S4x128x128 : Shape := ⟨3, ![4, 128, 128]⟩
abbrev S4x2x128x128 : Shape := ⟨4, ![4, 2, 128, 128]⟩
abbrev S4x1x128x128 : Shape := ⟨4, ![4, 1, 128, 128]⟩
abbrev S512x128 : Shape := ⟨2, ![512, 128]⟩

abbrev nBuf : Space → Nat
  | .hbm => 10
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S4x128x128, .bf16⟩
  | .hbm, ⟨2, _⟩ => ⟨S1024x128, .f32⟩
  | .hbm, ⟨3, _⟩ => ⟨S4x2x128x128, .f32⟩
  | .hbm, ⟨4, _⟩ => ⟨S4x1x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S512x128, .f32⟩
  | .hbm, ⟨9, _⟩ => ⟨S512x128, .bf16⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== SumPackFirst.lean ====
abbrev S512x128 : Shape := ⟨2, ![512, 128]⟩
abbrev S3x128x128 : Shape := ⟨3, ![3, 128, 128]⟩
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 4
  | .vmem => 3
  | .smem => 0
  | _ => 0

abbrev bufTy : (tb : Table) → Fin (tcTables nBuf tb) → BufTy
  | .hbm, ⟨0, _⟩ => ⟨S512x128, .bf16⟩
  | .hbm, ⟨1, _⟩ => ⟨S3x128x128, .bf16⟩
  | .hbm, ⟨2, _⟩ => ⟨S4x128x128, .bf16⟩
  | .hbm, ⟨3, _⟩ => ⟨S1x128x128, .f32⟩
  | .local _ .vmem, ⟨0, _⟩ => ⟨S4x128x128, .bf16⟩
  | .local _ .vmem, ⟨1, _⟩ => ⟨S3x128x128, .bf16⟩
  | .local _ .vmem, ⟨2, _⟩ => ⟨S1x128x128, .f32⟩
  | _, _ => ⟨S512x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPackFirstRefIdeal.lean ====
abbrev S512x128 : Shape := ⟨2, ![512, 128]⟩
abbrev S3x128x128 : Shape := ⟨3, ![3, 128, 128]⟩
abbrev S128x128 : Shape := ⟨2, ![128, 128]⟩
abbrev S_ : Shape := ⟨0, ![]⟩
abbrev S1x128x128 : Shape := ⟨3, ![1, 128, 128]⟩

abbrev nBuf : Space → Nat
  | .hbm => 9
  | .vmem => 0
  | .smem => 0
  | _ => 0

abbrev bufTy : (tb : Table) → Fin (tcTables nBuf tb) → BufTy
  | .hbm, ⟨0, _⟩ => ⟨S512x128, .bf16⟩
  | .hbm, ⟨1, _⟩ => ⟨S3x128x128, .bf16⟩
  | .hbm, ⟨2, _⟩ => ⟨S128x128, .bf16⟩
  | .hbm, ⟨3, _⟩ => ⟨S128x128, .f32⟩
  | .hbm, ⟨4, _⟩ => ⟨S3x128x128, .f32⟩
  | .hbm, ⟨5, _⟩ => ⟨S_, .f32⟩
  | .hbm, ⟨6, _⟩ => ⟨S128x128, .f32⟩
  | .hbm, ⟨7, _⟩ => ⟨S128x128, .f32⟩
  | .hbm, ⟨8, _⟩ => ⟨S1x128x128, .f32⟩
  | _, _ => ⟨S512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.RwkvIdealOut.lean ====
/-
  The backward call of the RWKV-7 branch, over the extended reals: what each kind of grid point leaves in each of its outputs.
-/
module

public import proofs.«01_k».proof.Proof.Gen.KernelIdeal.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_11 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S64x4224.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).1 S64x4224.size (by sl_kernel_rfl) y

def out0_A_11 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S64x4224 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).1)

theorem cover0_A_12 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S1x4224.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.1 S1x4224.size (by sl_kernel_rfl) y

def out0_A_12 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S1x4224 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.1)

theorem cover0_A_13 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.1 S1x1024.size (by sl_kernel_rfl) y

def out0_A_13 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S1x1024 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.1)

theorem cover0_A_14 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.1 S1x1024.size (by sl_kernel_rfl) y

def out0_A_14 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S1x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.1)

theorem cover0_A_15 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.1 S128x1024.size (by sl_kernel_rfl) y

def out0_A_15 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S128x1024 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.1)

theorem cover0_A_16 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.1 S128x1024.size (by sl_kernel_rfl) y

def out0_A_16 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S128x1024 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.1)

theorem cover0_A_17 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S8x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.1 ![8, 1, 128] (by sl_kernel_rfl) y

def out0_A_17 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S8x8x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.1)

theorem scover0_A_0 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S8x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.2.1 S8x128x128.size (by sl_kernel_rfl) y

def sout0_A_0 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S8x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.2.1)

theorem scover0_A_1 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (y : S1x4224.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.2.2.1 S1x4224.size (by sl_kernel_rfl) y

def sout0_A_1 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) : Vec F S1x4224 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10).2.2.2.2.2.2.2.2.1)

theorem cover0_B_11 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S64x4224.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).1 S64x4224.size (by sl_kernel_rfl) y

def out0_B_11 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S64x4224 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).1)

theorem cover0_B_12 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S1x4224.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.1 S1x4224.size (by sl_kernel_rfl) y

def out0_B_12 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S1x4224 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.1)

theorem cover0_B_13 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.1 S1x1024.size (by sl_kernel_rfl) y

def out0_B_13 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S1x1024 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.1)

theorem cover0_B_14 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.1 S1x1024.size (by sl_kernel_rfl) y

def out0_B_14 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S1x1024 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.1)

theorem cover0_B_15 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.1 S128x1024.size (by sl_kernel_rfl) y

def out0_B_15 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S128x1024 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.1)

theorem cover0_B_16 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.1 S128x1024.size (by sl_kernel_rfl) y

def out0_B_16 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S128x1024 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.1)

def out0_B_17 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S8x8x128 .f32 :=
  arg19.view.read (Elt F) (arg19.view.writes (Elt F) (harg19.unread xo17) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.1)

theorem scover0_B_0 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S8x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.2.1 S8x128x128.size (by sl_kernel_rfl) y

def sout0_B_0 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S8x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.2.1)

theorem scover0_B_1 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) (y : S1x4224.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.2.2.1 S1x4224.size (by sl_kernel_rfl) y

def sout0_B_1 (c : Dev nD) (i : grid0.Coords) (arg2 : Memref sig .tc .vmem S64x4224 .f32) (harg2 : arg2.IsWhole) (arg3 : Memref sig .tc .vmem S8x4224 .f32) (harg3 : arg3.IsWhole) (arg4 : Memref sig .tc .vmem S1x4224 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S8x8x128 .f32) (harg9 : arg9.IsWhole) (arg10 : Memref sig .tc .vmem S1x16x128x128 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x4224 .bf16) (harg13 : arg13.IsWhole) (arg14 : Memref sig .tc .vmem S1x4224 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S8x8x128 .f32) (harg19 : arg19.IsWhole) (arg20 : Memref sig .tc .vmem S8x128x128 .f32) (harg20 : arg20.IsWhole) (arg21 : Memref sig .tc .vmem S1x4224 .f32) (harg21 : arg21.IsWhole) (hc0 : ¬cond0_0 i)
    (x0 : Vec F S64x4224 .f32) (x1 : Vec F S8x4224 .f32) (x2 : Vec F S1x4224 .f32) (x3 : Vec F S1x1024 .f32) (x4 : Vec F S1x1024 .f32) (x5 : Vec F S128x1024 .f32) (x6 : Vec F S128x1024 .f32) (x7 : Vec F S8x8x128 .f32) (x8 : Vec F S1x16x128x128 .f32) (x9 : Vec F S64x1024 .f32) (x10 : Vec F S64x1024 .f32) (xo12 : Vec F S1x4224 .f32) (xo13 : Vec F S1x1024 .f32) (xo14 : Vec F S1x1024 .f32) (xo15 : Vec F S128x1024 .f32) (xo16 : Vec F S128x1024 .f32) (xo17 : Vec F S8x8x128 .f32) (xs0 : Vec F S8x128x128 .f32) (xs1 : Vec F S1x4224 .f32) : Vec F S1x4224 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xo12 xo13 xo14 xo15 xo16 xo17 xs0 xs1).2.2.2.2.2.2.2.2.1)

end Cert.KernelIdeal.Gen

end
-- ==== Proof.RwkvIdealFrame.lean ====
/-
  The backward call of the RWKV-7 branch, over the extended reals: its run point by point, and that it keeps its arguments and leaves every counter
  at zero.
-/
module

public import proofs.«01_k».proof.Proof.RwkvIdealOut
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs and the scratch kept between points hold after each point. -/
def outsAt0 (c : Dev nD) : (n : ℕ) → n < cfg0.N → Vec F S64x4224 .bf16 × Vec F S1x4224 .f32 × Vec F S1x1024 .f32 × Vec F S1x1024 .f32 × Vec F S128x1024 .f32 × Vec F S128x1024 .f32 × Vec F S8x8x128 .f32 × Vec F S8x128x128 .f32 × Vec F S1x4224 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 32 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)

set_option maxHeartbeats 16000000 in
theorem outsAt0_A (c : Dev nD) (t : Fin cfg0.N) (h0 : t.val % 32 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans rfl

set_option maxHeartbeats 16000000 in
theorem outsAt0_B (c : Dev nD) (t : Fin cfg0.N) (h0 : ¬t.val % 32 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_13_B (c : Dev nD) (t : Fin cfg0.N) (h0 : ¬t.val % 32 = 0) (d) :
    (dats m 0 c).before 13 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_B (c : Dev nD) (t : Fin cfg0.N) (h0 : ¬t.val % 32 = 0) (d) :
    (dats m 0 c).before 15 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 32 = 0) (d) :
    (dats m 0 c).before 16 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_11 out0_A_12 out0_A_13 out0_A_14 out0_A_15 out0_A_16 out0_A_17 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_12_B m c t h0, before0_13_B m c t h0, before0_14_B m c t h0, before0_15_B m c t h0, before0_16_B m c t h0, before0_17_B m c t h0]
      unfold out0_B_11 out0_B_12 out0_B_13 out0_B_14 out0_B_15 out0_B_16 out0_B_17 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) _ _ _ _ _ _ _ _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, H17, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The call runs, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Gen

end
-- ==== Proof.SibWinIdealOk.lean ====
/-
  The sum of the input weights' gradient with the sibling place: the word that places the quarters is 0, so every block lies inside its array.
-/
module

public import proofs.«01_k».proof.Defs
public import proofs.«01_k».proof.Proof.Gen.SibWinIdeal.Frame
public import Idealize.ShloMosaic.Lib.Claim

@[expose] public section

set_option maxRecDepth 16384

noncomputable section

namespace Cert.Proof.SibWinIdealOk

open Idealize.ShloMosaic Idealize.ShloMosaic.TcCoe Idealize.SL.Sem
open Cert.SibWinIdeal Cert.SibWinIdeal.Gen

variable {F : FTy → Type} [FloatOps F]

/-- The table, all of it 0. -/
def zeros : pre0.Contents (Elt F) := fun | 0 => fun _ => (0#32 : BitVec 32) | ⟨_ + 1, h⟩ => absurd h (Nat.not_lt.2 (Nat.le_add_left _ _))

/-- The block of the rows that belongs to a grid point. -/
theorem at0 (i : grid0.Coords) : cc0_transform_0 Facts₀.inb_S1_S1_0 Facts₀.numel1_S1 (zeros (F := F)) i = ![(i 0).val, 0, (i 1).val, 0] := by
  have h0 : (i 0).val < 4 := (i 0).isLt
  have h1 : (i 1).val < 5 := (i 1).isLt
  funext a
  fin_cases a
  · show (BitVec.ofNat 32 (i 0).val).toNat = (i 0).val
    rw [BitVec.toNat_ofNat, Nat.mod_eq_of_lt (by omega)]
  · rfl
  · show (BitVec.ofNat 32 (i 1).val).toNat = (i 1).val
    rw [BitVec.toNat_ofNat, Nat.mod_eq_of_lt (by omega)]
  · rfl

theorem inside (i : grid0.Coords) : ∀ a, (cc0_transform_0 Facts₀.inb_S1_S1_0 Facts₀.numel1_S1 (zeros (F := F)) i a + 1) * S1x1x208x2048.size a ≤ S4x2x1040x2048.size a := by
  rw [at0]
  revert i
  decide +kernel

theorem okZeros : ok0 (zeros (F := F)) := by
  unfold ok0
  exact fun i => ⟨inside i, .inr (Affine.block_words_dvd (of_decide_eq_true rfl) (by decide))⟩

/-- The table that the region finds is that one. -/
theorem tblZero (m : (ℓ : Loc nD τ sig) → Buf (Elt F) ℓ) : tbl m = zeros := by
  funext j
  obtain rfl : j = 0 := Subsingleton.elim (α := Fin 1) j 0
  funext x
  show V m (0 : Dev nD) main_v1 x = (0#32 : BitVec 32)
  entry_read
  rfl

theorem ok (m : (ℓ : Loc nD τ sig) → Buf (Elt F) ℓ) : Ok m := by
  show ok0 (tbl m)
  rw [tblZero]
  exact okZeros

end Cert.Proof.SibWinIdealOk

end
-- ==== Proof.SibWoutIdealOk.lean ====
/-
  The sum of the output weights' gradient with the sibling place: the word that places the quarters is 0, so every block lies inside its array.
-/
module

public import proofs.«01_k».proof.Defs
public import proofs.«01_k».proof.Proof.Gen.SibWoutIdeal.Frame
public import Idealize.ShloMosaic.Lib.Claim

@[expose] public section

set_option maxRecDepth 16384

noncomputable section

namespace Cert.Proof.SibWoutIdealOk

open Idealize.ShloMosaic Idealize.ShloMosaic.TcCoe Idealize.SL.Sem
open Cert.SibWoutIdeal Cert.SibWoutIdeal.Gen

variable {F : FTy → Type} [FloatOps F]

/-- The table, all of it 0. -/
def zeros : pre0.Contents (Elt F) := fun | 0 => fun _ => (0#32 : BitVec 32) | ⟨_ + 1, h⟩ => absurd h (Nat.not_lt.2 (Nat.le_add_left _ _))

/-- The block of the rows that belongs to a grid point. -/
theorem at0 (i : grid0.Coords) : cc0_transform_0 Facts₀.inb_S1_S1_0 Facts₀.numel1_S1 (zeros (F := F)) i = ![(i 0).val, 0, (i 1).val, 0] := by
  have h0 : (i 0).val < 4 := (i 0).isLt
  have h1 : (i 1).val < 2 := (i 1).isLt
  funext a
  fin_cases a
  · show (BitVec.ofNat 32 (i 0).val).toNat = (i 0).val
    rw [BitVec.toNat_ofNat, Nat.mod_eq_of_lt (by omega)]
  · rfl
  · show (BitVec.ofNat 32 (i 1).val).toNat = (i 1).val
    rw [BitVec.toNat_ofNat, Nat.mod_eq_of_lt (by omega)]
  · rfl

theorem inside (i : grid0.Coords) : ∀ a, (cc0_transform_0 Facts₀.inb_S1_S1_0 Facts₀.numel1_S1 (zeros (F := F)) i a + 1) * S1x1x128x2048.size a ≤ S4x2x256x2048.size a := by
  rw [at0]
  revert i
  decide +kernel

theorem okZeros : ok0 (zeros (F := F)) := by
  unfold ok0
  exact fun i => ⟨inside i, .inr (Affine.block_words_dvd (of_decide_eq_true rfl) (by decide))⟩

/-- The table that the region finds is that one. -/
theorem tblZero (m : (ℓ : Loc nD τ sig) → Buf (Elt F) ℓ) : tbl m = zeros := by
  funext j
  obtain rfl : j = 0 := Subsingleton.elim (α := Fin 1) j 0
  funext x
  show V m (0 : Dev nD) main_v1 x = (0#32 : BitVec 32)
  entry_read
  rfl

theorem ok (m : (ℓ : Loc nD τ sig) → Buf (Elt F) ℓ) : Ok m := by
  show ok0 (tbl m)
  rw [tblZero]
  exact okZeros

end Cert.Proof.SibWoutIdealOk

end
-- ==== Proof.SibPackIdealOk.lean ====
/-
  The sum of the packed small gradients with the sibling place: the word that places the quarters is 0, so every block lies inside its array.
-/
module

public import proofs.«01_k».proof.Defs
public import proofs.«01_k».proof.Proof.Gen.SibPackIdeal.Frame
public import Idealize.ShloMosaic.Lib.Claim

@[expose] public section

set_option maxRecDepth 16384

noncomputable section

namespace Cert.Proof.SibPackIdealOk

open Idealize.ShloMosaic Idealize.ShloMosaic.TcCoe Idealize.SL.Sem
open Cert.SibPackIdeal Cert.SibPackIdeal.Gen

variable {F : FTy → Type} [FloatOps F]

/-- The table, all of it 0. -/
def zeros : pre0.Contents (Elt F) := fun | 0 => fun _ => (0#32 : BitVec 32) | ⟨_ + 1, h⟩ => absurd h (Nat.not_lt.2 (Nat.le_add_left _ _))

/-- The block of the rows that belongs to a grid point. -/
theorem at0 (i : grid0.Coords) : cc0_transform_0 Facts₀.inb_S1_S1_0 Facts₀.numel1_S1 (zeros (F := F)) i = ![(i 0).val, 0, (i 1).val, 0] := by
  have h0 : (i 0).val < 4 := (i 0).isLt
  have h1 : (i 1).val < 1 := (i 1).isLt
  funext a
  fin_cases a
  · show (BitVec.ofNat 32 (i 0).val).toNat = (i 0).val
    rw [BitVec.toNat_ofNat, Nat.mod_eq_of_lt (by omega)]
  · rfl
  · show (BitVec.ofNat 32 (i 1).val).toNat = (i 1).val
    rw [BitVec.toNat_ofNat, Nat.mod_eq_of_lt (by omega)]
  · rfl

theorem inside (i : grid0.Coords) : ∀ a, (cc0_transform_0 Facts₀.inb_S1_S1_0 Facts₀.numel1_S1 (zeros (F := F)) i a + 1) * S1x1x128x256.size a ≤ S4x2x128x256.size a := by
  rw [at0]
  revert i
  decide +kernel

theorem okZeros : ok0 (zeros (F := F)) := by
  unfold ok0
  exact fun i => ⟨inside i, .inr (Affine.block_words_dvd (of_decide_eq_true rfl) (by decide))⟩

/-- The table that the region finds is that one. -/
theorem tblZero (m : (ℓ : Loc nD τ sig) → Buf (Elt F) ℓ) : tbl m = zeros := by
  funext j
  obtain rfl : j = 0 := Subsingleton.elim (α := Fin 1) j 0
  funext x
  show V m (0 : Dev nD) main_v1 x = (0#32 : BitVec 32)
  entry_read
  rfl

theorem ok (m : (ℓ : Loc nD τ sig) → Buf (Elt F) ℓ) : Ok m := by
  show ok0 (tbl m)
  rw [tblZero]
  exact okZeros

end Cert.Proof.SibPackIdealOk

end
-- ==== Proof.SibPackFirstIdealOk.lean ====
/-
  The sum of the first layer's packed small gradients with the sibling place: the word that places the quarters is 0, so every block lies inside its array.
-/
module

public import proofs.«01_k».proof.Defs
public import proofs.«01_k».proof.Proof.Gen.SibPackFirstIdeal.Frame
public import Idealize.ShloMosaic.Lib.Claim

@[expose] public section

set_option maxRecDepth 16384

noncomputable section

namespace Cert.Proof.SibPackFirstIdealOk

open Idealize.ShloMosaic Idealize.ShloMosaic.TcCoe Idealize.SL.Sem
open Cert.SibPackFirstIdeal Cert.SibPackFirstIdeal.Gen

variable {F : FTy → Type} [FloatOps F]

/-- The table, all of it 0. -/
def zeros : pre0.Contents (Elt F) := fun | 0 => fun _ => (0#32 : BitVec 32) | ⟨_ + 1, h⟩ => absurd h (Nat.not_lt.2 (Nat.le_add_left _ _))

/-- The block of the rows that belongs to a grid point. -/
theorem at0 (i : grid0.Coords) : cc0_transform_0 Facts₀.inb_S1_S1_0 Facts₀.numel1_S1 (zeros (F := F)) i = ![(i 0).val, 0, (i 1).val, 0] := by
  have h0 : (i 0).val < 4 := (i 0).isLt
  have h1 : (i 1).val < 1 := (i 1).isLt
  funext a
  fin_cases a
  · show (BitVec.ofNat 32 (i 0).val).toNat = (i 0).val
    rw [BitVec.toNat_ofNat, Nat.mod_eq_of_lt (by omega)]
  · rfl
  · show (BitVec.ofNat 32 (i 1).val).toNat = (i 1).val
    rw [BitVec.toNat_ofNat, Nat.mod_eq_of_lt (by omega)]
  · rfl

theorem inside (i : grid0.Coords) : ∀ a, (cc0_transform_0 Facts₀.inb_S1_S1_0 Facts₀.numel1_S1 (zeros (F := F)) i a + 1) * S1x1x128x128.size a ≤ S4x2x128x128.size a := by
  rw [at0]
  revert i
  decide +kernel

theorem okZeros : ok0 (zeros (F := F)) := by
  unfold ok0
  exact fun i => ⟨inside i, .inr (Affine.block_words_dvd (of_decide_eq_true rfl) (by decide))⟩

/-- The table that the region finds is that one. -/
theorem tblZero (m : (ℓ : Loc nD τ sig) → Buf (Elt F) ℓ) : tbl m = zeros := by
  funext j
  obtain rfl : j = 0 := Subsingleton.elim (α := Fin 1) j 0
  funext x
  show V m (0 : Dev nD) main_v1 x = (0#32 : BitVec 32)
  entry_read
  rfl

theorem ok (m : (ℓ : Loc nD τ sig) → Buf (Elt F) ℓ) : Ok m := by
  show ok0 (tbl m)
  rw [tblZero]
  exact okZeros

end Cert.Proof.SibPackFirstIdealOk

end
-- ==== Proof.Out.lean ====
/-
  The output product, `cat · w_out`: the left operand's tile is rounded into scratch at a row tile's first point and read from there
  at its other point; after the run the result array is the reference's product.
-/
module

public import proofs.«01_k».proof.Defs
public import proofs.«01_k».proof.Proof.Gen.OutIdeal.Frame
public import proofs.«01_k».proof.Proof.Gen.OutRefIdeal.Run
public import Idealize.ShloMosaic.Lib.Pipeline.ValueKit
public import Idealize.ShloMosaic.Lib.Claim

@[expose] public section

set_option maxRecDepth 16384

noncomputable section

namespace Cert.Proof.Out

open Idealize.ShloMosaic Idealize.ShloMosaic.TcCoe Idealize.SL.Sem
open Idealize.ShloMosaic.Pipeline (Dat)
open Cert.OutIdeal Cert.OutIdeal.Gen

variable (m : (ℓ : Loc nD τ sig) → Buf (Elt Ideal) ℓ)

/-- The reference's result as a function of the two arguments. -/
abbrev REF (X : FVec Ideal ⟨2, ![2048, 2048]⟩ .f32) (W : FVec Ideal ⟨2, ![2048, 2048]⟩ .bf16) : FVec Ideal ⟨2, ![2048, 2048]⟩ .f32 :=
  Host.dotGeneral Cert.OutRefIdeal.dot_S2048x2048_S2048x2048_S2048x2048_1_0_0_1_n_n none X (extf .f32 W Cert.OutRefIdeal.Gen.bitsLt_bf16_f32)

/-- Which block each window holds at each grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Reading the scratch buffer that holds `X` whole gives `X`. -/
theorem scr (X : Vec Ideal S1024x2048 .bf16) (h : (Memref.whole cc0_scratch0).IsWhole) :
    View.read (Elt Ideal) (View.whole cc0_scratch0) (h.unread X) = X := h.read_unread X

/-- The scratch after a row tile's first point: the tile, rounded. -/
theorem scratch (c : Dev nD) (t : Fin cfg0.N) (h : t.val % 2 = 0) :
    (outsAt0 m c t.val t.isLt).2 = k0_pay1 (iblk m c 0 t) := by
  rw [outsAt0_A m c t h]; frame_out

/-- What a point leaves in the result's block: the tile of the row tile's first point times the point's weight tile. -/
theorem block (c : Dev nD) (t : Fin cfg0.N) (s : Fin cfg0.N) (hs : s.val = 2 * (t.val / 2)) :
    (outsAt0 m c t.val t.isLt).1 = k0_pay2 (k0_pay1 (iblk m c 0 s)) (iblk m c 1 t) := by
  by_cases h : t.val % 2 = 0
  · obtain rfl : s = t := Fin.ext (by omega)
    rw [outsAt0_A m c s h]; frame_out
  · have hs' : s = ⟨t.val - 1, Nat.lt_of_le_of_lt (Nat.sub_le _ _) t.isLt⟩ := Fin.ext (by show s.val = t.val - 1; omega)
    rw [outsAt0_B m c t h]; frame_out
    rw [scr, hs', ← scratch m c ⟨t.val - 1, _⟩ (by show (t.val - 1) % 2 = 0; omega)]

/-- The block written at a grid point is the reference's result there. -/
theorem point (c : Dev nD) (t s : Fin cfg0.N) (hs : s.val = 2 * (t.val / 2)) (y) :
    k0_pay2 (k0_pay1 (iblk m c 0 s)) (iblk m c 1 t) y
      = REF (m ((c : Thread nD τ).loc main_arg0)) (m ((c : Thread nD τ).loc main_arg1)) (((cfg0.win 2).blk t).view.emb y) := by
  have hd : s.val / 2 = t.val / 2 := by omega
  pointwise [k0_pay1, k0_pay2, REF]
  blk_point [iblk, V, idx t, idx s, hd]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  have ht : t.val < cfg0.N := t.isLt
  rw [after0_2, block m c t ⟨2 * (t.val / 2), by omega⟩ rfl]
  exact point m c t _ rfl y

end Cert.Proof.Out

namespace Cert.Proof

open Idealize.ShloMosaic Idealize.SL.Sem

theorem algebraicOut : Cert.algebraic_OutIdeal_OutRefIdeal (hOutIdeal := Cert.OutIdeal.Gen.facts) (hOutRefIdeal := Cert.OutRefIdeal.Gen.facts) := by
  pair_intro
  · run_from Cert.OutIdeal.Gen.run_main m g
  · run_from Cert.OutRefIdeal.Value.run m' g'
    exact (Cert.Proof.Out.final m _).symm

end Cert.Proof

end
-- ==== Proof.Dwout.lean ====
/-
  The gradient of the output product's weight, `catᵀ · dy`: after the run the result array is the reference's product.
-/
module

public import proofs.«01_k».proof.Defs
public import proofs.«01_k».proof.Proof.Gen.DwoutIdeal.Frame
public import proofs.«01_k».proof.Proof.Gen.DwoutRefIdeal.Run
public import Idealize.ShloMosaic.Lib.Pipeline.ValueKit
public import Idealize.ShloMosaic.Lib.Claim

@[expose] public section

set_option maxRecDepth 16384

noncomputable section

namespace Cert.Proof.Dwout

open Idealize.ShloMosaic Idealize.ShloMosaic.TcCoe Idealize.SL.Sem
open Idealize.ShloMosaic.Pipeline (Dat)
open Cert.DwoutIdeal Cert.DwoutIdeal.Gen

variable (m : (ℓ : Loc nD τ sig) → Buf (Elt Ideal) ℓ)

/-- The reference's result as a function of the two arguments. -/
abbrev REF (X : FVec Ideal ⟨2, ![2048, 2048]⟩ .f32) (W : FVec Ideal ⟨2, ![2048, 2048]⟩ .bf16) : FVec Ideal ⟨2, ![2048, 2048]⟩ .bf16 :=
  truncf .bf16 (transpose ⟨2, ![2048, 2048]⟩ [1, 0] (Host.dotGeneral Cert.DwoutRefIdeal.dot_S2048x2048_S2048x2048_S2048x2048_0_0_1_1_n_n none (extf .f32 W Cert.DwoutRefIdeal.Gen.bitsLt_bf16_f32) X) Cert.DwoutRefIdeal.Gen.transposes_S2048x2048_S2048x2048_1_0) Cert.DwoutRefIdeal.Gen.bitsLt_bf16_f32

/-- Which block each window holds at each grid point. -/
theorem idx : ∀ t : Fin cfg0.N, win0_0.index t = ![0, t.val] ∧ win0_1.index t = ![0, 0] ∧ win0_2.index t = ![t.val, 0] :=
  (by decide +kernel : ∀ t : Fin grid0.N, _)

/-- The block written at a grid point is the reference's result there. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  refine (Finset.sum_congr rfl fun k _ => mul_comm _ _).trans ?_
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.Dwout

namespace Cert.Proof

open Idealize.ShloMosaic Idealize.SL.Sem

theorem algebraicDwout : Cert.algebraic_DwoutIdeal_DwoutRefIdeal (hDwoutIdeal := Cert.DwoutIdeal.Gen.facts) (hDwoutRefIdeal := Cert.DwoutRefIdeal.Gen.facts) := by
  pair_intro
  · run_from Cert.DwoutIdeal.Gen.run_main m g
  · run_from Cert.DwoutRefIdeal.Value.run m' g'
    exact (Cert.Proof.Dwout.final m _).symm

end Cert.Proof

end
-- ==== Proof.SibWout.lean ====
/-
  The sum of the output weights' gradient with the sibling place: of every pair of parts this place's own half, and the part that arrived.
-/
module

public import proofs.«01_k».proof.Defs
public import proofs.«01_k».proof.Proof.SibWoutIdealOk
public import proofs.«01_k».proof.Proof.Gen.SibWoutIdeal.Frame
public import proofs.«01_k».proof.Proof.Gen.SibWoutRefIdeal.Run
public import proofs.«01_k».proof.Proof.Gen.SibWoutRefIdeal.Read
public import Idealize.ShloMosaic.Lib.Pipeline.ValueKit
public import Idealize.ShloMosaic.Lib.Claim

@[expose] public section

set_option maxRecDepth 16384

noncomputable section

namespace Cert.Proof.SibWout

open Idealize.ShloMosaic Idealize.ShloMosaic.TcCoe Idealize.SL.Sem
open Idealize.ShloMosaic.Pipeline (Dat)
open Cert.SibWoutIdeal Cert.SibWoutIdeal.Gen

variable (m : (ℓ : Loc nD τ sig) → Buf (Elt Ideal) ℓ)

/-- This place's rows: four pairs of parts. -/
abbrev own (c : Dev nD) : FVec Ideal ⟨2, ![2048, 2048]⟩ .bf16 := m ((c : Thread nD τ).loc main_arg0)

/-- The four parts that came from the sibling place. -/
abbrev got (c : Dev nD) : FVec Ideal ⟨3, ![4, 256, 2048]⟩ .bf16 := m ((c : Thread nD τ).loc main_arg1)

/-- The pipeline, its table read. -/
abbrev hO : Ok m := Cert.Proof.SibWoutIdealOk.ok m
abbrev cf : Pipeline.Cfg sig Λ₀ := cfgM m (hO m)

/-- The coordinates of a grid point. -/
theorem coords : ∀ t : Fin grid0.N, (grid0.coords t 0).val = t.val / 2 ∧ (grid0.coords t 1).val = t.val % 2 := by decide +kernel

/-- Which block each window holds at each grid point. -/
theorem idx0 (t : Fin (cf m).N) : ((cf m).win 0).index t = ![t.val / 2, 0, t.val % 2, 0] := by
  show cc0_transform_0 Facts₀.inb_S1_S1_0 Facts₀.numel1_S1 (tbl m) (grid0.coords t) = _
  rw [Cert.Proof.SibWoutIdealOk.tblZero, Cert.Proof.SibWoutIdealOk.at0, (coords t).1, (coords t).2]

theorem tr1 : ∀ t : Fin grid0.N, cc0_transform_1 (grid0.coords t) = ![t.val / 2, t.val % 2, 0] := by decide +kernel

theorem tr2 : ∀ t : Fin grid0.N, cc0_transform_2 (grid0.coords t) = ![t.val, 0] := by decide +kernel

theorem idx1 (t : Fin (cf m).N) : ((cf m).win 1).index t = ![t.val / 2, t.val % 2, 0] := tr1 t

theorem idx2 (t : Fin (cf m).N) : ((cf m).win 2).index t = ![t.val, 0] := tr2 t

theorem lt (t : Fin (cf m).N) : t.val < 8 := t.isLt

/-- The part, the row of it, and the row of the result, that a tile's row is. -/
abbrev q_ (t : Fin (cf m).N) : Fin 4 := ⟨t.val / 2, by have := lt m t; omega⟩
abbrev at_ (t : Fin (cf m).N) (r : Fin 128) : Fin 256 := ⟨t.val % 2 * 128 + r.val, by omega⟩
abbrev to_ (t : Fin (cf m).N) (r : Fin 128) : Fin 1024 := ⟨t.val * 128 + r.val, by have := lt m t; omega⟩

/-- A row of the first part of a pair, among all rows. -/
abbrev up (q : Fin 4) (r : Fin 256) : Fin 2048 := ⟨q.val * 512 + r.val, by omega⟩

/-- What the body makes of its slices. -/
theorem pay (X : FVec Ideal ⟨4, ![1, 1, 128, 2048]⟩ .bf16) (Y : FVec Ideal ⟨3, ![1, 128, 2048]⟩ .bf16) (r : Fin 128) (j : Fin 2048) :
    k0_pay1 (F := Ideal) X Y (ix2 r j) = X (ix4 0 0 r j) + Y (ix3 0 r j) := by
  pointwise [k0_pay1]

open Cert.SibWoutRefIdeal.Read in
/-- What the reference computes. -/
theorem ref (G : FVec Ideal ⟨2, ![2048, 2048]⟩ .bf16) (R : FVec Ideal ⟨3, ![4, 256, 2048]⟩ .bf16) (k : Fin 1024) (j : Fin 2048) :
    Cert.SibWoutRefIdeal.Read.val_main_v7 (F := Ideal) G R (ix2 k j)
      = G (ix2 (up ⟨k.val / 256, by omega⟩ ⟨k.val % 256, by omega⟩) j) + R (ix3 ⟨k.val / 256, by omega⟩ ⟨k.val % 256, by omega⟩ j) := by
  pointwise [val_main_v0, val_main_v1, val_main_v2, val_main_v3, val_main_v4, val_main_v5, val_main_v6, val_main_v7]

/-- The rows after they were split in parts. -/
theorem split (c : Dev nD) (q : Fin 4) (r : Fin 256) (j : Fin 2048) : (V m c main_v2 : FVec Ideal ⟨4, ![4, 2, 256, 2048]⟩ .bf16) (ix4 q 0 r j) = own m c (ix2 (up q r) j) := by
  entry_read
  pointwise

theorem readOwn (c : Dev nD) (t : Fin (cf m).N) (r : Fin 128) (j : Fin 2048) :
    (iblk m (hO m) c 0 t : FVec Ideal ⟨4, ![1, 1, 128, 2048]⟩ .bf16) (ix4 0 0 r j) = own m c (ix2 (up (q_ m t) (at_ m t r)) j) := by
  refine Eq.trans ?_ (split m c (q_ m t) (at_ m t r) j)
  blk_ext [iblk, idx0 m t]

theorem readGot (c : Dev nD) (t : Fin (cf m).N) (r : Fin 128) (j : Fin 2048) :
    (iblk m (hO m) c 1 t : FVec Ideal ⟨3, ![1, 128, 2048]⟩ .bf16) (ix3 0 r j) = got m c (ix3 (q_ m t) (at_ m t r) j) := by
  blk_ext [iblk, V, idx1 m t]

/-- Every block of the result is written. -/
theorem covers : ((cf m).win 2).Covers := by
  have key : ∀ a : (pcfg0 (F := Ideal)).Adm, a = ⟨Cert.Proof.SibWoutIdealOk.zeros, Cert.Proof.SibWoutIdealOk.okZeros⟩ → ((cfg0 a).win 2).Covers := by
    rintro _ rfl
    decide +kernel
  exact key _ (Subtype.ext (Cert.Proof.SibWoutIdealOk.tblZero m))

/-- What a grid point leaves of its tile. -/
theorem out (c : Dev nD) (t : Fin (cf m).N) (r : Fin 128) (j : Fin 2048) :
    (outsAt0 m (hO m) c t : FVec Ideal ⟨2, ![128, 2048]⟩ .bf16) (ix2 r j) = own m c (ix2 (up (q_ m t) (at_ m t r)) j) + got m c (ix3 (q_ m t) (at_ m t r) j) := by
  unfold outsAt0
  frame_out
  refine (pay _ _ r j).trans ?_
  exact congrArg₂ (fun a b : EReal => a + b) ((congrFun ((hs0_0 m (hO m) t).read_unread (Val := Elt Ideal) (iblk m (hO m) c 0 t)) (ix4 0 0 r j)).trans (readOwn m c t r j))
    ((congrFun ((hs0_1 m (hO m) t).read_unread (Val := Elt Ideal) (iblk m (hO m) c 1 t)) (ix3 0 r j)).trans (readGot m c t r j))

/-- Where a tile's element lies in the result. -/
theorem dest (t : Fin (cf m).N) (r : Fin 128) (j : Fin 2048) : (((cf m).win 2).blk t).view.emb (ix2 r j) = ix2 (to_ m t r) j := by
  blk_ext [idx2 m t]

theorem place (t : Fin (cf m).N) (r : Fin 128) : (to_ m t r).val / 256 = (q_ m t).val ∧ (to_ m t r).val % 256 = (at_ m t r).val := by
  have h := lt m t
  have h' := r.isLt
  show (t.val * 128 + r.val) / 256 = t.val / 2 ∧ (t.val * 128 + r.val) % 256 = t.val % 2 * 128 + r.val
  omega

theorem want (c : Dev nD) (t : Fin (cf m).N) (r : Fin 128) (j : Fin 2048) :
    Cert.SibWoutRefIdeal.Read.val_main_v7 (F := Ideal) (own m c) (got m c) (ix2 (to_ m t r) j) = own m c (ix2 (up (q_ m t) (at_ m t r)) j) + got m c (ix3 (q_ m t) (at_ m t r) j) := by
  rw [ref, show (⟨(to_ m t r).val / 256, by omega⟩ : Fin 4) = q_ m t from Fin.ext (place m t r).1, show (⟨(to_ m t r).val % 256, by omega⟩ : Fin 256) = at_ m t r from Fin.ext (place m t r).2]

theorem pt (c : Dev nD) (t : Fin (cf m).N) (x : (⟨2, ![128, 2048]⟩ : Shape).Idx) :
    (outsAt0 m (hO m) c t : FVec Ideal ⟨2, ![128, 2048]⟩ .bf16) x = Cert.SibWoutRefIdeal.Read.val_main_v7 (F := Ideal) (own m c) (got m c) ((((cf m).win 2).blk t).view.emb x) := by
  obtain ⟨r, j, rfl⟩ : ∃ r j, x = ix2 r j := ⟨x 0, x 1, eq_ix2 x⟩
  rw [out, dest, want]

/-- The result array after the run. -/
theorem final (c : Dev nD) : (dats m (hO m) 0 c).arrAt 2 (cf m).N = Cert.SibWoutRefIdeal.Read.val_main_v7 (F := Ideal) (own m c) (got m c) := by
  refine (dats m (hO m) 0 c).arrAt_eq_of_covers 2 _ (covers m) ?_
  intro t ht x
  blk_simp
  rw [after0_2]
  exact pt m c t x

/-- The run, its result read. -/
theorem ends (g : Dev nD → PrngReg) : θ_run defs (onTc (τ := τ) (main (F := Ideal))) ⟨m, fun _ => 0, g⟩ (fun r => ∀ c : Dev nD,
      r.2.mem ((c : Thread nD τ).loc main_v3) = Cert.SibWoutRefIdeal.Read.val_main_v7 (F := Ideal) (own m c) (got m c)) :=
  (θ_run defs _ _).mono (fun _ h c => ((h c).1 2).trans (final m c)) (run_main m g (hO m))

end Cert.Proof.SibWout

namespace Cert.Proof

open Idealize.ShloMosaic Idealize.SL.Sem

theorem algebraicSibWout : Cert.algebraic_SibWoutIdeal_SibWoutRefIdeal (hSibWoutIdeal := Cert.SibWoutIdeal.Gen.facts) (hSibWoutRefIdeal := Cert.SibWoutRefIdeal.Gen.facts) := by
  pair_intro
  · run_from Cert.Proof.SibWout.ends m g & Cert.SibWoutIdeal.Gen.unchanged m g (Cert.Proof.SibWoutIdealOk.ok m)
  · run_from Cert.SibWoutRefIdeal.Value.run m' g'
    rfl

end Cert.Proof

end
-- ==== Proof.NormRow.lean ====
/-
  Layer normalisation of one row of 2048 elements and its gradient, over the extended reals: the functions of a row that both
  the backward calls of the norm and the references compute.
-/
module

public import proofs.«01_k».proof.Defs
public import Idealize.ShloMosaic.Lib.Pipeline.ValueKit

@[expose] public section

noncomputable section

namespace Cert.Proof.NormRow

open Idealize.ShloMosaic

/-- A row of 2048 elements. -/
abbrev Row := Fin 2048 → Ideal .f32

/-- Row `r` of an array with 2048 columns. -/
abbrev row {n : ℕ} (X : FVec Ideal ⟨2, ![n, 2048]⟩ .f32) (r : Fin n) : Row := fun j => X (ix2 r j)

/-- The number of columns, 2048. -/
abbrev cols : Ideal .f32 := Ideal.ofBits .f32 0x45000000#32

variable (h y w g : Row)

/-- What is normalised: `α · h + y`. -/
def u (j : Fin 2048) : Ideal .f32 := Ideal.ofBits .f32 0x3FB504F3#32 * h j + y j

/-- Its mean. -/
def mean : Ideal .f32 := Ideal.div (∑ j, u h y j) cols

/-- Its deviation from the mean. -/
def dev (j : Fin 2048) : Ideal .f32 := u h y j - mean h y

/-- The variance plus the small constant. -/
def var : Ideal .f32 := Ideal.div (∑ j, dev h y j * dev h y j) cols + Ideal.ofBits .f32 0x3727C5AC#32

/-- One over the standard deviation. -/
def rstd : Ideal .f32 := Ideal.rsqrt (var h y)

/-- The derivative of `rstd` by the variance. -/
def drstd : Ideal .f32 := Ideal.ofBits .f32 0xBF000000#32 * Ideal.div (rstd h y) (var h y)

/-- The normalised row. -/
def unit (j : Fin 2048) : Ideal .f32 := dev h y j * rstd h y

/-- The gradient of the normalised row, before the scaling. -/
def gw (j : Fin 2048) : Ideal .f32 := g j * w j

/-- The gradient that reaches the deviation directly. -/
def direct (j : Fin 2048) : Ideal .f32 := gw w g j * rstd h y

/-- The gradient of the variance, over the number of columns. -/
def dvar : Ideal .f32 := Ideal.div ((∑ j, dev h y j * gw w g j) * drstd h y) cols

/-- The gradient that reaches the deviation through the variance. -/
def through (j : Fin 2048) : Ideal .f32 := dvar h y w g * (Ideal.ofBits .f32 0x40000000#32 * dev h y j)

/-- The gradient of the mean, over the number of columns. -/
def dmean : Ideal .f32 := Ideal.div ((∑ j, -direct h y w g j) + ∑ j, -through h y w g j) cols

/-- The gradient of the row that is normalised. -/
def grad (j : Fin 2048) : Ideal .f32 := direct h y w g j + through h y w g j + dmean h y w g

end Cert.Proof.NormRow

end
-- ==== Proof.LnFwd.lean ====
/-
  The forward pass's layer normalisation over the residual sum, against the reference: each row is normalised on its own.
-/
module

public import proofs.«01_k».proof.Defs
public import proofs.«01_k».proof.Proof.Gen.LnFwdIdeal.Frame
public import proofs.«01_k».proof.Proof.Gen.LnFwdRefIdeal.Run
public import proofs.«01_k».proof.Proof.Gen.LnFwdRefIdeal.Read
public import proofs.«01_k».proof.Proof.NormRow
public import Idealize.ShloMosaic.Lib.Pipeline.ValueKit
public import Idealize.ShloMosaic.Lib.Claim

@[expose] public section

set_option maxRecDepth 16384

noncomputable section

namespace Cert.Proof.LnFwd

open Idealize.ShloMosaic Idealize.ShloMosaic.TcCoe Idealize.SL.Sem
open Idealize.ShloMosaic.Pipeline (Dat)
open Cert.LnFwdIdeal Cert.LnFwdIdeal.Gen Cert.Proof.NormRow

abbrev Arr := FVec Ideal ⟨2, ![2048, 2048]⟩ .f32
abbrev Blk := FVec Ideal ⟨2, ![256, 2048]⟩ .f32
abbrev Vec1 := FVec Ideal ⟨2, ![1, 2048]⟩ .f32

/-- The norm of a row, scaled and shifted. -/
def norm (h y w b : Row) (j : Fin 2048) : Ideal .f32 := unit h y j * w j + b j

/-- What the body makes of its blocks. -/
theorem pay1 (h y : Blk) (w b : Vec1) (r : Fin 256) (j : Fin 2048) :
    k0_pay1 (F := Ideal) h y w b (ix2 r j) = norm (row h r) (row y r) (row w 0) (row b 0) j := by
  unfold norm unit rstd var dev mean u; pointwise [k0_pay1]

namespace Ref
open Cert.LnFwdRefIdeal.Read
variable (h y : Arr) (w b : Vec1) (r j : Fin 2048)

theorem at2 : val_main_v2 (F := Ideal) h y (ix2 r j) = u (row h r) (row y r) j := by
  unfold u; pointwise [val_main_v2, val_main_v1, val_main_v0, val_main_cst]

theorem at6 (l : Fin 1) : val_main_v6 (F := Ideal) h y (ix2 r l) = mean (row h r) (row y r) := by
  unfold mean; pointwise [val_main_v6, val_main_v5, val_main_v4, val_main_v3, val_main_cst_0, val_main_cst_1]; simp only [at2]

theorem at8 : val_main_v8 (F := Ideal) h y (ix2 r j) = dev (row h r) (row y r) j := by
  unfold dev; pointwise [val_main_v8, val_main_v7]; simp only [at2, at6]

theorem at15 : val_main_v15 (F := Ideal) h y (ix2 r j) = dev (row h r) (row y r) j := by
  unfold dev; pointwise [val_main_v15, val_main_v14]; simp only [at2, at6]

theorem at18 (l : Fin 1) : val_main_v18 (F := Ideal) h y (ix2 r l) = rstd (row h r) (row y r) := by
  unfold rstd var
  pointwise [val_main_v18, val_main_v17, val_main_v16, val_main_v13, val_main_v12, val_main_v11, val_main_v10, val_main_v9, val_main_cst_2, val_main_cst_3, val_main_cst_4]
  simp only [at8]

/-- What the reference computes. -/
theorem at24 : val_main_v24 (F := Ideal) h y w b (ix2 r j) = norm (row h r) (row y r) (row w 0) (row b 0) j := by
  unfold norm unit
  pointwise [val_main_v24, val_main_v23, val_main_v22, val_main_v21, val_main_v20, val_main_v19]
  simp only [at15, at18]

end Ref

variable (m : (ℓ : Loc nD τ sig) → Buf (Elt Ideal) ℓ)

/-- The argument arrays, as arrays of extended reals. -/
abbrev argH (c : Dev nD) : Arr := m ((c : Thread nD τ).loc main_arg0)
abbrev argY (c : Dev nD) : Arr := m ((c : Thread nD τ).loc main_arg1)
abbrev argW (c : Dev nD) : Vec1 := m ((c : Thread nD τ).loc main_arg2)
abbrev argB (c : Dev nD) : Vec1 := m ((c : Thread nD τ).loc main_arg3)

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem lt (t : Fin cfg0.N) (r : Fin 256) : t.val * 256 + r.val < 2048 := by
  have h : t.val < 8 := t.isLt
  omega

/-- The array's row that a tile's row is. -/
abbrev at_ (t : Fin cfg0.N) (r : Fin 256) : Fin 2048 := ⟨t.val * 256 + r.val, lt t r⟩

theorem readH (c : Dev nD) (t : Fin cfg0.N) (r : Fin 256) : row (iblk m c 0 t : Blk) r = row (argH m c) (at_ t r) := by
  funext j; dsimp only [row]; blk_ext [iblk, V, idx t]

theorem readY (c : Dev nD) (t : Fin cfg0.N) (r : Fin 256) : row (iblk m c 1 t : Blk) r = row (argY m c) (at_ t r) := by
  funext j; dsimp only [row]; blk_ext [iblk, V, idx t]

theorem readW (c : Dev nD) (t : Fin cfg0.N) : row (iblk m c 2 t : Vec1) 0 = row (argW m c) 0 := by
  funext j; dsimp only [row]; blk_ext [iblk, V, idx t]

theorem readB (c : Dev nD) (t : Fin cfg0.N) : row (iblk m c 3 t : Vec1) 0 = row (argB m c) 0 := by
  funext j; dsimp only [row]; blk_ext [iblk, V, idx t]

/-- A tile of the result is the reference's. -/
theorem tile (c : Dev nD) (t : Fin cfg0.N) (r : Fin 256) (j : Fin 2048) :
    k0_pay1 (F := Ideal) (iblk m c 0 t : Blk) (iblk m c 1 t : Blk) (iblk m c 2 t : Vec1) (iblk m c 3 t : Vec1) (ix2 r j)
      = Cert.LnFwdRefIdeal.Read.val_main_v24 (F := Ideal) (argH m c) (argY m c) (argW m c) (argB m c) (ix2 (at_ t r) j) := by
  rw [pay1, Ref.at24, readH m c t r, readY m c t r, readW m c t, readB m c t]

/-- The normalised array after the run. -/
theorem final4 (c : Dev nD) : (dats m 0 c).arrAt 4 (cfgs 0).N
    = Cert.LnFwdRefIdeal.Read.val_main_v24 (F := Ideal) (argH m c) (argY m c) (argW m c) (argB m c) := by
  refine (dats m 0 c).arrAt_eq_of_covers 4 _ (by decide +kernel) fun t _ x => ?_
  obtain ⟨r, j, rfl⟩ : ∃ r j, x = ix2 r j := ⟨_, _, eq_ix2 x⟩
  rw [show ((cfg0.win 4).blk t).view.emb (ix2 r j) = ix2 (at_ t r) j by blk_ext [idx t], after0_4]; frame_out
  exact tile m c t r j

/-- The same array in the narrow format. -/
theorem final5 (c : Dev nD) : (dats m 0 c).arrAt 5 (cfgs 0).N
    = Cert.LnFwdRefIdeal.Read.val_main_v25 (F := Ideal) (argH m c) (argY m c) (argW m c) (argB m c) := by
  refine (dats m 0 c).arrAt_eq_of_covers 5 _ (by decide +kernel) fun t _ x => ?_
  obtain ⟨r, j, rfl⟩ : ∃ r j, x = ix2 r j := ⟨_, _, eq_ix2 x⟩
  rw [show ((cfg0.win 5).blk t).view.emb (ix2 r j) = ix2 (at_ t r) j by blk_ext [idx t], after0_5]; frame_out
  exact tile m c t r j

end Cert.Proof.LnFwd

namespace Cert.Proof

open Idealize.ShloMosaic Idealize.SL.Sem

theorem algebraicLnFwd : Cert.algebraic_LnFwdIdeal_LnFwdRefIdeal (hLnFwdIdeal := Cert.LnFwdIdeal.Gen.facts) (hLnFwdRefIdeal := Cert.LnFwdRefIdeal.Gen.facts) := by
  pair_intro
  · run_from Cert.LnFwdIdeal.Gen.run_main m g
  · run_from Cert.LnFwdRefIdeal.Value.run m' g'
    · exact (Cert.Proof.LnFwd.final4 m _).symm
    · exact (Cert.Proof.LnFwd.final5 m _).symm

end Cert.Proof

end
-- ==== Proof.Proj.lean ====
/-
  The input product, `h · w_in`: after the run the result array is the reference's product.
-/
module

public import proofs.«01_k».proof.Defs
public import proofs.«01_k».proof.Proof.Gen.ProjIdeal.Frame
public import proofs.«01_k».proof.Proof.Gen.ProjRefIdeal.Run
public import Idealize.ShloMosaic.Lib.Pipeline.ValueKit
public import Idealize.ShloMosaic.Lib.Claim

@[expose] public section

set_option maxRecDepth 16384

noncomputable section

namespace Cert.Proof.Proj

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- The reference's result as a function of the two arguments. -/
abbrev REF (X : FVec Ideal ⟨2, ![2048, 2048]⟩ .bf16) (W : FVec Ideal ⟨2, ![8320, 2048]⟩ .bf16) : FVec Ideal ⟨2, ![2048, 8320]⟩ .f32 :=
  Host.dotGeneral Cert.ProjRefIdeal.dot_S2048x2048_S2048x8320_S2048x8320_1_0_0_1_n_n none (extf .f32 X Cert.ProjRefIdeal.Gen.bitsLt_bf16_f32) (transpose ⟨2, ![2048, 8320]⟩ [1, 0] (extf .f32 W Cert.ProjRefIdeal.Gen.bitsLt_bf16_f32) Cert.ProjRefIdeal.Gen.transposes_S8320x2048_S2048x8320_1_0)

/-- Which block each window holds at each grid point. -/
theorem idx : ∀ t : Fin cfg0.N, win0_0.index t = ![t.val / 5, 0] ∧ win0_1.index t = ![t.val % 5, 0] ∧ win0_2.index t = ![t.val / 5, t.val % 5] :=
  (by decide +kernel : ∀ t : Fin grid0.N, _)

/-- The block written at a grid point is the reference's result there. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.Proj

namespace Cert.Proof

open Idealize.ShloMosaic Idealize.SL.Sem

theorem algebraicProj : Cert.algebraic_ProjIdeal_ProjRefIdeal (hProjIdeal := Cert.ProjIdeal.Gen.facts) (hProjRefIdeal := Cert.ProjRefIdeal.Gen.facts) := by
  pair_intro
  · run_from Cert.ProjIdeal.Gen.run_main m g
  · run_from Cert.ProjRefIdeal.Value.run m' g'
    exact (Cert.Proof.Proj.final m _).symm

end Cert.Proof

end
-- ==== Proof.Dcat.lean ====
/-
  The gradient of the output product's left operand, `dy · woutᵀ`: after the run the result array is the reference's product.
-/
module

public import proofs.«01_k».proof.Defs
public import proofs.«01_k».proof.Proof.Gen.DcatIdeal.Frame
public import proofs.«01_k».proof.Proof.Gen.DcatRefIdeal.Run
public import Idealize.ShloMosaic.Lib.Pipeline.ValueKit
public import Idealize.ShloMosaic.Lib.Claim

@[expose] public section

set_option maxRecDepth 16384

noncomputable section

namespace Cert.Proof.Dcat

open Idealize.ShloMosaic Idealize.ShloMosaic.TcCoe Idealize.SL.Sem
open Idealize.ShloMosaic.Pipeline (Dat)
open Cert.DcatIdeal Cert.DcatIdeal.Gen

variable (m : (ℓ : Loc nD τ sig) → Buf (Elt Ideal) ℓ)

/-- The reference's result as a function of the two arguments. -/
abbrev REF (X : FVec Ideal ⟨2, ![2048, 2048]⟩ .bf16) (W : FVec Ideal ⟨2, ![2048, 2048]⟩ .bf16) : FVec Ideal ⟨2, ![2048, 2048]⟩ .f32 :=
  Host.dotGeneral Cert.DcatRefIdeal.dot_S2048x2048_S2048x2048_S2048x2048_1_1_0_0_n_n none (extf .f32 X Cert.DcatRefIdeal.Gen.bitsLt_bf16_f32) (extf .f32 W Cert.DcatRefIdeal.Gen.bitsLt_bf16_f32)

/-- Which block each window holds at each grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The block written at a grid point is the reference's result there. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.Dcat

namespace Cert.Proof

open Idealize.ShloMosaic Idealize.SL.Sem

theorem algebraicDcat : Cert.algebraic_DcatIdeal_DcatRefIdeal (hDcatIdeal := Cert.DcatIdeal.Gen.facts) (hDcatRefIdeal := Cert.DcatRefIdeal.Gen.facts) := by
  pair_intro
  · run_from Cert.DcatIdeal.Gen.run_main m g
  · run_from Cert.DcatRefIdeal.Value.run m' g'
    exact (Cert.Proof.Dcat.final m _).symm

end Cert.Proof

end
-- ==== Proof.SumWout.lean ====
/-
  The output projection's gradient summed over the four pairs, on the place whose axis indices are 0: its own quarter of the rows and
  the three that arrived.
-/
module

public import proofs.«01_k».proof.Defs
public import proofs.«01_k».proof.Proof.Gen.SumWoutIdeal.Frame
public import proofs.«01_k».proof.Proof.Gen.SumWoutRefIdeal.Run
public import proofs.«01_k».proof.Proof.Gen.SumWoutRefIdeal.Read
public import Idealize.ShloMosaic.Lib.Pipeline.ValueKit
public import Idealize.ShloMosaic.Lib.Claim

@[expose] public section

set_option maxRecDepth 16384

noncomputable section

namespace Cert.Proof.SumWout

open Idealize.ShloMosaic Idealize.ShloMosaic.TcCoe Idealize.SL.Sem
open Idealize.ShloMosaic.Pipeline (Dat)
open Cert.SumWoutIdeal Cert.SumWoutIdeal.Gen

variable (m : (ℓ : Loc nD τ sig) → Buf (Elt Ideal) ℓ)

/-- The sums of this place's pair, all four quarters. -/
abbrev own (c : Dev nD) : FVec Ideal ⟨2, ![1024, 2048]⟩ .bf16 := m ((c : Thread nD τ).loc main_arg0)

/-- The three parts that came from the other pairs. -/
abbrev got (c : Dev nD) : FVec Ideal ⟨3, ![3, 256, 2048]⟩ .bf16 := m ((c : Thread nD τ).loc main_arg1)

/-- Which block each window holds at each grid point. -/
theorem idx : ∀ t : Fin cfg0.N, win0_0.index t = ![0, t.val, 0] ∧ win0_1.index t = ![0, t.val, 0] ∧ win0_2.index t = ![0, t.val, 0] :=
  (by decide +kernel : ∀ t : Fin grid0.N, _)

theorem lt (t : Fin cfg0.N) (r : Fin 128) : t.val * 128 + r.val < 256 := by
  have h : t.val < 2 := t.isLt
  omega

/-- The array's row that a tile's row is. -/
abbrev at_ (t : Fin cfg0.N) (r : Fin 128) : Fin 256 := ⟨t.val * 128 + r.val, lt t r⟩

/-- A row of the first quarter, among all rows. -/
abbrev up (r : Fin 256) : Fin 1024 := ⟨r.val, by omega⟩

/-- What the body makes of its slices: of the four quarters it keeps the first. -/
theorem pay (X0 X1 X2 X3 Y0 Y1 Y2 : FVec Ideal ⟨3, ![1, 128, 2048]⟩ .bf16) (r : Fin 128) (j : Fin 2048) :
    k0_pay1 (F := Ideal) X0 X1 X2 X3 Y0 Y1 Y2 (ix3 0 r j) = X0 (ix3 0 r j) + Y0 (ix3 0 r j) + Y1 (ix3 0 r j) + Y2 (ix3 0 r j) := by
  pointwise [k0_pay1]

/-- What the reference computes. -/
theorem ref (H : FVec Ideal ⟨2, ![1024, 2048]⟩ .bf16) (G : FVec Ideal ⟨3, ![3, 256, 2048]⟩ .bf16) (r : Fin 256) (j : Fin 2048) :
    Cert.SumWoutRefIdeal.Read.val_main_v5 (F := Ideal) H G (ix3 0 r j) = H (ix2 (up r) j) + G (ix3 0 r j) + G (ix3 1 r j) + G (ix3 2 r j) := by
  pointwise [Cert.SumWoutRefIdeal.Read.val_main_v0, Cert.SumWoutRefIdeal.Read.val_main_v1, Cert.SumWoutRefIdeal.Read.val_main_v2, Cert.SumWoutRefIdeal.Read.val_main_v3, Cert.SumWoutRefIdeal.Read.val_main_v4, Cert.SumWoutRefIdeal.Read.val_main_v5, Cert.SumWoutRefIdeal.Read.val_main_cst]
  rw [Fin.sum_univ_three, ← add_assoc, ← add_assoc]

/-- The rows after they were split in quarters. -/
theorem split (c : Dev nD) (r : Fin 256) (j : Fin 2048) : (V m c main_v0 : FVec Ideal ⟨3, ![4, 256, 2048]⟩ .bf16) (ix3 0 r j) = own m c (ix2 (up r) j) := by
  entry_read
  pointwise

theorem readOwn (c : Dev nD) (t : Fin cfg0.N) (r : Fin 128) (j : Fin 2048) :
    (iblk m c 0 t : FVec Ideal ⟨3, ![4, 128, 2048]⟩ .bf16) (ix3 0 r j) = own m c (ix2 (up (at_ t r)) j) := by
  refine Eq.trans ?_ (split m c (at_ t r) j)
  blk_ext [iblk, idx t]

theorem readGot (c : Dev nD) (t : Fin cfg0.N) (q : Fin 3) (r : Fin 128) (j : Fin 2048) :
    (iblk m c 1 t : FVec Ideal ⟨3, ![3, 128, 2048]⟩ .bf16) (ix3 q r j) = got m c (ix3 q (at_ t r) j) := by
  blk_ext [iblk, V, idx t]

/-- The result array after the run. -/
theorem final (c : Dev nD) : (dats m 0 c).arrAt 2 (cfgs 0).N = Cert.SumWoutRefIdeal.Read.val_main_v5 (F := Ideal) (own m c) (got m c) := by
  refine (dats m 0 c).arrAt_eq_of_covers 2 _ (by decide +kernel) fun t _ x => ?_
  obtain ⟨r, j, rfl⟩ : ∃ r j, x = ix3 0 r j := ⟨x 1, x 2, (eq_ix3 x).trans (congrArg (fun a => ix3 a (x 1) (x 2)) (Subsingleton.elim (α := Fin 1) (x 0) 0))⟩
  rw [show ((cfg0.win 2).blk t).view.emb (ix3 0 r j) = ix3 0 (at_ t r) j by blk_ext [idx t], ref, after0_2]; frame_out
  refine (pay _ _ _ _ _ _ _ r j).trans ?_
  rw [
    show View.ld (iblk m c 0 t) r0_0 (ix3 0 r j) = own m c (ix2 (up (at_ t r)) j) from (congrArg (iblk m c 0 t) (show r0_0.idx (ix3 0 r j) = ix3 0 r j by funext a; apply Fin.ext; fin_cases a <;> simp [r0_0, Rect.idx_unit_val])).trans (readOwn m c t r j),
    show View.ld (iblk m c 1 t) r0_4 (ix3 0 r j) = got m c (ix3 0 (at_ t r) j) from (congrArg (iblk m c 1 t) (show r0_4.idx (ix3 0 r j) = ix3 0 r j by funext a; apply Fin.ext; fin_cases a <;> simp [r0_4, Rect.idx_unit_val])).trans (readGot m c t 0 r j),
    show View.ld (iblk m c 1 t) r0_5 (ix3 0 r j) = got m c (ix3 1 (at_ t r) j) from (congrArg (iblk m c 1 t) (show r0_5.idx (ix3 0 r j) = ix3 1 r j by funext a; apply Fin.ext; fin_cases a <;> simp [r0_5, Rect.idx_unit_val])).trans (readGot m c t 1 r j),
    show View.ld (iblk m c 1 t) r0_6 (ix3 0 r j) = got m c (ix3 2 (at_ t r) j) from (congrArg (iblk m c 1 t) (show r0_6.idx (ix3 0 r j) = ix3 2 r j by funext a; apply Fin.ext; fin_cases a <;> simp [r0_6, Rect.idx_unit_val])).trans (readGot m c t 2 r j)]

end Cert.Proof.SumWout

namespace Cert.Proof

open Idealize.ShloMosaic Idealize.SL.Sem

theorem algebraicSumWout : Cert.algebraic_SumWoutIdeal_SumWoutRefIdeal (hSumWoutIdeal := Cert.SumWoutIdeal.Gen.facts) (hSumWoutRefIdeal := Cert.SumWoutRefIdeal.Gen.facts) := by
  pair_intro
  · run_from Cert.SumWoutIdeal.Gen.run_main m g
  · run_from Cert.SumWoutRefIdeal.Value.run m' g'
    exact (Cert.Proof.SumWout.final m _).symm

end Cert.Proof

end
-- ==== Proof.LnBwdBlock.lean ====
/-
  What one grid point of the norm's backward call computes, row by row.
-/
module

public import proofs.«01_k».proof.Defs
public import proofs.«01_k».proof.Proof.Gen.LnBwdIdeal.Skeleton
public import proofs.«01_k».proof.Proof.NormRow
public import Idealize.ShloMosaic.Lib.Pipeline.ValueKit

@[expose] public section

set_option maxRecDepth 16384

noncomputable section

namespace Cert.Proof.LnBwd

open Idealize.ShloMosaic Idealize.ShloMosaic.TcCoe Idealize.SL.Sem
open Cert.LnBwdIdeal Cert.LnBwdIdeal.Gen Cert.Proof.NormRow

abbrev Blk := FVec Ideal ⟨2, ![256, 2048]⟩ .f32
abbrev Vec1 := FVec Ideal ⟨2, ![1, 2048]⟩ .f32

variable (y h g : Blk) (w : Vec1)

theorem pay4 (r : Fin 256) (j : Fin 2048) : k0_pay4 (F := Ideal) y h (ix2 r j) = u (row h r) (row y r) j := by
  unfold u; pointwise [k0_pay4]

theorem pay5 (r : Fin 256) (j : Fin 1) : k0_pay5 (F := Ideal) y h (ix2 r j) = mean (row h r) (row y r) := by
  unfold mean; pointwise [k0_pay5]; simp only [pay4]; try rfl

theorem pay6 (r : Fin 256) (j : Fin 2048) : k0_pay6 (F := Ideal) y h (ix2 r j) = dev (row h r) (row y r) j := by
  unfold dev; pointwise [k0_pay6]; simp only [pay4, pay5]; try rfl

theorem pay8 (r : Fin 256) (j : Fin 2048) : k0_pay8 (F := Ideal) y h (ix2 r j) = dev (row h r) (row y r) j := by
  unfold dev; pointwise [k0_pay8]; simp only [pay4, pay5]; try rfl

theorem pay7 (r : Fin 256) (j : Fin 2048) : k0_pay7 (F := Ideal) y h (ix2 r j) = Ideal.ofBits .f32 0x40000000#32 * dev (row h r) (row y r) j := by
  pointwise [k0_pay7]; simp only [pay6]

theorem pay9 (r : Fin 256) (j : Fin 1) : k0_pay9 (F := Ideal) y h (ix2 r j) = var (row h r) (row y r) := by
  unfold var; pointwise [k0_pay9]; simp only [pay6]; try rfl

theorem pay10 (r : Fin 256) (j : Fin 1) : k0_pay10 (F := Ideal) y h (ix2 r j) = rstd (row h r) (row y r) := by
  unfold rstd; pointwise [k0_pay10]; simp only [pay9]

theorem pay11 (r : Fin 256) (j : Fin 1) : k0_pay11 (F := Ideal) y h (ix2 r j) = drstd (row h r) (row y r) := by
  unfold drstd; pointwise [k0_pay11]; simp only [pay9, pay10]

theorem pay14 (j : Fin 2048) : k0_pay14 (F := Ideal) y h g (ix1 j) = ∑ r : Fin 256, unit (row h r) (row y r) j * g (ix2 r j) := by
  unfold unit; pointwise [k0_pay14, k0_pay12]; simp only [pay8, pay10]

theorem pay13 (r : Fin 1) (j : Fin 2048) : k0_pay13 (F := Ideal) g (ix2 r j) = ∑ r : Fin 256, g (ix2 r j) := by
  pointwise [k0_pay13]

/-- The gradient of the rows of the block. -/
theorem pay15 (r : Fin 256) (j : Fin 2048) : k0_pay15 (F := Ideal) w (k0_pay7 y h) (k0_pay8 y h) (k0_pay10 y h) (k0_pay11 y h) (k0_pay12 g) (ix2 r j)
    = grad (row h r) (row y r) (row w 0) (row g r) j := by
  unfold grad dmean through dvar direct gw
  pointwise [k0_pay15, k0_pay12]
  simp only [pay7, pay8, pay10, pay11, Fin.sum_univ_one, zero_sub]

end Cert.Proof.LnBwd

end
-- ==== Proof.LnBwdRef.lean ====
/-
  The reference of the norm's backward call, row by row.
-/
module

public import proofs.«01_k».proof.Defs
public import proofs.«01_k».proof.Proof.Gen.LnBwdRefIdeal.Read
public import proofs.«01_k».proof.Proof.NormRow
public import Idealize.ShloMosaic.Lib.Pipeline.ValueKit

@[expose] public section

set_option maxRecDepth 16384

noncomputable section

namespace Cert.Proof.LnBwd.Ref

open Idealize.ShloMosaic Idealize.ShloMosaic.TcCoe Idealize.SL.Sem
open Cert.LnBwdRefIdeal Cert.LnBwdRefIdeal.Gen Cert.LnBwdRefIdeal.Read Cert.Proof.NormRow

abbrev Arr := FVec Ideal ⟨2, ![2048, 2048]⟩ .f32
abbrev Vec1 := FVec Ideal ⟨2, ![1, 2048]⟩ .f32

variable (h y g : Arr) (w : Vec1) (r j : Fin 2048)

theorem at2 : val_main_v2 (F := Ideal) h y (ix2 r j) = u (row h r) (row y r) j := by
  unfold u; pointwise [val_main_v2, val_main_v1, val_main_v0, val_main_cst]

theorem at6 (l : Fin 1) : val_main_v6 (F := Ideal) h y (ix2 r l) = mean (row h r) (row y r) := by
  unfold mean; pointwise [val_main_v6, val_main_v5, val_main_v4, val_main_v3, val_main_cst_0, val_main_cst_1]; simp only [at2]

theorem at8 : val_main_v8 (F := Ideal) h y (ix2 r j) = dev (row h r) (row y r) j := by
  unfold dev; pointwise [val_main_v8, val_main_v7]; simp only [at2, at6]

theorem at17 : val_main_v17 (F := Ideal) h y (ix2 r j) = dev (row h r) (row y r) j := by
  unfold dev; pointwise [val_main_v17, val_main_v16]; simp only [at2, at6]

theorem at11 : val_main_v11 (F := Ideal) h y (ix2 r j) = Ideal.ofBits .f32 0x40000000#32 * dev (row h r) (row y r) j := by
  pointwise [val_main_v11, val_main_v10, val_main_cst_2]; simp only [at8]

theorem at19 (l : Fin 1) : val_main_v19 (F := Ideal) h y (ix2 r l) = var (row h r) (row y r) := by
  unfold var; pointwise [val_main_v19, val_main_v18, val_main_v15, val_main_v14, val_main_v13, val_main_v12, val_main_v9, val_main_cst_3, val_main_cst_4, val_main_cst_5]; simp only [at8]

theorem at20 (l : Fin 1) : val_main_v20 (F := Ideal) h y (ix2 r l) = rstd (row h r) (row y r) := by
  unfold rstd; pointwise [val_main_v20]; simp only [at19]

theorem at23 (l : Fin 1) : val_main_v23 (F := Ideal) h y (ix2 r l) = drstd (row h r) (row y r) := by
  unfold drstd; pointwise [val_main_v23, val_main_v22, val_main_v21, val_main_cst_6]; simp only [at19, at20]

theorem at25 : val_main_v25 (F := Ideal) h y (ix2 r j) = unit (row h r) (row y r) j := by
  unfold unit; pointwise [val_main_v25, val_main_v24]; simp only [at17, at20]

theorem at37 : val_main_v37 (F := Ideal) w g (ix2 r j) = gw (row w 0) (row g r) j := by
  unfold gw; pointwise [val_main_v37, val_main_v36, val_main_v30]

theorem at42 : val_main_v42 (F := Ideal) h y w g (ix2 r j) = direct (row h r) (row y r) (row w 0) (row g r) j := by
  unfold direct; pointwise [val_main_v42, val_main_v41]; simp only [at37, at20]

theorem at48 (l : Fin 1) : val_main_v48 (F := Ideal) h y w g (ix2 r l) = dvar (row h r) (row y r) (row w 0) (row g r) := by
  unfold dvar; pointwise [val_main_v48, val_main_v47, val_main_v43, val_main_v40, val_main_v39, val_main_v38, val_main_cst_9, val_main_cst_11]; simp only [at37, at23, at17]

theorem at51 : val_main_v51 (F := Ideal) h y w g (ix2 r j) = through (row h r) (row y r) (row w 0) (row g r) j := by
  unfold through; pointwise [val_main_v51, val_main_v50, val_main_v49, val_main_cst_12]; simp only [at48, at11, Fin.sum_univ_one]

theorem at58 (l : Fin 1) : val_main_v58 (F := Ideal) h y w g (ix2 r l) = dmean (row h r) (row y r) (row w 0) (row g r) := by
  unfold dmean; pointwise [val_main_v58, val_main_v57, val_main_v56, val_main_v54, val_main_v53, val_main_v52, val_main_v46, val_main_v45, val_main_v44, val_main_cst_10, val_main_cst_13, val_main_cst_14]; simp only [at42, at51]

/-- The gradient of the row. -/
theorem at61 : val_main_v61 (F := Ideal) h y w g (ix2 r j) = grad (row h r) (row y r) (row w 0) (row g r) j := by
  unfold grad; pointwise [val_main_v61, val_main_v60, val_main_v59, val_main_v55, val_main_cst_15]; simp only [at42, at51, at58, Fin.sum_univ_one]

/-- The same, after the cast. -/
theorem at62 : val_main_v62 (F := Ideal) h y w g (ix2 r j) = grad (row h r) (row y r) (row w 0) (row g r) j := by
  pointwise [val_main_v62]; simp only [at61]

/-- The gradient of the scale: a sum over all rows. -/
theorem at35 (l : Fin 1) : val_main_v35 (F := Ideal) h y g (ix2 l j) = ∑ r : Fin 2048, unit (row h r) (row y r) j * g (ix2 r j) := by
  pointwise [val_main_v35, val_main_v34, val_main_v33, val_main_v30, val_main_cst_8]; simp only [at25]

/-- The gradient of the offset: a sum over all rows. -/
theorem at32 (l : Fin 1) : val_main_v32 (F := Ideal) g (ix2 l j) = ∑ r : Fin 2048, g (ix2 r j) := by
  pointwise [val_main_v32, val_main_v31, val_main_cst_7]

end Cert.Proof.LnBwd.Ref

end
-- ==== Proof.LnBwd.lean ====
/-
  The gradient of a layer norm, `_ln_bwd`: eight tiles of 256 rows; the gradients of the scale and of the offset are summed over the
  tiles in their result blocks. After the run the four result arrays are the reference's.
-/
module

public import proofs.«01_k».proof.Defs
public import proofs.«01_k».proof.Proof.Gen.LnBwdIdeal.Value
public import proofs.«01_k».proof.Proof.Gen.LnBwdRefIdeal.Run
public import proofs.«01_k».proof.Proof.LnBwdBlock
public import proofs.«01_k».proof.Proof.LnBwdRef
public import Idealize.ShloMosaic.Lib.Pipeline.ValueKit
public import Idealize.ShloMosaic.Lib.Claim

@[expose] public section

set_option maxRecDepth 16384

noncomputable section

namespace Cert.Proof.LnBwd

open Idealize.ShloMosaic Idealize.ShloMosaic.TcCoe Idealize.SL.Sem
open Idealize.ShloMosaic.Pipeline (Dat)
open Cert.LnBwdIdeal Cert.LnBwdIdeal.Gen Cert.Proof.NormRow

variable (m : (ℓ : Loc nD τ sig) → Buf (Elt Ideal) ℓ)

abbrev Arr := FVec Ideal ⟨2, ![2048, 2048]⟩ .f32

/-- The argument arrays, as arrays of extended reals. -/
abbrev argH (c : Dev nD) : Arr := m ((c : Thread nD τ).loc main_arg0)
abbrev argY (c : Dev nD) : Arr := m ((c : Thread nD τ).loc main_arg1)
abbrev argW (c : Dev nD) : Vec1 := m ((c : Thread nD τ).loc main_arg2)
abbrev argG (c : Dev nD) : Arr := m ((c : Thread nD τ).loc main_arg4)

/-- Their blocks at a grid point. -/
abbrev blkH (c : Dev nD) (t : Fin cfg0.N) : Blk := iblk m c 0 t
abbrev blkY (c : Dev nD) (t : Fin cfg0.N) : Blk := iblk m c 1 t
abbrev blkW (c : Dev nD) (t : Fin cfg0.N) : Vec1 := iblk m c 2 t
abbrev blkG (c : Dev nD) (t : Fin cfg0.N) : Blk := iblk m c 4 t

/-- Which block each window holds at each grid point. -/
theorem idx : ∀ t : Fin cfg0.N, win0_0.index t = ![t.val, 0] ∧ win0_1.index t = ![t.val, 0] ∧ win0_2.index t = ![0, 0]
    ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

theorem lt (t : Fin cfg0.N) (r : Fin 256) : t.val * 256 + r.val < 2048 := by
  have h : t.val < 8 := t.isLt
  omega

/-- The array's row that a tile's row is. -/
abbrev at_ (t : Fin cfg0.N) (r : Fin 256) : Fin 2048 := ⟨t.val * 256 + r.val, lt t r⟩

theorem readH (c : Dev nD) (t : Fin cfg0.N) (r : Fin 256) : row (blkH m c t) r = row (argH m c) (at_ t r) := by
  funext j; dsimp only [row]; blk_ext [iblk, V, idx t]

theorem readY (c : Dev nD) (t : Fin cfg0.N) (r : Fin 256) : row (blkY m c t) r = row (argY m c) (at_ t r) := by
  funext j; dsimp only [row]; blk_ext [iblk, V, idx t]

theorem readG (c : Dev nD) (t : Fin cfg0.N) (r : Fin 256) : row (blkG m c t) r = row (argG m c) (at_ t r) := by
  funext j; dsimp only [row]; blk_ext [iblk, V, idx t]

theorem readW (c : Dev nD) (t : Fin cfg0.N) : row (blkW m c t) 0 = row (argW m c) 0 := by
  funext j; dsimp only [row]; blk_ext [iblk, V, idx t]

/-- The gradient of the rows that a point writes. -/
abbrev tile (c : Dev nD) (t : Fin cfg0.N) : Blk :=
  k0_pay15 (blkW m c t) (k0_pay7 (blkY m c t) (blkH m c t)) (k0_pay8 (blkY m c t) (blkH m c t)) (k0_pay10 (blkY m c t) (blkH m c t))
    (k0_pay11 (blkY m c t) (blkH m c t)) (k0_pay12 (blkG m c t))

theorem out5 (c : Dev nD) (t : Fin cfg0.N) : (outsAt0 m c t.val t.isLt).1 = tile m c t := by
  by_cases h : t.val % 8 = 0
  · rw [outsAt0_A m c t h]; frame_out
  · rw [outsAt0_B m c t h]; frame_out

theorem out6 (c : Dev nD) (t : Fin cfg0.N) : (outsAt0 m c t.val t.isLt).2.1 = truncf .bf16 (tile m c t) bitsLt_bf16_f32 := by
  by_cases h : t.val % 8 = 0
  · rw [outsAt0_A m c t h]; frame_out; rfl
  · rw [outsAt0_B m c t h]; frame_out; rfl

theorem tile_at (c : Dev nD) (t : Fin cfg0.N) (r : Fin 256) (j : Fin 2048) :
    tile m c t (ix2 r j) = Cert.LnBwdRefIdeal.Read.val_main_v61 (F := Ideal) (argH m c) (argY m c) (argW m c) (argG m c) (ix2 (at_ t r) j) := by
  rw [Ref.at61, ← readH m c t r, ← readY m c t r, ← readW m c t, ← readG m c t r]
  exact pay15 _ _ _ _ r j

/-- The gradient's array after the run. -/
theorem final5 (c : Dev nD) : (dats m 0 c).arrAt 5 (cfgs 0).N
    = Cert.LnBwdRefIdeal.Read.val_main_v61 (F := Ideal) (argH m c) (argY m c) (argW m c) (argG m c) := by
  refine (dats m 0 c).arrAt_eq_of_covers 5 _ (by decide +kernel) fun t _ x => ?_
  obtain ⟨r, j, rfl⟩ : ∃ r j, x = ix2 r j := ⟨_, _, eq_ix2 x⟩
  rw [after0_5, out5 m c t, show ((cfg0.win 5).blk t).view.emb (ix2 r j) = ix2 (at_ t r) j by blk_ext [idx t]]
  exact tile_at m c t r j

/-- The same gradient's array in the narrow type. -/
theorem final6 (c : Dev nD) : (dats m 0 c).arrAt 6 (cfgs 0).N
    = Cert.LnBwdRefIdeal.Read.val_main_v62 (F := Ideal) (argH m c) (argY m c) (argW m c) (argG m c) := by
  refine (dats m 0 c).arrAt_eq_of_covers 6 _ (by decide +kernel) fun t _ x => ?_
  obtain ⟨r, j, rfl⟩ : ∃ r j, x = ix2 r j := ⟨_, _, eq_ix2 x⟩
  rw [after0_6, out6 m c t, show ((cfg0.win 6).blk t).view.emb (ix2 r j) = ix2 (at_ t r) j by blk_ext [idx t], Ref.at62, ← Ref.at61]
  exact tile_at m c t r j

/-- A tile's share of the scale's gradient. -/
abbrev partW (c : Dev nD) (t : Fin cfg0.N) (x : (⟨2, ![1, 2048]⟩ : Shape).Idx) : Ideal .f32 :=
  ∑ r : Fin 256, unit (row (argH m c) (at_ t r)) (row (argY m c) (at_ t r)) (x 1) * argG m c (ix2 (at_ t r) (x 1))

/-- A tile's share of the offset's gradient. -/
abbrev partB (c : Dev nD) (t : Fin cfg0.N) (x : (⟨2, ![1, 2048]⟩ : Shape).Idx) : Ideal .f32 :=
  ∑ r : Fin 256, argG m c (ix2 (at_ t r) (x 1))

theorem addW (c : Dev nD) (t : Fin cfg0.N) (a : Vec1) (x) :
    k0_pay17 (F := Ideal) (k0_pay14 (blkY m c t) (blkH m c t) (blkG m c t)) a x = a x + partW m c t x := by
  obtain ⟨l, j, rfl⟩ : ∃ l j, x = ix2 l j := ⟨_, _, eq_ix2 x⟩
  refine (show _ = a (ix2 l j) + k0_pay14 (F := Ideal) (blkY m c t) (blkH m c t) (blkG m c t) (ix1 j) by pointwise [k0_pay17]).trans ?_
  rw [pay14]
  refine congrArg (a (ix2 l j) + ·) (Finset.sum_congr rfl fun r _ => ?_)
  show unit (row (blkH m c t) r) (row (blkY m c t) r) j * blkG m c t (ix2 r j) = unit (row (argH m c) (at_ t r)) (row (argY m c) (at_ t r)) j * argG m c (ix2 (at_ t r) j)
  rw [← readH m c t r, ← readY m c t r]
  exact congrArg _ (congrFun (readG m c t r) j)

theorem addB (c : Dev nD) (t : Fin cfg0.N) (a : Vec1) (x) :
    k0_pay1 (F := Ideal) (k0_pay13 (blkG m c t)) a x = a x + partB m c t x := by
  obtain ⟨l, j, rfl⟩ : ∃ l j, x = ix2 l j := ⟨_, _, eq_ix2 x⟩
  refine (show _ = a (ix2 l j) + k0_pay13 (F := Ideal) (blkG m c t) (ix2 l j) by pointwise [k0_pay1]).trans ?_
  rw [pay13]
  exact congrArg (a (ix2 l j) + ·) (Finset.sum_congr rfl fun r _ => congrFun (readG m c t r) j)

theorem zeroW (x) : k0_pay2 (F := Ideal) x = 0 := by pointwise [k0_pay2]
theorem zeroB (x) : k0_pay3 (F := Ideal) x = 0 := by pointwise [k0_pay3]

/-- The scale's gradient after the last tile. -/
theorem acc7 (c : Dev nD) (t : Fin cfg0.N) (h : t.val % 8 = 7) (x) :
    (outsAt0 m c t.val t.isLt).2.2.1 x = ∑ s : Fin 8, partW m c ⟨8 * (t.val / 8) + s.val, Pipeline.run_point_lt_of_flush t h s⟩ x := by
  have e := Pipeline.eq_sum_fin_of_reset_step_apply_of_flush (fun n h => (outsAt0 m c n h).2.2.1) 8 (fun _ => 0) (partW m c)
    (fun t h x => by rw [outsAt0_A m c t h]; frame_out; exact (addW m c t _ x).trans (congrArg (· + _) (zeroW x)))
    (fun t h x => by rw [outsAt0_B m c t h]; frame_out; exact addW m c t _ x) t h x
  rw [zero_add] at e
  exact e

/-- The offset's gradient after the last tile. -/
theorem acc8 (c : Dev nD) (t : Fin cfg0.N) (h : t.val % 8 = 7) (x) :
    (outsAt0 m c t.val t.isLt).2.2.2 x = ∑ s : Fin 8, partB m c ⟨8 * (t.val / 8) + s.val, Pipeline.run_point_lt_of_flush t h s⟩ x := by
  have e := Pipeline.eq_sum_fin_of_reset_step_apply_of_flush (fun n h => (outsAt0 m c n h).2.2.2) 8 (fun _ => 0) (partB m c)
    (fun t h x => by rw [outsAt0_A m c t h]; frame_out; exact (addB m c t _ x).trans (congrArg (· + _) (zeroB x)))
    (fun t h x => by rw [outsAt0_B m c t h]; frame_out; exact addB m c t _ x) t h x
  rw [zero_add] at e
  exact e

/-- Eight tiles of 256 rows are all the rows. -/
theorem tiles (f : Fin 2048 → Ideal .f32) (t : Fin cfg0.N) (h : t.val % 8 = 7) :
    ∑ s : Fin 8, ∑ r : Fin 256, f (at_ ⟨8 * (t.val / 8) + s.val, Pipeline.run_point_lt_of_flush t h s⟩ r) = ∑ l : Fin 2048, f l := by
  refine Fin.sum_mul_add_congr fun s r hl => congrArg f (Fin.ext ?_)
  have h8 : t.val < 8 := t.isLt
  show (8 * (t.val / 8) + s.val) * 256 + r.val = s.val * 256 + r.val
  omega

/-- The scale's gradient after the run. -/
theorem final7 (c : Dev nD) : (dats m 0 c).arrAt 7 (cfgs 0).N
    = Cert.LnBwdRefIdeal.Read.val_main_v35 (F := Ideal) (argH m c) (argY m c) (argG m c) := by
  refine (dats m 0 c).arrAt_eq_of_covers 7 _ (by decide +kernel) fun t hf x => ?_
  have h : t.val % 8 = 7 := (flush0_7 t).mp hf
  obtain ⟨l, j, rfl⟩ : ∃ l j, x = ix2 l j := ⟨_, _, eq_ix2 x⟩
  rw [after0_7, acc7 m c t h, show ((cfg0.win 7).blk t).view.emb (ix2 l j) = ix2 l j by blk_ext [idx t], Ref.at35]
  exact tiles (fun r => unit (row (argH m c) r) (row (argY m c) r) j * argG m c (ix2 r j)) t h

/-- The offset's gradient after the run. -/
theorem final8 (c : Dev nD) : (dats m 0 c).arrAt 8 (cfgs 0).N
    = Cert.LnBwdRefIdeal.Read.val_main_v32 (F := Ideal) (argG m c) := by
  refine (dats m 0 c).arrAt_eq_of_covers 8 _ (by decide +kernel) fun t hf x => ?_
  have h : t.val % 8 = 7 := (flush0_8 t).mp hf
  obtain ⟨l, j, rfl⟩ : ∃ l j, x = ix2 l j := ⟨_, _, eq_ix2 x⟩
  rw [after0_8, acc8 m c t h, show ((cfg0.win 8).blk t).view.emb (ix2 l j) = ix2 l j by blk_ext [idx t], Ref.at32]
  exact tiles (fun r => argG m c (ix2 r j)) t h

end Cert.Proof.LnBwd

namespace Cert.Proof

open Idealize.ShloMosaic Idealize.SL.Sem

theorem algebraicLnBwd : Cert.algebraic_LnBwdIdeal_LnBwdRefIdeal (hLnBwdIdeal := Cert.LnBwdIdeal.Gen.facts) (hLnBwdRefIdeal := Cert.LnBwdRefIdeal.Gen.facts) := by
  intro m g m' g' _ ha
  refine ⟨fun c => Cert.LnBwdRefIdeal.Read.val_main_v61 (F := Ideal) (LnBwd.argH m c) (LnBwd.argY m c) (LnBwd.argW m c) (LnBwd.argG m c),
    fun c => Cert.LnBwdRefIdeal.Read.val_main_v62 (F := Ideal) (LnBwd.argH m c) (LnBwd.argY m c) (LnBwd.argW m c) (LnBwd.argG m c),
    fun c => Cert.LnBwdRefIdeal.Read.val_main_v35 (F := Ideal) (LnBwd.argH m c) (LnBwd.argY m c) (LnBwd.argG m c),
    fun c => Cert.LnBwdRefIdeal.Read.val_main_v32 (F := Ideal) (LnBwd.argG m c), ?_, ?_⟩
  · refine (θ_run Cert.LnBwdIdeal.defs _ _).mono (fun r h c => ?_) (Cert.LnBwdIdeal.Value.run_blocks m g)
    obtain ⟨h0, h1, h2, h3, rest⟩ := h c
    exact ⟨h0.trans (LnBwd.final5 m c), h1.trans (LnBwd.final6 m c), h2.trans (LnBwd.final7 m c), h3.trans (LnBwd.final8 m c), rest⟩
  · refine (θ_run Cert.LnBwdRefIdeal.defs _ _).mono (fun r h c => ?_) (Cert.LnBwdRefIdeal.Value.run m' g')
    obtain ⟨h0, h1, h2, h3, rest⟩ := h c
    obtain ⟨a0, a1, a2, a3, a4⟩ := ha c
    exact ⟨h0.trans ((Cert.LnBwdRefIdeal.Read.val_main_v61_eq m' c).trans (by rw [a0, a1, a2, a4])),
      h1.trans ((Cert.LnBwdRefIdeal.Read.val_main_v62_eq m' c).trans (by rw [a0, a1, a2, a4])),
      h2.trans ((Cert.LnBwdRefIdeal.Read.val_main_v35_eq _ _ _).trans (by rw [a0, a1, a4])),
      h3.trans ((Cert.LnBwdRefIdeal.Read.val_main_v32_eq _).trans (by rw [a4])), rest⟩

end Cert.Proof

end
-- ==== Proof.SibPack.lean ====
/-
  The sum of the packed small gradients with the sibling place: of every pair of parts this place's own half, and the part that arrived.
-/
module

public import proofs.«01_k».proof.Defs
public import proofs.«01_k».proof.Proof.SibPackIdealOk
public import proofs.«01_k».proof.Proof.Gen.SibPackIdeal.Frame
public import proofs.«01_k».proof.Proof.Gen.SibPackRefIdeal.Run
public import proofs.«01_k».proof.Proof.Gen.SibPackRefIdeal.Read
public import Idealize.ShloMosaic.Lib.Pipeline.ValueKit
public import Idealize.ShloMosaic.Lib.Claim

@[expose] public section

set_option maxRecDepth 16384

noncomputable section

namespace Cert.Proof.SibPack

open Idealize.ShloMosaic Idealize.ShloMosaic.TcCoe Idealize.SL.Sem
open Idealize.ShloMosaic.Pipeline (Dat)
open Cert.SibPackIdeal Cert.SibPackIdeal.Gen

variable (m : (ℓ : Loc nD τ sig) → Buf (Elt Ideal) ℓ)

/-- This place's rows: four pairs of parts. -/
abbrev own (c : Dev nD) : FVec Ideal ⟨2, ![1024, 256]⟩ .bf16 := m ((c : Thread nD τ).loc main_arg0)

/-- The four parts that came from the sibling place. -/
abbrev got (c : Dev nD) : FVec Ideal ⟨3, ![4, 128, 256]⟩ .bf16 := m ((c : Thread nD τ).loc main_arg1)

/-- The pipeline, its table read. -/
abbrev hO : Ok m := Cert.Proof.SibPackIdealOk.ok m
abbrev cf : Pipeline.Cfg sig Λ₀ := cfgM m (hO m)

/-- The coordinates of a grid point. -/
theorem coords : ∀ t : Fin grid0.N, (grid0.coords t 0).val = t.val / 1 ∧ (grid0.coords t 1).val = t.val % 1 := by decide +kernel

/-- Which block each window holds at each grid point. -/
theorem idx0 (t : Fin (cf m).N) : ((cf m).win 0).index t = ![t.val / 1, 0, t.val % 1, 0] := by
  show cc0_transform_0 Facts₀.inb_S1_S1_0 Facts₀.numel1_S1 (tbl m) (grid0.coords t) = _
  rw [Cert.Proof.SibPackIdealOk.tblZero, Cert.Proof.SibPackIdealOk.at0, (coords t).1, (coords t).2]

theorem tr1 : ∀ t : Fin grid0.N, cc0_transform_1 (grid0.coords t) = ![t.val / 1, t.val % 1, 0] := by decide +kernel

theorem tr2 : ∀ t : Fin grid0.N, cc0_transform_2 (grid0.coords t) = ![t.val, 0] := by decide +kernel

theorem idx1 (t : Fin (cf m).N) : ((cf m).win 1).index t = ![t.val / 1, t.val % 1, 0] := tr1 t

theorem idx2 (t : Fin (cf m).N) : ((cf m).win 2).index t = ![t.val, 0] := tr2 t

theorem lt (t : Fin (cf m).N) : t.val < 4 := t.isLt

/-- The part, the row of it, and the row of the result, that a tile's row is. -/
abbrev q_ (t : Fin (cf m).N) : Fin 4 := ⟨t.val / 1, by have := lt m t; omega⟩
abbrev at_ (t : Fin (cf m).N) (r : Fin 128) : Fin 128 := ⟨t.val % 1 * 128 + r.val, by omega⟩
abbrev to_ (t : Fin (cf m).N) (r : Fin 128) : Fin 512 := ⟨t.val * 128 + r.val, by have := lt m t; omega⟩

/-- A row of the first part of a pair, among all rows. -/
abbrev up (q : Fin 4) (r : Fin 128) : Fin 1024 := ⟨q.val * 256 + r.val, by omega⟩

/-- What the body makes of its slices. -/
theorem pay (X : FVec Ideal ⟨4, ![1, 1, 128, 256]⟩ .bf16) (Y : FVec Ideal ⟨3, ![1, 128, 256]⟩ .bf16) (r : Fin 128) (j : Fin 256) :
    k0_pay1 (F := Ideal) X Y (ix2 r j) = X (ix4 0 0 r j) + Y (ix3 0 r j) := by
  pointwise [k0_pay1]

open Cert.SibPackRefIdeal.Read in
/-- What the reference computes. -/
theorem ref (G : FVec Ideal ⟨2, ![1024, 256]⟩ .bf16) (R : FVec Ideal ⟨3, ![4, 128, 256]⟩ .bf16) (k : Fin 512) (j : Fin 256) :
    Cert.SibPackRefIdeal.Read.val_main_v7 (F := Ideal) G R (ix2 k j)
      = G (ix2 (up ⟨k.val / 128, by omega⟩ ⟨k.val % 128, by omega⟩) j) + R (ix3 ⟨k.val / 128, by omega⟩ ⟨k.val % 128, by omega⟩ j) := by
  pointwise [val_main_v0, val_main_v1, val_main_v2, val_main_v3, val_main_v4, val_main_v5, val_main_v6, val_main_v7]

/-- The rows after they were split in parts. -/
theorem split (c : Dev nD) (q : Fin 4) (r : Fin 128) (j : Fin 256) : (V m c main_v2 : FVec Ideal ⟨4, ![4, 2, 128, 256]⟩ .bf16) (ix4 q 0 r j) = own m c (ix2 (up q r) j) := by
  entry_read
  pointwise

theorem readOwn (c : Dev nD) (t : Fin (cf m).N) (r : Fin 128) (j : Fin 256) :
    (iblk m (hO m) c 0 t : FVec Ideal ⟨4, ![1, 1, 128, 256]⟩ .bf16) (ix4 0 0 r j) = own m c (ix2 (up (q_ m t) (at_ m t r)) j) := by
  refine Eq.trans ?_ (split m c (q_ m t) (at_ m t r) j)
  blk_ext [iblk, idx0 m t]

theorem readGot (c : Dev nD) (t : Fin (cf m).N) (r : Fin 128) (j : Fin 256) :
    (iblk m (hO m) c 1 t : FVec Ideal ⟨3, ![1, 128, 256]⟩ .bf16) (ix3 0 r j) = got m c (ix3 (q_ m t) (at_ m t r) j) := by
  blk_ext [iblk, V, idx1 m t]

/-- Every block of the result is written. -/
theorem covers : ((cf m).win 2).Covers := by
  have key : ∀ a : (pcfg0 (F := Ideal)).Adm, a = ⟨Cert.Proof.SibPackIdealOk.zeros, Cert.Proof.SibPackIdealOk.okZeros⟩ → ((cfg0 a).win 2).Covers := by
    rintro _ rfl
    decide +kernel
  exact key _ (Subtype.ext (Cert.Proof.SibPackIdealOk.tblZero m))

/-- What a grid point leaves of its tile. -/
theorem out (c : Dev nD) (t : Fin (cf m).N) (r : Fin 128) (j : Fin 256) :
    (outsAt0 m (hO m) c t : FVec Ideal ⟨2, ![128, 256]⟩ .bf16) (ix2 r j) = own m c (ix2 (up (q_ m t) (at_ m t r)) j) + got m c (ix3 (q_ m t) (at_ m t r) j) := by
  unfold outsAt0
  frame_out
  refine (pay _ _ r j).trans ?_
  exact congrArg₂ (fun a b : EReal => a + b) ((congrFun ((hs0_0 m (hO m) t).read_unread (Val := Elt Ideal) (iblk m (hO m) c 0 t)) (ix4 0 0 r j)).trans (readOwn m c t r j))
    ((congrFun ((hs0_1 m (hO m) t).read_unread (Val := Elt Ideal) (iblk m (hO m) c 1 t)) (ix3 0 r j)).trans (readGot m c t r j))

/-- Where a tile's element lies in the result. -/
theorem dest (t : Fin (cf m).N) (r : Fin 128) (j : Fin 256) : (((cf m).win 2).blk t).view.emb (ix2 r j) = ix2 (to_ m t r) j := by
  blk_ext [idx2 m t]

theorem place (t : Fin (cf m).N) (r : Fin 128) : (to_ m t r).val / 128 = (q_ m t).val ∧ (to_ m t r).val % 128 = (at_ m t r).val := by
  have h := lt m t
  have h' := r.isLt
  show (t.val * 128 + r.val) / 128 = t.val / 1 ∧ (t.val * 128 + r.val) % 128 = t.val % 1 * 128 + r.val
  omega

theorem want (c : Dev nD) (t : Fin (cf m).N) (r : Fin 128) (j : Fin 256) :
    Cert.SibPackRefIdeal.Read.val_main_v7 (F := Ideal) (own m c) (got m c) (ix2 (to_ m t r) j) = own m c (ix2 (up (q_ m t) (at_ m t r)) j) + got m c (ix3 (q_ m t) (at_ m t r) j) := by
  rw [ref, show (⟨(to_ m t r).val / 128, by omega⟩ : Fin 4) = q_ m t from Fin.ext (place m t r).1, show (⟨(to_ m t r).val % 128, by omega⟩ : Fin 128) = at_ m t r from Fin.ext (place m t r).2]

theorem pt (c : Dev nD) (t : Fin (cf m).N) (x : (⟨2, ![128, 256]⟩ : Shape).Idx) :
    (outsAt0 m (hO m) c t : FVec Ideal ⟨2, ![128, 256]⟩ .bf16) x = Cert.SibPackRefIdeal.Read.val_main_v7 (F := Ideal) (own m c) (got m c) ((((cf m).win 2).blk t).view.emb x) := by
  obtain ⟨r, j, rfl⟩ : ∃ r j, x = ix2 r j := ⟨x 0, x 1, eq_ix2 x⟩
  rw [out, dest, want]

set_option maxHeartbeats 4000000 in
/-- The result array after the run. -/
theorem final (c : Dev nD) : (dats m (hO m) 0 c).arrAt 2 (cf m).N = Cert.SibPackRefIdeal.Read.val_main_v7 (F := Ideal) (own m c) (got m c) := by
  refine (dats m (hO m) 0 c).arrAt_eq_of_covers 2 _ (covers m) ?_
  intro t ht x
  exact pt m c t x

/-- The run, its result read. -/
theorem ends (g : Dev nD → PrngReg) : θ_run defs (onTc (τ := τ) (main (F := Ideal))) ⟨m, fun _ => 0, g⟩ (fun r => ∀ c : Dev nD,
      r.2.mem ((c : Thread nD τ).loc main_v3) = Cert.SibPackRefIdeal.Read.val_main_v7 (F := Ideal) (own m c) (got m c)) :=
  (θ_run defs _ _).mono (fun _ h c => ((h c).1 2).trans (final m c)) (run_main m g (hO m))

end Cert.Proof.SibPack

namespace Cert.Proof

open Idealize.ShloMosaic Idealize.SL.Sem

theorem algebraicSibPack : Cert.algebraic_SibPackIdeal_SibPackRefIdeal (hSibPackIdeal := Cert.SibPackIdeal.Gen.facts) (hSibPackRefIdeal := Cert.SibPackRefIdeal.Gen.facts) := by
  pair_intro
  · run_from Cert.Proof.SibPack.ends m g & Cert.SibPackIdeal.Gen.unchanged m g (Cert.Proof.SibPackIdealOk.ok m)
  · run_from Cert.SibPackRefIdeal.Value.run m' g'
    rfl

end Cert.Proof

end
-- ==== Proof.LossRow.lean ====
/-
  The loss of the last layer's norm, row by row, over the extended reals: what the loss's backward call and its reference both
  compute of one row.
-/
module

public import proofs.«01_k».proof.Proof.NormRow
public import Idealize.ShloMosaic.Lib.Pipeline.ValueKit

@[expose] public section

noncomputable section

namespace Cert.Proof.LossRow

open Idealize.ShloMosaic Cert.Proof.NormRow

variable (h y w b t : Row)

/-- What the norm gives, less the target. -/
def err (j : Fin 2048) : Ideal .f32 := unit h y j * w j + b j - t j

/-- The mean square of the row's error. -/
def msq : Ideal .f32 := Ideal.div (∑ j, err h y w b t j * err h y w b t j) cols

/-- The gradient of the loss by the norm's result: the error over the number of columns. -/
def ct (j : Fin 2048) : Ideal .f32 := err h y w b t j * Ideal.ofBits .f32 0x3A000000#32

theorem half : Ideal.ofBits .f32 0x3F000000#32 = (((1 : ℝ) / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem cols_eq : cols = ((2048 : ℝ) : EReal) := by
  simp [cols, Ideal.ofBits, Ideal.ieee, -EReal.coe_mul]; norm_num

theorem part : Ideal.ofBits .f32 0x3A000000#32 = (((1 : ℝ) / 2048 : ℝ) : EReal) := by
  simp [Ideal.ofBits, Ideal.ieee, -EReal.coe_mul]; norm_num

/-- A half over the number of columns, times two: one over the number of columns. -/
theorem scale (e : Ideal .f32) :
    Ideal.div (Ideal.ofBits .f32 0x3F000000#32 * Ideal.ofBits .f32 0x3F800000#32) cols * (Ideal.ofBits .f32 0x40000000#32 * e)
      = e * Ideal.ofBits .f32 0x3A000000#32 := by
  rw [half, two, one, cols_eq, part]
  have hd : Ideal.div ((((1 : ℝ) / 2 : ℝ) : EReal) * ((1 : ℝ) : EReal)) ((2048 : ℝ) : EReal) = (((1 : ℝ) / 4096 : ℝ) : EReal) := by
    unfold Ideal.div
    rw [if_neg (by norm_num), ← EReal.coe_inv, ← EReal.coe_mul, ← EReal.coe_mul]
    norm_num
  rw [hd]
  refine (mul_assoc _ _ _).symm.trans ?_
  refine (congrArg (· * e) (EReal.coe_mul _ _).symm).trans ?_
  rw [show (1 / 4096 * 2 : ℝ) = 1 / 2048 by norm_num]
  exact mul_comm _ _

/-- A half of a sum is the sum of the halves. -/
theorem half_sum {n : ℕ} (f : Fin n → EReal) :
    ∑ s, Ideal.ofBits .f32 0x3F000000#32 * f s = Ideal.ofBits .f32 0x3F000000#32 * ∑ s, f s := by
  rw [half]
  symm
  refine map_sum (⟨⟨fun x => (((1 : ℝ) / 2 : ℝ) : EReal) * x, mul_zero _⟩, fun x y => ?_⟩ : EReal →+ EReal) f _
  exact EReal.left_distrib_of_nonneg_of_ne_top (by exact_mod_cast (by norm_num : (0:ℝ) ≤ 1 / 2)) (EReal.coe_ne_top _) x y

end Cert.Proof.LossRow

end
-- ==== Proof.LnLossBlock.lean ====
/-
  What one grid point of the loss's backward call computes, row by row.
-/
module

public import proofs.«01_k».proof.Defs
public import proofs.«01_k».proof.Proof.Gen.LnLossIdeal.Skeleton
public import proofs.«01_k».proof.Proof.LossRow
public import Idealize.ShloMosaic.Lib.Pipeline.ValueKit

@[expose] public section

set_option maxRecDepth 16384

noncomputable section

namespace Cert.Proof.LnLoss

open Idealize.ShloMosaic Idealize.ShloMosaic.TcCoe Idealize.SL.Sem
open Cert.LnLossIdeal Cert.LnLossIdeal.Gen Cert.Proof.NormRow Cert.Proof.LossRow

abbrev Blk := FVec Ideal ⟨2, ![256, 2048]⟩ .f32
abbrev Vec1 := FVec Ideal ⟨2, ![1, 2048]⟩ .f32

variable (y h t : Blk) (w b : Vec1)

theorem pay8 (r : Fin 256) (j : Fin 2048) : k0_pay8 (F := Ideal) y h (ix2 r j) = u (row h r) (row y r) j := by
  unfold u; pointwise [k0_pay8]

theorem pay9 (r : Fin 256) (j : Fin 1) : k0_pay9 (F := Ideal) y h (ix2 r j) = mean (row h r) (row y r) := by
  unfold mean; pointwise [k0_pay9]; simp only [pay8]; try rfl

theorem pay10 (r : Fin 256) (j : Fin 2048) : k0_pay10 (F := Ideal) y h (ix2 r j) = dev (row h r) (row y r) j := by
  unfold dev; pointwise [k0_pay10]; simp only [pay8, pay9]; try rfl

theorem pay12 (r : Fin 256) (j : Fin 2048) : k0_pay12 (F := Ideal) y h (ix2 r j) = dev (row h r) (row y r) j := by
  unfold dev; pointwise [k0_pay12]; simp only [pay8, pay9]; try rfl

theorem pay11 (r : Fin 256) (j : Fin 2048) : k0_pay11 (F := Ideal) y h (ix2 r j) = Ideal.ofBits .f32 0x40000000#32 * dev (row h r) (row y r) j := by
  pointwise [k0_pay11]; simp only [pay10]

theorem pay13 (r : Fin 256) (j : Fin 1) : k0_pay13 (F := Ideal) y h (ix2 r j) = var (row h r) (row y r) := by
  unfold var; pointwise [k0_pay13]; simp only [pay10]; try rfl

theorem pay14 (r : Fin 256) (j : Fin 1) : k0_pay14 (F := Ideal) y h (ix2 r j) = rstd (row h r) (row y r) := by
  unfold rstd; pointwise [k0_pay14]; simp only [pay13]

theorem pay15 (r : Fin 256) (j : Fin 1) : k0_pay15 (F := Ideal) y h (ix2 r j) = drstd (row h r) (row y r) := by
  unfold drstd; pointwise [k0_pay15]; simp only [pay13, pay14]

theorem pay16 (r : Fin 256) (j : Fin 2048) : k0_pay16 (F := Ideal) y h (ix2 r j) = unit (row h r) (row y r) j := by
  unfold unit; pointwise [k0_pay16]; simp only [pay12, pay14]

/-- What the norm gives in the block. -/
abbrev res : Blk := k0_pay17 (F := Ideal) y w b h

theorem pay18 (r : Fin 256) (j : Fin 2048) : k0_pay18 (F := Ideal) (res y h w b) t (ix2 r j) = err (row h r) (row y r) (row w 0) (row b 0) (row t r) j := by
  unfold err; pointwise [k0_pay18, k0_pay17]; simp only [pay16]

theorem pay20 (r : Fin 256) (j : Fin 2048) : k0_pay20 (F := Ideal) (res y h w b) t (ix2 r j) = ct (row h r) (row y r) (row w 0) (row b 0) (row t r) j := by
  unfold ct; pointwise [k0_pay20]; simp only [pay18]

theorem pay19 (a : FVec Ideal ⟨2, ![1, 128]⟩ .f32) (l : Fin 1) (j : Fin 128) : k0_pay19 (F := Ideal) (res y h w b) t a (ix2 l j)
    = a (ix2 l j) + Ideal.ofBits .f32 0x3F000000#32 * ∑ r : Fin 256, msq (row h r) (row y r) (row w 0) (row b 0) (row t r) := by
  unfold msq; pointwise [k0_pay19]; simp only [pay18]

theorem pay21 (l : Fin 1) (j : Fin 2048) : k0_pay21 (F := Ideal) (res y h w b) t (ix2 l j)
    = ∑ r : Fin 256, ct (row h r) (row y r) (row w 0) (row b 0) (row t r) j := by
  pointwise [k0_pay21]; simp only [pay20]

theorem pay22 (l : Fin 1) (j : Fin 2048) : k0_pay22 (F := Ideal) (k0_pay16 y h) (res y h w b) t (ix2 l j)
    = ∑ r : Fin 256, unit (row h r) (row y r) j * ct (row h r) (row y r) (row w 0) (row b 0) (row t r) j := by
  pointwise [k0_pay22]; simp only [pay20, pay16]

theorem pay24 (r : Fin 256) (j : Fin 2048) : k0_pay24 (F := Ideal) w (k0_pay14 y h) (res y h w b) t (ix2 r j)
    = direct (row h r) (row y r) (row w 0) (ct (row h r) (row y r) (row w 0) (row b 0) (row t r)) j := by
  unfold direct gw; pointwise [k0_pay24, k0_pay23]; simp only [pay20, pay14]

theorem pay26 (r : Fin 256) (j : Fin 2048) : k0_pay26 (F := Ideal) w (k0_pay11 y h) (k0_pay12 y h) (k0_pay15 y h) (res y h w b) t (ix2 r j)
    = through (row h r) (row y r) (row w 0) (ct (row h r) (row y r) (row w 0) (row b 0) (row t r)) j := by
  unfold through dvar gw; pointwise [k0_pay26, k0_pay23]; simp only [pay20, pay11, pay12, pay15, Fin.sum_univ_one]

/-- The gradient of the block that a point writes. -/
abbrev tileOf : Blk := k0_pay1 (k0_pay24 w (k0_pay14 y h) (res y h w b) t) (k0_pay25 w (k0_pay14 y h) (res y h w b) t)
  (k0_pay26 w (k0_pay11 y h) (k0_pay12 y h) (k0_pay15 y h) (res y h w b) t)
  (k0_pay27 w (k0_pay11 y h) (k0_pay12 y h) (k0_pay15 y h) (res y h w b) t)

theorem pay1 (r : Fin 256) (j : Fin 2048) : tileOf y h t w b (ix2 r j)
    = grad (row h r) (row y r) (row w 0) (ct (row h r) (row y r) (row w 0) (row b 0) (row t r)) j := by
  unfold grad dmean
  pointwise [k0_pay1, k0_pay25, k0_pay27]
  simp only [pay24, pay26, Fin.sum_univ_one, zero_sub]

end Cert.Proof.LnLoss

end
-- ==== Proof.LnLossRef.lean ====
/-
  The reference of the loss's backward call, row by row.
-/
module

public import proofs.«01_k».proof.Defs
public import proofs.«01_k».proof.Proof.Gen.LnLossRefIdeal.Read
public import proofs.«01_k».proof.Proof.LossRow
public import Idealize.ShloMosaic.Lib.Pipeline.ValueKit

@[expose] public section

set_option maxRecDepth 16384

noncomputable section

namespace Cert.Proof.LnLoss.Ref

open Idealize.ShloMosaic Idealize.ShloMosaic.TcCoe Idealize.SL.Sem
open Cert.LnLossRefIdeal Cert.LnLossRefIdeal.Gen Cert.LnLossRefIdeal.Read Cert.Proof.NormRow Cert.Proof.LossRow

abbrev Arr := FVec Ideal ⟨2, ![2048, 2048]⟩ .f32
abbrev Vec1 := FVec Ideal ⟨2, ![1, 2048]⟩ .f32

variable (h y t : Arr) (w b : Vec1) (r j : Fin 2048)

/-- The gradient of the loss by the norm's result, in row `r`. -/
abbrev cts (r : Fin 2048) : Row := ct (row h r) (row y r) (row w 0) (row b 0) (row t r)

theorem at2 : val_main_v2 (F := Ideal) h y (ix2 r j) = u (row h r) (row y r) j := by
  unfold u; pointwise [val_main_v2, val_main_v1, val_main_v0, val_main_cst]

theorem at6 (l : Fin 1) : val_main_v6 (F := Ideal) h y (ix2 r l) = mean (row h r) (row y r) := by
  unfold mean; pointwise [val_main_v6, val_main_v5, val_main_v4, val_main_v3, val_main_cst_0, val_main_cst_1]; simp only [at2]

theorem at8 : val_main_v8 (F := Ideal) h y (ix2 r j) = dev (row h r) (row y r) j := by
  unfold dev; pointwise [val_main_v8, val_main_v7]; simp only [at2, at6]

theorem at17 : val_main_v17 (F := Ideal) h y (ix2 r j) = dev (row h r) (row y r) j := by
  unfold dev; pointwise [val_main_v17, val_main_v16]; simp only [at2, at6]

theorem at11 : val_main_v11 (F := Ideal) h y (ix2 r j) = Ideal.ofBits .f32 0x40000000#32 * dev (row h r) (row y r) j := by
  pointwise [val_main_v11, val_main_v10, val_main_cst_2]; simp only [at8]

theorem at19 (l : Fin 1) : val_main_v19 (F := Ideal) h y (ix2 r l) = var (row h r) (row y r) := by
  unfold var; pointwise [val_main_v19, val_main_v18, val_main_v15, val_main_v14, val_main_v13, val_main_v12, val_main_v9, val_main_cst_3, val_main_cst_4, val_main_cst_5]; simp only [at8]

theorem at20 (l : Fin 1) : val_main_v20 (F := Ideal) h y (ix2 r l) = rstd (row h r) (row y r) := by
  unfold rstd; pointwise [val_main_v20]; simp only [at19]

theorem at23 (l : Fin 1) : val_main_v23 (F := Ideal) h y (ix2 r l) = drstd (row h r) (row y r) := by
  unfold drstd; pointwise [val_main_v23, val_main_v22, val_main_v21, val_main_cst_6]; simp only [at19, at20]

theorem at25 : val_main_v25 (F := Ideal) h y (ix2 r j) = unit (row h r) (row y r) j := by
  unfold unit; pointwise [val_main_v25, val_main_v24]; simp only [at17, at20]

theorem at30 : val_main_v30 (F := Ideal) h y w b t (ix2 r j) = err (row h r) (row y r) (row w 0) (row b 0) (row t r) j := by
  unfold err; pointwise [val_main_v30, val_main_v29, val_main_v28, val_main_v27, val_main_v26]; simp only [at25]

theorem at44 : val_main_v44 (F := Ideal) h y w b t (ix2 r j) = cts h y t w b r j := by
  unfold cts ct; rw [← scale]
  pointwise [val_main_v44, val_main_v43, val_main_v42, val_main_v41, val_main_v40, val_main_v39, val_main_v33, val_main_v32, val_main_cst_7, val_main_cst_12, val_main_cst_13, val_main_cst_14]; simp only [at30]

theorem at51 : val_main_v51 (F := Ideal) h y w b t (ix2 r j) = gw (row w 0) (cts h y t w b r) j := by
  unfold gw; pointwise [val_main_v51, val_main_v50]; simp only [at44]

theorem at56 : val_main_v56 (F := Ideal) h y w b t (ix2 r j) = direct (row h r) (row y r) (row w 0) (cts h y t w b r) j := by
  unfold direct; pointwise [val_main_v56, val_main_v55]; simp only [at51, at20]

theorem at62 (l : Fin 1) : val_main_v62 (F := Ideal) h y w b t (ix2 r l) = dvar (row h r) (row y r) (row w 0) (cts h y t w b r) := by
  unfold dvar; pointwise [val_main_v62, val_main_v61, val_main_v57, val_main_v54, val_main_v53, val_main_v52, val_main_cst_17, val_main_cst_19]; simp only [at51, at23, at17]

theorem at65 : val_main_v65 (F := Ideal) h y w b t (ix2 r j) = through (row h r) (row y r) (row w 0) (cts h y t w b r) j := by
  unfold through; pointwise [val_main_v65, val_main_v64, val_main_v63, val_main_cst_20]; simp only [at62, at11, Fin.sum_univ_one]

theorem at72 (l : Fin 1) : val_main_v72 (F := Ideal) h y w b t (ix2 r l) = dmean (row h r) (row y r) (row w 0) (cts h y t w b r) := by
  unfold dmean; pointwise [val_main_v72, val_main_v71, val_main_v70, val_main_v68, val_main_v67, val_main_v66, val_main_v60, val_main_v59, val_main_v58, val_main_cst_18, val_main_cst_21, val_main_cst_22]; simp only [at56, at65]

/-- The gradient of the row. -/
theorem at75 : val_main_v75 (F := Ideal) h y w b t (ix2 r j) = grad (row h r) (row y r) (row w 0) (cts h y t w b r) j := by
  unfold grad; pointwise [val_main_v75, val_main_v74, val_main_v73, val_main_v69, val_main_cst_23]; simp only [at56, at65, at72, Fin.sum_univ_one]

/-- The same, after the cast. -/
theorem at76 : val_main_v76 (F := Ideal) h y w b t (ix2 r j) = grad (row h r) (row y r) (row w 0) (cts h y t w b r) j := by
  pointwise [val_main_v76]; simp only [at75]

/-- The gradient of the scale: a sum over all rows. -/
theorem at49 (l : Fin 1) : val_main_v49 (F := Ideal) h y w b t (ix2 l j) = ∑ r : Fin 2048, unit (row h r) (row y r) j * cts h y t w b r j := by
  pointwise [val_main_v49, val_main_v48, val_main_v47, val_main_cst_16]; simp only [at25, at44]

/-- The gradient of the offset: a sum over all rows. -/
theorem at46 (l : Fin 1) : val_main_v46 (F := Ideal) h y w b t (ix2 l j) = ∑ r : Fin 2048, cts h y t w b r j := by
  pointwise [val_main_v46, val_main_v45, val_main_cst_15]; simp only [at44]

theorem at36 : val_main_v36 (F := Ideal) h y w b t (ix1 r) = msq (row h r) (row y r) (row w 0) (row b 0) (row t r) := by
  unfold msq; pointwise [val_main_v36, val_main_v35, val_main_v34, val_main_v31, val_main_cst_8, val_main_cst_9]; simp only [at30]

/-- The loss, in every lane: half the sum of the rows' mean squares. -/
theorem at77 (l : Fin 1) (k : Fin 128) : val_main_v77 (F := Ideal) h y w b t (ix2 l k)
    = Ideal.ofBits .f32 0x3F000000#32 * ∑ r : Fin 2048, msq (row h r) (row y r) (row w 0) (row b 0) (row t r) := by
  pointwise [val_main_v77, val_main_v38, val_main_v37, val_main_cst_10, val_main_cst_11]; simp only [at36]

end Cert.Proof.LnLoss.Ref

end
-- ==== Proof.LnLoss.lean ====
/-
  The loss and its gradient through the last layer's norm, `_ln_loss_bwd`: eight tiles of 256 rows; the gradients of the scale and of
  the offset and the loss are summed over the tiles in their result blocks. After the run the five result arrays are the
  reference's.
-/
module

public import proofs.«01_k».proof.Defs
public import proofs.«01_k».proof.Proof.Gen.LnLossIdeal.Value
public import proofs.«01_k».proof.Proof.Gen.LnLossRefIdeal.Run
public import proofs.«01_k».proof.Proof.LnLossBlock
public import proofs.«01_k».proof.Proof.LnLossRef
public import Idealize.ShloMosaic.Lib.Pipeline.ValueKit
public import Idealize.ShloMosaic.Lib.Claim

@[expose] public section

set_option maxRecDepth 16384

noncomputable section

namespace Cert.Proof.LnLoss

open Idealize.ShloMosaic Idealize.ShloMosaic.TcCoe Idealize.SL.Sem
open Idealize.ShloMosaic.Pipeline (Dat)
open Cert.LnLossIdeal Cert.LnLossIdeal.Gen Cert.Proof.NormRow Cert.Proof.LossRow

variable (m : (ℓ : Loc nD τ sig) → Buf (Elt Ideal) ℓ)

abbrev Arr := FVec Ideal ⟨2, ![2048, 2048]⟩ .f32
abbrev Lanes := FVec Ideal ⟨2, ![1, 128]⟩ .f32

/-- The argument arrays, as arrays of extended reals. -/
abbrev argH (c : Dev nD) : Arr := m ((c : Thread nD τ).loc main_arg0)
abbrev argY (c : Dev nD) : Arr := m ((c : Thread nD τ).loc main_arg1)
abbrev argW (c : Dev nD) : Vec1 := m ((c : Thread nD τ).loc main_arg2)
abbrev argB (c : Dev nD) : Vec1 := m ((c : Thread nD τ).loc main_arg3)
abbrev argT (c : Dev nD) : Arr := m ((c : Thread nD τ).loc main_arg4)

/-- Their blocks at a grid point. -/
abbrev blkH (c : Dev nD) (t : Fin cfg0.N) : Blk := iblk m c 0 t
abbrev blkY (c : Dev nD) (t : Fin cfg0.N) : Blk := iblk m c 1 t
abbrev blkW (c : Dev nD) (t : Fin cfg0.N) : Vec1 := iblk m c 2 t
abbrev blkB (c : Dev nD) (t : Fin cfg0.N) : Vec1 := iblk m c 3 t
abbrev blkT (c : Dev nD) (t : Fin cfg0.N) : Blk := iblk m c 4 t

/-- Which block each window holds at each grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

theorem lt (t : Fin cfg0.N) (r : Fin 256) : t.val * 256 + r.val < 2048 := by
  have h : t.val < 8 := t.isLt
  omega

/-- The array's row that a tile's row is. -/
abbrev at_ (t : Fin cfg0.N) (r : Fin 256) : Fin 2048 := ⟨t.val * 256 + r.val, lt t r⟩

theorem readH (c : Dev nD) (t : Fin cfg0.N) (r : Fin 256) : row (blkH m c t) r = row (argH m c) (at_ t r) := by
  funext j; dsimp only [row]; blk_ext [iblk, V, idx t]

theorem readY (c : Dev nD) (t : Fin cfg0.N) (r : Fin 256) : row (blkY m c t) r = row (argY m c) (at_ t r) := by
  funext j; dsimp only [row]; blk_ext [iblk, V, idx t]

theorem readT (c : Dev nD) (t : Fin cfg0.N) (r : Fin 256) : row (blkT m c t) r = row (argT m c) (at_ t r) := by
  funext j; dsimp only [row]; blk_ext [iblk, V, idx t]

theorem readW (c : Dev nD) (t : Fin cfg0.N) : row (blkW m c t) 0 = row (argW m c) 0 := by
  funext j; dsimp only [row]; blk_ext [iblk, V, idx t]

theorem readB (c : Dev nD) (t : Fin cfg0.N) : row (blkB m c t) 0 = row (argB m c) 0 := by
  funext j; dsimp only [row]; blk_ext [iblk, V, idx t]

/-- What the norm gives in the rows of a point. -/
abbrev resAt (c : Dev nD) (t : Fin cfg0.N) : Blk := res (blkY m c t) (blkH m c t) (blkW m c t) (blkB m c t)

/-- The gradient of the rows that a point writes. -/
abbrev tile (c : Dev nD) (t : Fin cfg0.N) : Blk := tileOf (blkY m c t) (blkH m c t) (blkT m c t) (blkW m c t) (blkB m c t)

theorem out5 (c : Dev nD) (t : Fin cfg0.N) : (outsAt0 m c t.val t.isLt).1 = tile m c t := by
  by_cases h : t.val % 8 = 0
  · rw [outsAt0_A m c t h]; frame_out
  · rw [outsAt0_B m c t h]; frame_out

theorem out6 (c : Dev nD) (t : Fin cfg0.N) : (outsAt0 m c t.val t.isLt).2.1 = truncf .bf16 (tile m c t) bitsLt_bf16_f32 := by
  by_cases h : t.val % 8 = 0
  · rw [outsAt0_A m c t h]; frame_out; rfl
  · rw [outsAt0_B m c t h]; frame_out; rfl

/-- The gradient of the loss by the norm's result, in row `r`. -/
abbrev ctRow (c : Dev nD) (r : Fin 2048) : Row := Ref.cts (argH m c) (argY m c) (argT m c) (argW m c) (argB m c) r

theorem readC (c : Dev nD) (t : Fin cfg0.N) (r : Fin 256) :
    ct (row (blkH m c t) r) (row (blkY m c t) r) (row (blkW m c t) 0) (row (blkB m c t) 0) (row (blkT m c t) r) = ctRow m c (at_ t r) := by
  rw [readH m c t r, readY m c t r, readW m c t, readB m c t, readT m c t r]

theorem tile_at (c : Dev nD) (t : Fin cfg0.N) (r : Fin 256) (j : Fin 2048) :
    tile m c t (ix2 r j) = Cert.LnLossRefIdeal.Read.val_main_v75 (F := Ideal) (argH m c) (argY m c) (argW m c) (argB m c) (argT m c) (ix2 (at_ t r) j) := by
  rw [Ref.at75]
  refine (pay1 _ _ _ _ _ r j).trans ?_
  rw [readC m c t r, readH m c t r, readY m c t r, readW m c t]

/-- The gradient's array after the run. -/
theorem final5 (c : Dev nD) : (dats m 0 c).arrAt 5 (cfgs 0).N
    = Cert.LnLossRefIdeal.Read.val_main_v75 (F := Ideal) (argH m c) (argY m c) (argW m c) (argB m c) (argT m c) := by
  refine (dats m 0 c).arrAt_eq_of_covers 5 _ (by decide +kernel) fun t _ x => ?_
  obtain ⟨r, j, rfl⟩ : ∃ r j, x = ix2 r j := ⟨_, _, eq_ix2 x⟩
  rw [after0_5, out5 m c t, show ((cfg0.win 5).blk t).view.emb (ix2 r j) = ix2 (at_ t r) j by blk_ext [idx t]]
  exact tile_at m c t r j

/-- The same gradient's array in the narrow type. -/
theorem final6 (c : Dev nD) : (dats m 0 c).arrAt 6 (cfgs 0).N
    = Cert.LnLossRefIdeal.Read.val_main_v76 (F := Ideal) (argH m c) (argY m c) (argW m c) (argB m c) (argT m c) := by
  refine (dats m 0 c).arrAt_eq_of_covers 6 _ (by decide +kernel) fun t _ x => ?_
  obtain ⟨r, j, rfl⟩ : ∃ r j, x = ix2 r j := ⟨_, _, eq_ix2 x⟩
  rw [after0_6, out6 m c t, show ((cfg0.win 6).blk t).view.emb (ix2 r j) = ix2 (at_ t r) j by blk_ext [idx t], Ref.at76, ← Ref.at75]
  exact tile_at m c t r j

/-- A row's share of the scale's gradient. -/
abbrev shareW (c : Dev nD) (j r : Fin 2048) : Ideal .f32 := unit (row (argH m c) r) (row (argY m c) r) j * ctRow m c r j

/-- The mean square of a row's error. -/
abbrev shareL (c : Dev nD) (r : Fin 2048) : Ideal .f32 :=
  msq (row (argH m c) r) (row (argY m c) r) (row (argW m c) 0) (row (argB m c) 0) (row (argT m c) r)

/-- A tile's share of the scale's gradient. -/
abbrev partW (c : Dev nD) (t : Fin cfg0.N) (x : (⟨2, ![1, 2048]⟩ : Shape).Idx) : Ideal .f32 := ∑ r : Fin 256, shareW m c (x 1) (at_ t r)

/-- A tile's share of the offset's gradient. -/
abbrev partB (c : Dev nD) (t : Fin cfg0.N) (x : (⟨2, ![1, 2048]⟩ : Shape).Idx) : Ideal .f32 := ∑ r : Fin 256, ctRow m c (at_ t r) (x 1)

/-- A tile's share of the loss. -/
abbrev partL (c : Dev nD) (t : Fin cfg0.N) (x : (⟨2, ![1, 128]⟩ : Shape).Idx) : Ideal .f32 :=
  Ideal.ofBits .f32 0x3F000000#32 * ∑ r : Fin 256, shareL m c (at_ t r)

theorem addW (c : Dev nD) (t : Fin cfg0.N) (a : Vec1) (x) :
    k0_pay3 (F := Ideal) (k0_pay22 (k0_pay16 (blkY m c t) (blkH m c t)) (resAt m c t) (blkT m c t)) a x = a x + partW m c t x := by
  obtain ⟨l, j, rfl⟩ : ∃ l j, x = ix2 l j := ⟨_, _, eq_ix2 x⟩
  refine (show _ = a (ix2 l j) + k0_pay22 (F := Ideal) (k0_pay16 (blkY m c t) (blkH m c t)) (resAt m c t) (blkT m c t) (ix2 l j) by pointwise [k0_pay3]).trans ?_
  rw [pay22]
  refine congrArg (a (ix2 l j) + ·) (Finset.sum_congr rfl fun r _ => ?_)
  rw [readC m c t r, readH m c t r, readY m c t r]
  rfl

theorem addB (c : Dev nD) (t : Fin cfg0.N) (a : Vec1) (x) :
    k0_pay4 (F := Ideal) (k0_pay21 (resAt m c t) (blkT m c t)) a x = a x + partB m c t x := by
  obtain ⟨l, j, rfl⟩ : ∃ l j, x = ix2 l j := ⟨_, _, eq_ix2 x⟩
  refine (show _ = a (ix2 l j) + k0_pay21 (F := Ideal) (resAt m c t) (blkT m c t) (ix2 l j) by pointwise [k0_pay4]).trans ?_
  rw [pay21]
  refine congrArg (a (ix2 l j) + ·) (Finset.sum_congr rfl fun r _ => ?_)
  rw [readC m c t r]
  rfl

theorem addL (c : Dev nD) (t : Fin cfg0.N) (a : Lanes) (x) :
    k0_pay19 (F := Ideal) (resAt m c t) (blkT m c t) a x = a x + partL m c t x := by
  obtain ⟨l, j, rfl⟩ : ∃ l j, x = ix2 l j := ⟨_, _, eq_ix2 x⟩
  refine (pay19 _ _ _ _ _ a l j).trans ?_
  refine congrArg (fun z => a (ix2 l j) + Ideal.ofBits .f32 0x3F000000#32 * z) (Finset.sum_congr rfl fun r _ => ?_)
  rw [readH m c t r, readY m c t r, readW m c t, readB m c t, readT m c t r]

theorem zeroW (x) : k0_pay5 (F := Ideal) x = 0 := by pointwise [k0_pay5]
theorem zeroB (x) : k0_pay6 (F := Ideal) x = 0 := by pointwise [k0_pay6]
theorem zeroL (x) : k0_pay7 (F := Ideal) x = 0 := by pointwise [k0_pay7]

/-- The scale's gradient after the last tile. -/
theorem acc7 (c : Dev nD) (t : Fin cfg0.N) (h : t.val % 8 = 7) (x) :
    (outsAt0 m c t.val t.isLt).2.2.1 x = ∑ s : Fin 8, partW m c ⟨8 * (t.val / 8) + s.val, Pipeline.run_point_lt_of_flush t h s⟩ x := by
  have e := Pipeline.eq_sum_fin_of_reset_step_apply_of_flush (fun n h => (outsAt0 m c n h).2.2.1) 8 (fun _ => 0) (partW m c)
    (fun t h x => by rw [outsAt0_A m c t h]; frame_out; exact (addW m c t _ x).trans (congrArg (· + _) (zeroW x)))
    (fun t h x => by rw [outsAt0_B m c t h]; frame_out; exact addW m c t _ x) t h x
  rw [zero_add] at e
  exact e

/-- The offset's gradient after the last tile. -/
theorem acc8 (c : Dev nD) (t : Fin cfg0.N) (h : t.val % 8 = 7) (x) :
    (outsAt0 m c t.val t.isLt).2.2.2.1 x = ∑ s : Fin 8, partB m c ⟨8 * (t.val / 8) + s.val, Pipeline.run_point_lt_of_flush t h s⟩ x := by
  have e := Pipeline.eq_sum_fin_of_reset_step_apply_of_flush (fun n h => (outsAt0 m c n h).2.2.2.1) 8 (fun _ => 0) (partB m c)
    (fun t h x => by rw [outsAt0_A m c t h]; frame_out; exact (addB m c t _ x).trans (congrArg (· + _) (zeroB x)))
    (fun t h x => by rw [outsAt0_B m c t h]; frame_out; exact addB m c t _ x) t h x
  rw [zero_add] at e
  exact e

/-- The loss after the last tile. -/
theorem acc9 (c : Dev nD) (t : Fin cfg0.N) (h : t.val % 8 = 7) (x) :
    (outsAt0 m c t.val t.isLt).2.2.2.2 x = ∑ s : Fin 8, partL m c ⟨8 * (t.val / 8) + s.val, Pipeline.run_point_lt_of_flush t h s⟩ x := by
  have e := Pipeline.eq_sum_fin_of_reset_step_apply_of_flush (fun n h => (outsAt0 m c n h).2.2.2.2) 8 (fun _ => 0) (partL m c)
    (fun t h x => by rw [outsAt0_A m c t h]; frame_out; exact (addL m c t _ x).trans (congrArg (· + _) (zeroL x)))
    (fun t h x => by rw [outsAt0_B m c t h]; frame_out; exact addL m c t _ x) t h x
  rw [zero_add] at e
  exact e

/-- Eight tiles of 256 rows are all the rows. -/
theorem tiles (f : Fin 2048 → Ideal .f32) (t : Fin cfg0.N) (h : t.val % 8 = 7) :
    ∑ s : Fin 8, ∑ r : Fin 256, f (at_ ⟨8 * (t.val / 8) + s.val, Pipeline.run_point_lt_of_flush t h s⟩ r) = ∑ l : Fin 2048, f l := by
  refine Fin.sum_mul_add_congr fun s r hl => congrArg f (Fin.ext ?_)
  have h8 : t.val < 8 := t.isLt
  show (8 * (t.val / 8) + s.val) * 256 + r.val = s.val * 256 + r.val
  omega

/-- The scale's gradient after the run. -/
theorem final7 (c : Dev nD) : (dats m 0 c).arrAt 7 (cfgs 0).N
    = Cert.LnLossRefIdeal.Read.val_main_v49 (F := Ideal) (argH m c) (argY m c) (argW m c) (argB m c) (argT m c) := by
  refine (dats m 0 c).arrAt_eq_of_covers 7 _ (by decide +kernel) fun t hf x => ?_
  have h : t.val % 8 = 7 := (flush0_7 t).mp hf
  obtain ⟨l, j, rfl⟩ : ∃ l j, x = ix2 l j := ⟨_, _, eq_ix2 x⟩
  rw [after0_7, acc7 m c t h, show ((cfg0.win 7).blk t).view.emb (ix2 l j) = ix2 l j by blk_ext [idx t], Ref.at49]
  exact tiles (shareW m c j) t h

/-- The offset's gradient after the run. -/
theorem final8 (c : Dev nD) : (dats m 0 c).arrAt 8 (cfgs 0).N
    = Cert.LnLossRefIdeal.Read.val_main_v46 (F := Ideal) (argH m c) (argY m c) (argW m c) (argB m c) (argT m c) := by
  refine (dats m 0 c).arrAt_eq_of_covers 8 _ (by decide +kernel) fun t hf x => ?_
  have h : t.val % 8 = 7 := (flush0_8 t).mp hf
  obtain ⟨l, j, rfl⟩ : ∃ l j, x = ix2 l j := ⟨_, _, eq_ix2 x⟩
  rw [after0_8, acc8 m c t h, show ((cfg0.win 8).blk t).view.emb (ix2 l j) = ix2 l j by blk_ext [idx t], Ref.at46]
  exact tiles (fun r => ctRow m c r j) t h

/-- The loss after the run. -/
theorem final9 (c : Dev nD) : (dats m 0 c).arrAt 9 (cfgs 0).N
    = Cert.LnLossRefIdeal.Read.val_main_v77 (F := Ideal) (argH m c) (argY m c) (argW m c) (argB m c) (argT m c) := by
  refine (dats m 0 c).arrAt_eq_of_covers 9 _ (by decide +kernel) fun t hf x => ?_
  have h : t.val % 8 = 7 := (flush0_9 t).mp hf
  obtain ⟨l, j, rfl⟩ : ∃ l j, x = ix2 l j := ⟨_, _, eq_ix2 x⟩
  rw [after0_9, acc9 m c t h, show ((cfg0.win 9).blk t).view.emb (ix2 l j) = ix2 l j by blk_ext [idx t], Ref.at77]
  refine (half_sum _).trans (congrArg (Ideal.ofBits .f32 0x3F000000#32 * ·) ?_)
  exact tiles (shareL m c) t h

end Cert.Proof.LnLoss

namespace Cert.Proof

open Idealize.ShloMosaic Idealize.SL.Sem

theorem algebraicLnLoss : Cert.algebraic_LnLossIdeal_LnLossRefIdeal (hLnLossIdeal := Cert.LnLossIdeal.Gen.facts) (hLnLossRefIdeal := Cert.LnLossRefIdeal.Gen.facts) := by
  intro m g m' g' _ ha
  refine ⟨fun c => Cert.LnLossRefIdeal.Read.val_main_v75 (F := Ideal) (LnLoss.argH m c) (LnLoss.argY m c) (LnLoss.argW m c) (LnLoss.argB m c) (LnLoss.argT m c),
    fun c => Cert.LnLossRefIdeal.Read.val_main_v76 (F := Ideal) (LnLoss.argH m c) (LnLoss.argY m c) (LnLoss.argW m c) (LnLoss.argB m c) (LnLoss.argT m c),
    fun c => Cert.LnLossRefIdeal.Read.val_main_v49 (F := Ideal) (LnLoss.argH m c) (LnLoss.argY m c) (LnLoss.argW m c) (LnLoss.argB m c) (LnLoss.argT m c),
    fun c => Cert.LnLossRefIdeal.Read.val_main_v46 (F := Ideal) (LnLoss.argH m c) (LnLoss.argY m c) (LnLoss.argW m c) (LnLoss.argB m c) (LnLoss.argT m c),
    fun c => Cert.LnLossRefIdeal.Read.val_main_v77 (F := Ideal) (LnLoss.argH m c) (LnLoss.argY m c) (LnLoss.argW m c) (LnLoss.argB m c) (LnLoss.argT m c), ?_, ?_⟩
  · refine (θ_run Cert.LnLossIdeal.defs _ _).mono (fun r h c => ?_) (Cert.LnLossIdeal.Value.run_blocks m g)
    obtain ⟨h0, h1, h2, h3, h4, rest⟩ := h c
    exact ⟨h0.trans (LnLoss.final5 m c), h1.trans (LnLoss.final6 m c), h2.trans (LnLoss.final7 m c), h3.trans (LnLoss.final8 m c),
      h4.trans (LnLoss.final9 m c), rest⟩
  · refine (θ_run Cert.LnLossRefIdeal.defs _ _).mono (fun r h c => ?_) (Cert.LnLossRefIdeal.Value.run m' g')
    obtain ⟨h0, h1, h2, h3, h4, rest⟩ := h c
    obtain ⟨a0, a1, a2, a3, a4⟩ := ha c
    exact ⟨h0.trans ((Cert.LnLossRefIdeal.Read.val_main_v75_eq m' c).trans (by rw [a0, a1, a2, a3, a4])),
      h1.trans ((Cert.LnLossRefIdeal.Read.val_main_v76_eq m' c).trans (by rw [a0, a1, a2, a3, a4])),
      h2.trans ((Cert.LnLossRefIdeal.Read.val_main_v49_eq m' c).trans (by rw [a0, a1, a2, a3, a4])),
      h3.trans ((Cert.LnLossRefIdeal.Read.val_main_v46_eq _ _ _ _ _).trans (by rw [a0, a1, a2, a3, a4])),
      h4.trans ((Cert.LnLossRefIdeal.Read.val_main_v77_eq m' c).trans (by rw [a0, a1, a2, a3, a4])), rest⟩

end Cert.Proof

end
-- ==== Proof.SumPack.lean ====
/-
  The packed small gradients' sum over the four pairs, on the place whose axis indices are 0: its own quarter and the three that arrived.
-/
module

public import proofs.«01_k».proof.Defs
public import proofs.«01_k».proof.Proof.Gen.SumPackIdeal.Frame
public import proofs.«01_k».proof.Proof.Gen.SumPackRefIdeal.Run
public import proofs.«01_k».proof.Proof.Gen.SumPackRefIdeal.Read
public import Idealize.ShloMosaic.Lib.Pipeline.ValueKit
public import Idealize.ShloMosaic.Lib.Claim

@[expose] public section

set_option maxRecDepth 16384

noncomputable section

namespace Cert.Proof.SumPack

open Idealize.ShloMosaic Idealize.ShloMosaic.TcCoe Idealize.SL.Sem
open Idealize.ShloMosaic.Pipeline (Dat)
open Cert.SumPackIdeal Cert.SumPackIdeal.Gen

variable (m : (ℓ : Loc nD τ sig) → Buf (Elt Ideal) ℓ)

/-- The sums of this place's pair, all four quarters. -/
abbrev own (c : Dev nD) : FVec Ideal ⟨2, ![512, 256]⟩ .bf16 := m ((c : Thread nD τ).loc main_arg0)

/-- The three parts that came from the other pairs. -/
abbrev got (c : Dev nD) : FVec Ideal ⟨3, ![3, 128, 256]⟩ .bf16 := m ((c : Thread nD τ).loc main_arg1)

/-- Which block each window holds at each grid point. -/
theorem idx : ∀ t : Fin cfg0.N, win0_0.index t = ![0, t.val, 0] ∧ win0_1.index t = ![0, t.val, 0] ∧ win0_2.index t = ![0, t.val, 0] :=
  (by decide +kernel : ∀ t : Fin grid0.N, _)

theorem lt (t : Fin cfg0.N) (r : Fin 128) : t.val * 128 + r.val < 128 := by
  have h : t.val < 1 := t.isLt
  omega

/-- The array's row that a tile's row is. -/
abbrev at_ (t : Fin cfg0.N) (r : Fin 128) : Fin 128 := ⟨t.val * 128 + r.val, lt t r⟩

/-- A row of the first quarter, among all rows. -/
abbrev up (r : Fin 128) : Fin 512 := ⟨r.val, by omega⟩

/-- What the body makes of its slices: of the four quarters it keeps the first. -/
theorem pay (X0 X1 X2 X3 Y0 Y1 Y2 : FVec Ideal ⟨3, ![1, 128, 256]⟩ .bf16) (r : Fin 128) (j : Fin 256) :
    k0_pay1 (F := Ideal) X0 X1 X2 X3 Y0 Y1 Y2 (ix3 0 r j) = X0 (ix3 0 r j) + Y0 (ix3 0 r j) + Y1 (ix3 0 r j) + Y2 (ix3 0 r j) := by
  pointwise [k0_pay1]

/-- What the reference computes. -/
theorem ref (H : FVec Ideal ⟨2, ![512, 256]⟩ .bf16) (G : FVec Ideal ⟨3, ![3, 128, 256]⟩ .bf16) (r : Fin 128) (j : Fin 256) :
    Cert.SumPackRefIdeal.Read.val_main_v5 (F := Ideal) H G (ix3 0 r j) = H (ix2 (up r) j) + G (ix3 0 r j) + G (ix3 1 r j) + G (ix3 2 r j) := by
  pointwise [Cert.SumPackRefIdeal.Read.val_main_v0, Cert.SumPackRefIdeal.Read.val_main_v1, Cert.SumPackRefIdeal.Read.val_main_v2, Cert.SumPackRefIdeal.Read.val_main_v3, Cert.SumPackRefIdeal.Read.val_main_v4, Cert.SumPackRefIdeal.Read.val_main_v5, Cert.SumPackRefIdeal.Read.val_main_cst]
  rw [Fin.sum_univ_three, ← add_assoc, ← add_assoc]

/-- The rows after they were split in quarters. -/
theorem split (c : Dev nD) (r : Fin 128) (j : Fin 256) : (V m c main_v0 : FVec Ideal ⟨3, ![4, 128, 256]⟩ .bf16) (ix3 0 r j) = own m c (ix2 (up r) j) := by
  entry_read
  pointwise

theorem readOwn (c : Dev nD) (t : Fin cfg0.N) (r : Fin 128) (j : Fin 256) :
    (iblk m c 0 t : FVec Ideal ⟨3, ![4, 128, 256]⟩ .bf16) (ix3 0 r j) = own m c (ix2 (up (at_ t r)) j) := by
  refine Eq.trans ?_ (split m c (at_ t r) j)
  blk_ext [iblk, idx t]

theorem readGot (c : Dev nD) (t : Fin cfg0.N) (q : Fin 3) (r : Fin 128) (j : Fin 256) :
    (iblk m c 1 t : FVec Ideal ⟨3, ![3, 128, 256]⟩ .bf16) (ix3 q r j) = got m c (ix3 q (at_ t r) j) := by
  blk_ext [iblk, V, idx t]

/-- The result array after the run. -/
theorem final (c : Dev nD) : (dats m 0 c).arrAt 2 (cfgs 0).N = Cert.SumPackRefIdeal.Read.val_main_v5 (F := Ideal) (own m c) (got m c) := by
  refine (dats m 0 c).arrAt_eq_of_covers 2 _ (by decide +kernel) fun t _ x => ?_
  obtain ⟨r, j, rfl⟩ : ∃ r j, x = ix3 0 r j := ⟨x 1, x 2, (eq_ix3 x).trans (congrArg (fun a => ix3 a (x 1) (x 2)) (Subsingleton.elim (α := Fin 1) (x 0) 0))⟩
  rw [show ((cfg0.win 2).blk t).view.emb (ix3 0 r j) = ix3 0 (at_ t r) j by blk_ext [idx t], ref, after0_2]; frame_out
  refine (pay _ _ _ _ _ _ _ r j).trans ?_
  rw [
    show View.ld (iblk m c 0 t) r0_0 (ix3 0 r j) = own m c (ix2 (up (at_ t r)) j) from (congrArg (iblk m c 0 t) (show r0_0.idx (ix3 0 r j) = ix3 0 r j by funext a; apply Fin.ext; fin_cases a <;> simp [r0_0, Rect.idx_unit_val])).trans (readOwn m c t r j),
    show View.ld (iblk m c 1 t) r0_4 (ix3 0 r j) = got m c (ix3 0 (at_ t r) j) from (congrArg (iblk m c 1 t) (show r0_4.idx (ix3 0 r j) = ix3 0 r j by funext a; apply Fin.ext; fin_cases a <;> simp [r0_4, Rect.idx_unit_val])).trans (readGot m c t 0 r j),
    show View.ld (iblk m c 1 t) r0_5 (ix3 0 r j) = got m c (ix3 1 (at_ t r) j) from (congrArg (iblk m c 1 t) (show r0_5.idx (ix3 0 r j) = ix3 1 r j by funext a; apply Fin.ext; fin_cases a <;> simp [r0_5, Rect.idx_unit_val])).trans (readGot m c t 1 r j),
    show View.ld (iblk m c 1 t) r0_6 (ix3 0 r j) = got m c (ix3 2 (at_ t r) j) from (congrArg (iblk m c 1 t) (show r0_6.idx (ix3 0 r j) = ix3 2 r j by funext a; apply Fin.ext; fin_cases a <;> simp [r0_6, Rect.idx_unit_val])).trans (readGot m c t 2 r j)]

end Cert.Proof.SumPack

namespace Cert.Proof

open Idealize.ShloMosaic Idealize.SL.Sem

theorem algebraicSumPack : Cert.algebraic_SumPackIdeal_SumPackRefIdeal (hSumPackIdeal := Cert.SumPackIdeal.Gen.facts) (hSumPackRefIdeal := Cert.SumPackRefIdeal.Gen.facts) := by
  pair_intro
  · run_from Cert.SumPackIdeal.Gen.run_main m g
  · run_from Cert.SumPackRefIdeal.Value.run m' g'
    exact (Cert.Proof.SumPack.final m _).symm

end Cert.Proof

end
-- ==== Proof.Adam.lean ====
/-
  One step of the optimiser at one element, over the extended reals: what the optimiser's calls and their references both compute.
-/
module

public import proofs.«01_k».proof.Defs
public import Idealize.ShloMosaic.Lib.Pipeline.ValueKit

@[expose] public section

noncomputable section

namespace Cert.Proof.Adam

open Idealize.ShloMosaic

/-- The new first moment. -/
def mom (g m : Ideal .f32) : Ideal .f32 := Ideal.ofBits .f32 0x3F666666#32 * m + Ideal.ofBits .f32 0x3DCCCCCD#32 * g

/-- The new second moment. -/
def sec (g v : Ideal .f32) : Ideal .f32 := Ideal.ofBits .f32 0x3F7FBE77#32 * v + Ideal.ofBits .f32 0x3A83126F#32 * (g * g)

/-- The change of the weight. -/
def delta (w g m v : Ideal .f32) : Ideal .f32 := Ideal.ofBits .f32 0xBA83126F#32
  * (Ideal.div (Ideal.div (mom g m) (Ideal.ofBits .f32 0x3F26BD02#32))
      (Ideal.sqrt (Ideal.div (sec g v) (Ideal.ofBits .f32 0x3C231ACC#32)) + Ideal.ofBits .f32 0x322BCC77#32)
    + Ideal.ofBits .f32 0x3C23D70A#32 * w)

end Cert.Proof.Adam

end
-- ==== Proof.AdamWout.lean ====
/-
  The optimiser on the output weight, the rows of the layers one below the other: after the run the three result arrays are the
  reference's.
-/
module

public import proofs.«01_k».proof.Defs
public import proofs.«01_k».proof.Proof.Gen.AdamWoutIdeal.Value
public import proofs.«01_k».proof.Proof.Gen.AdamWoutRefIdeal.Run
public import proofs.«01_k».proof.Proof.Gen.AdamWoutRefIdeal.Read
public import proofs.«01_k».proof.Proof.Adam
public import Idealize.ShloMosaic.Lib.Pipeline.ValueKit
public import Idealize.ShloMosaic.Lib.Claim

@[expose] public section

set_option maxRecDepth 16384

noncomputable section

namespace Cert.Proof.AdamWout

open Idealize.ShloMosaic Idealize.ShloMosaic.TcCoe Idealize.SL.Sem
open Idealize.ShloMosaic.Pipeline (Dat)
open Cert.AdamWoutIdeal Cert.AdamWoutIdeal.Gen Cert.Proof.Adam

abbrev Arr := FVec Ideal ⟨2, ![512, 2048]⟩ .f32
abbrev Blk := FVec Ideal ⟨2, ![256, 2048]⟩ .f32

section
variable (W G M V : Blk) (r : Fin 256) (j : Fin 2048)

theorem pay1 : k0_pay1 (F := Ideal) G M (ix2 r j) = mom (G (ix2 r j)) (M (ix2 r j)) := by
  unfold mom; pointwise [k0_pay1]

theorem pay2 : k0_pay2 (F := Ideal) G V (ix2 r j) = sec (G (ix2 r j)) (V (ix2 r j)) := by
  unfold sec; pointwise [k0_pay2]

theorem pay3 : k0_pay3 (F := Ideal) W G M V (ix2 r j) = delta (W (ix2 r j)) (G (ix2 r j)) (M (ix2 r j)) (V (ix2 r j)) := by
  unfold delta; pointwise [k0_pay3]; simp only [pay1, pay2]

end

namespace Ref
open Cert.AdamWoutRefIdeal.Read
variable (W G M V : Arr) (r : Fin 512) (j : Fin 2048)

theorem at4 : val_main_v4 (F := Ideal) G M (ix2 r j) = mom (G (ix2 r j)) (M (ix2 r j)) := by
  unfold mom; pointwise [val_main_v4, val_main_v3, val_main_v2, val_main_v1, val_main_v0, val_main_cst, val_main_cst_0]

theorem at10 : val_main_v10 (F := Ideal) G V (ix2 r j) = sec (G (ix2 r j)) (V (ix2 r j)) := by
  unfold sec; pointwise [val_main_v10, val_main_v9, val_main_v8, val_main_v7, val_main_v6, val_main_v5, val_main_cst_1, val_main_cst_2]

theorem at23 : val_main_v23 (F := Ideal) W G M V (ix2 r j) = delta (W (ix2 r j)) (G (ix2 r j)) (M (ix2 r j)) (V (ix2 r j)) := by
  unfold delta
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [at4, at10]

end Ref

variable (m : (ℓ : Loc nD τ sig) → Buf (Elt Ideal) ℓ)

/-- The argument arrays, as arrays of extended reals. -/
abbrev argW (c : Dev nD) : Arr := m ((c : Thread nD τ).loc main_arg0)
abbrev argG (c : Dev nD) : Arr := m ((c : Thread nD τ).loc main_arg1)
abbrev argM (c : Dev nD) : Arr := m ((c : Thread nD τ).loc main_arg2)
abbrev argV (c : Dev nD) : Arr := m ((c : Thread nD τ).loc main_arg3)

/-- Which block each window holds at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt (t : Fin cfg0.N) (r : Fin 256) : t.val * 256 + r.val < 512 := by
  have h : t.val < 2 := t.isLt
  omega

/-- The array's row that a tile's row is. -/
abbrev at_ (t : Fin cfg0.N) (r : Fin 256) : Fin 512 := ⟨t.val * 256 + r.val, lt t r⟩

theorem readW (c : Dev nD) (t : Fin cfg0.N) (r : Fin 256) (j : Fin 2048) : (iblk m c 0 t : Blk) (ix2 r j) = argW m c (ix2 (at_ t r) j) := by
  blk_ext [iblk, V, idx t]

theorem readG (c : Dev nD) (t : Fin cfg0.N) (r : Fin 256) (j : Fin 2048) : (iblk m c 1 t : Blk) (ix2 r j) = argG m c (ix2 (at_ t r) j) := by
  blk_ext [iblk, V, idx t]

theorem readM (c : Dev nD) (t : Fin cfg0.N) (r : Fin 256) (j : Fin 2048) : (iblk m c 2 t : Blk) (ix2 r j) = argM m c (ix2 (at_ t r) j) := by
  blk_ext [iblk, V, idx t]

theorem readV (c : Dev nD) (t : Fin cfg0.N) (r : Fin 256) (j : Fin 2048) : (iblk m c 3 t : Blk) (ix2 r j) = argV m c (ix2 (at_ t r) j) := by
  blk_ext [iblk, V, idx t]

/-- The change of the weight after the run. -/
theorem final4 (c : Dev nD) : (dats m 0 c).arrAt 4 (cfgs 0).N = Cert.AdamWoutRefIdeal.Read.val_main_v23 (F := Ideal) (argW m c) (argG m c) (argM m c) (argV m c) := by
  refine (dats m 0 c).arrAt_eq_of_covers 4 _ (by decide +kernel) fun t _ x => ?_
  obtain ⟨r, j, rfl⟩ : ∃ r j, x = ix2 r j := ⟨_, _, eq_ix2 x⟩
  rw [show ((cfg0.win 4).blk t).view.emb (ix2 r j) = ix2 (at_ t r) j by blk_ext [idx t], Ref.at23, after0_4]; frame_out
  refine (pay3 _ _ _ _ r j).trans ?_
  rw [readW m c t r j, readG m c t r j, readM m c t r j, readV m c t r j]

/-- The first moment after the run. -/
theorem final5 (c : Dev nD) : (dats m 0 c).arrAt 5 (cfgs 0).N = Cert.AdamWoutRefIdeal.Read.val_main_v4 (F := Ideal) (argG m c) (argM m c) := by
  refine (dats m 0 c).arrAt_eq_of_covers 5 _ (by decide +kernel) fun t _ x => ?_
  obtain ⟨r, j, rfl⟩ : ∃ r j, x = ix2 r j := ⟨_, _, eq_ix2 x⟩
  rw [show ((cfg0.win 5).blk t).view.emb (ix2 r j) = ix2 (at_ t r) j by blk_ext [idx t], Ref.at4, after0_5]; frame_out
  refine (pay1 _ _ r j).trans ?_
  rw [readG m c t r j, readM m c t r j]

/-- The second moment after the run. -/
theorem final6 (c : Dev nD) : (dats m 0 c).arrAt 6 (cfgs 0).N = Cert.AdamWoutRefIdeal.Read.val_main_v10 (F := Ideal) (argG m c) (argV m c) := by
  refine (dats m 0 c).arrAt_eq_of_covers 6 _ (by decide +kernel) fun t _ x => ?_
  obtain ⟨r, j, rfl⟩ : ∃ r j, x = ix2 r j := ⟨_, _, eq_ix2 x⟩
  rw [show ((cfg0.win 6).blk t).view.emb (ix2 r j) = ix2 (at_ t r) j by blk_ext [idx t], Ref.at10, after0_6]; frame_out
  refine (pay2 _ _ r j).trans ?_
  rw [readG m c t r j, readV m c t r j]

end Cert.Proof.AdamWout

namespace Cert.Proof

open Idealize.ShloMosaic Idealize.SL.Sem

theorem algebraicAdamWout : Cert.algebraic_AdamWoutIdeal_AdamWoutRefIdeal (hAdamWoutIdeal := Cert.AdamWoutIdeal.Gen.facts) (hAdamWoutRefIdeal := Cert.AdamWoutRefIdeal.Gen.facts) := by
  intro m g m' g' _ ha
  refine ⟨fun c => Cert.AdamWoutRefIdeal.Read.val_main_v23 (F := Ideal) (AdamWout.argW m c) (AdamWout.argG m c) (AdamWout.argM m c) (AdamWout.argV m c),
    fun c => Cert.AdamWoutRefIdeal.Read.val_main_v4 (F := Ideal) (AdamWout.argG m c) (AdamWout.argM m c),
    fun c => Cert.AdamWoutRefIdeal.Read.val_main_v10 (F := Ideal) (AdamWout.argG m c) (AdamWout.argV m c), ?_, ?_⟩
  · refine (θ_run Cert.AdamWoutIdeal.defs _ _).mono (fun r h c => ?_) (Cert.AdamWoutIdeal.Value.run_blocks m g)
    obtain ⟨h0, h1, h2, rest⟩ := h c
    exact ⟨h0.trans (AdamWout.final4 m c), h1.trans (AdamWout.final5 m c), h2.trans (AdamWout.final6 m c), rest⟩
  · refine (θ_run Cert.AdamWoutRefIdeal.defs _ _).mono (fun r h c => ?_) (Cert.AdamWoutRefIdeal.Value.run m' g')
    obtain ⟨h0, h1, h2, rest⟩ := h c
    obtain ⟨a0, a1, a2, a3⟩ := ha c
    exact ⟨h0.trans ((Cert.AdamWoutRefIdeal.Read.val_main_v23_eq _ _ _ _).trans (by rw [a0, a1, a2, a3])),
      h1.trans ((Cert.AdamWoutRefIdeal.Read.val_main_v4_eq _ _).trans (by rw [a1, a2])),
      h2.trans ((Cert.AdamWoutRefIdeal.Read.val_main_v10_eq _ _).trans (by rw [a1, a3])), rest⟩

end Cert.Proof

end
-- ==== Proof.SibWin.lean ====
/-
  The sum of the input weights' gradient with the sibling place: of every pair of parts this place's own half, and the part that arrived.
-/
module

public import proofs.«01_k».proof.Defs
public import proofs.«01_k».proof.Proof.SibWinIdealOk
public import proofs.«01_k».proof.Proof.Gen.SibWinIdeal.Frame
public import proofs.«01_k».proof.Proof.Gen.SibWinRefIdeal.Run
public import proofs.«01_k».proof.Proof.Gen.SibWinRefIdeal.Read
public import Idealize.ShloMosaic.Lib.Pipeline.ValueKit
public import Idealize.ShloMosaic.Lib.Claim

@[expose] public section

set_option maxRecDepth 16384

noncomputable section

namespace Cert.Proof.SibWin

open Idealize.ShloMosaic Idealize.ShloMosaic.TcCoe Idealize.SL.Sem
open Idealize.ShloMosaic.Pipeline (Dat)
open Cert.SibWinIdeal Cert.SibWinIdeal.Gen

variable (m : (ℓ : Loc nD τ sig) → Buf (Elt Ideal) ℓ)

/-- This place's rows: four pairs of parts. -/
abbrev own (c : Dev nD) : FVec Ideal ⟨2, ![8320, 2048]⟩ .bf16 := m ((c : Thread nD τ).loc main_arg0)

/-- The four parts that came from the sibling place. -/
abbrev got (c : Dev nD) : FVec Ideal ⟨3, ![4, 1040, 2048]⟩ .bf16 := m ((c : Thread nD τ).loc main_arg1)

/-- The pipeline, its table read. -/
abbrev hO : Ok m := Cert.Proof.SibWinIdealOk.ok m
abbrev cf : Pipeline.Cfg sig Λ₀ := cfgM m (hO m)

/-- The coordinates of a grid point. -/
theorem coords : ∀ t : Fin grid0.N, (grid0.coords t 0).val = t.val / 5 ∧ (grid0.coords t 1).val = t.val % 5 := by decide +kernel

/-- Which block each window holds at each grid point. -/
theorem idx0 (t : Fin (cf m).N) : ((cf m).win 0).index t = ![t.val / 5, 0, t.val % 5, 0] := by
  show cc0_transform_0 Facts₀.inb_S1_S1_0 Facts₀.numel1_S1 (tbl m) (grid0.coords t) = _
  rw [Cert.Proof.SibWinIdealOk.tblZero, Cert.Proof.SibWinIdealOk.at0, (coords t).1, (coords t).2]

theorem tr1 : ∀ t : Fin grid0.N, cc0_transform_1 (grid0.coords t) = ![t.val / 5, t.val % 5, 0] := by decide +kernel

theorem tr2 : ∀ t : Fin grid0.N, cc0_transform_2 (grid0.coords t) = ![t.val, 0] := by decide +kernel

theorem idx1 (t : Fin (cf m).N) : ((cf m).win 1).index t = ![t.val / 5, t.val % 5, 0] := tr1 t

theorem idx2 (t : Fin (cf m).N) : ((cf m).win 2).index t = ![t.val, 0] := tr2 t

theorem lt (t : Fin (cf m).N) : t.val < 20 := t.isLt

/-- The part, the row of it, and the row of the result, that a tile's row is. -/
abbrev q_ (t : Fin (cf m).N) : Fin 4 := ⟨t.val / 5, by have := lt m t; omega⟩
abbrev at_ (t : Fin (cf m).N) (r : Fin 208) : Fin 1040 := ⟨t.val % 5 * 208 + r.val, by omega⟩
abbrev to_ (t : Fin (cf m).N) (r : Fin 208) : Fin 4160 := ⟨t.val * 208 + r.val, by have := lt m t; omega⟩

/-- A row of the first part of a pair, among all rows. -/
abbrev up (q : Fin 4) (r : Fin 1040) : Fin 8320 := ⟨q.val * 2080 + r.val, by omega⟩

/-- What the body makes of its slices. -/
theorem pay (X : FVec Ideal ⟨4, ![1, 1, 208, 2048]⟩ .bf16) (Y : FVec Ideal ⟨3, ![1, 208, 2048]⟩ .bf16) (r : Fin 208) (j : Fin 2048) :
    k0_pay1 (F := Ideal) X Y (ix2 r j) = X (ix4 0 0 r j) + Y (ix3 0 r j) := by
  pointwise [k0_pay1]

open Cert.SibWinRefIdeal.Read in
/-- What the reference computes. -/
theorem ref (G : FVec Ideal ⟨2, ![8320, 2048]⟩ .bf16) (R : FVec Ideal ⟨3, ![4, 1040, 2048]⟩ .bf16) (k : Fin 4160) (j : Fin 2048) :
    Cert.SibWinRefIdeal.Read.val_main_v7 (F := Ideal) G R (ix2 k j)
      = G (ix2 (up ⟨k.val / 1040, by omega⟩ ⟨k.val % 1040, by omega⟩) j) + R (ix3 ⟨k.val / 1040, by omega⟩ ⟨k.val % 1040, by omega⟩ j) := by
  pointwise [val_main_v0, val_main_v1, val_main_v2, val_main_v3, val_main_v4, val_main_v5, val_main_v6, val_main_v7]

/-- The rows after they were split in parts. -/
theorem split (c : Dev nD) (q : Fin 4) (r : Fin 1040) (j : Fin 2048) : (V m c main_v2 : FVec Ideal ⟨4, ![4, 2, 1040, 2048]⟩ .bf16) (ix4 q 0 r j) = own m c (ix2 (up q r) j) := by
  entry_read
  pointwise

theorem readOwn (c : Dev nD) (t : Fin (cf m).N) (r : Fin 208) (j : Fin 2048) :
    (iblk m (hO m) c 0 t : FVec Ideal ⟨4, ![1, 1, 208, 2048]⟩ .bf16) (ix4 0 0 r j) = own m c (ix2 (up (q_ m t) (at_ m t r)) j) := by
  refine Eq.trans ?_ (split m c (q_ m t) (at_ m t r) j)
  blk_ext [iblk, idx0 m t]

theorem readGot (c : Dev nD) (t : Fin (cf m).N) (r : Fin 208) (j : Fin 2048) :
    (iblk m (hO m) c 1 t : FVec Ideal ⟨3, ![1, 208, 2048]⟩ .bf16) (ix3 0 r j) = got m c (ix3 (q_ m t) (at_ m t r) j) := by
  blk_ext [iblk, V, idx1 m t]

/-- Every block of the result is written. -/
theorem covers : ((cf m).win 2).Covers := by
  have key : ∀ a : (pcfg0 (F := Ideal)).Adm, a = ⟨Cert.Proof.SibWinIdealOk.zeros, Cert.Proof.SibWinIdealOk.okZeros⟩ → ((cfg0 a).win 2).Covers := by
    rintro _ rfl
    decide +kernel
  exact key _ (Subtype.ext (Cert.Proof.SibWinIdealOk.tblZero m))

/-- What a grid point leaves of its tile. -/
theorem out (c : Dev nD) (t : Fin (cf m).N) (r : Fin 208) (j : Fin 2048) :
    (outsAt0 m (hO m) c t : FVec Ideal ⟨2, ![208, 2048]⟩ .bf16) (ix2 r j) = own m c (ix2 (up (q_ m t) (at_ m t r)) j) + got m c (ix3 (q_ m t) (at_ m t r) j) := by
  unfold outsAt0
  frame_out
  refine (pay _ _ r j).trans ?_
  exact congrArg₂ (fun a b : EReal => a + b) ((congrFun ((hs0_0 m (hO m) t).read_unread (Val := Elt Ideal) (iblk m (hO m) c 0 t)) (ix4 0 0 r j)).trans (readOwn m c t r j))
    ((congrFun ((hs0_1 m (hO m) t).read_unread (Val := Elt Ideal) (iblk m (hO m) c 1 t)) (ix3 0 r j)).trans (readGot m c t r j))

/-- Where a tile's element lies in the result. -/
theorem dest (t : Fin (cf m).N) (r : Fin 208) (j : Fin 2048) : (((cf m).win 2).blk t).view.emb (ix2 r j) = ix2 (to_ m t r) j := by
  blk_ext [idx2 m t]

theorem place (t : Fin (cf m).N) (r : Fin 208) : (to_ m t r).val / 1040 = (q_ m t).val ∧ (to_ m t r).val % 1040 = (at_ m t r).val := by
  have h := lt m t
  have h' := r.isLt
  show (t.val * 208 + r.val) / 1040 = t.val / 5 ∧ (t.val * 208 + r.val) % 1040 = t.val % 5 * 208 + r.val
  omega

theorem want (c : Dev nD) (t : Fin (cf m).N) (r : Fin 208) (j : Fin 2048) :
    Cert.SibWinRefIdeal.Read.val_main_v7 (F := Ideal) (own m c) (got m c) (ix2 (to_ m t r) j) = own m c (ix2 (up (q_ m t) (at_ m t r)) j) + got m c (ix3 (q_ m t) (at_ m t r) j) := by
  rw [ref, show (⟨(to_ m t r).val / 1040, by omega⟩ : Fin 4) = q_ m t from Fin.ext (place m t r).1, show (⟨(to_ m t r).val % 1040, by omega⟩ : Fin 1040) = at_ m t r from Fin.ext (place m t r).2]

theorem pt (c : Dev nD) (t : Fin (cf m).N) (x : (⟨2, ![208, 2048]⟩ : Shape).Idx) :
    (outsAt0 m (hO m) c t : FVec Ideal ⟨2, ![208, 2048]⟩ .bf16) x = Cert.SibWinRefIdeal.Read.val_main_v7 (F := Ideal) (own m c) (got m c) ((((cf m).win 2).blk t).view.emb x) := by
  obtain ⟨r, j, rfl⟩ : ∃ r j, x = ix2 r j := ⟨x 0, x 1, eq_ix2 x⟩
  rw [out, dest, want]

/-- The result array after the run. -/
theorem final (c : Dev nD) : (dats m (hO m) 0 c).arrAt 2 (cf m).N = Cert.SibWinRefIdeal.Read.val_main_v7 (F := Ideal) (own m c) (got m c) := by
  refine (dats m (hO m) 0 c).arrAt_eq_of_covers 2 _ (covers m) ?_
  intro t ht x
  blk_simp
  rw [after0_2]
  exact pt m c t x

/-- The run, its result read. -/
theorem ends (g : Dev nD → PrngReg) : θ_run defs (onTc (τ := τ) (main (F := Ideal))) ⟨m, fun _ => 0, g⟩ (fun r => ∀ c : Dev nD,
      r.2.mem ((c : Thread nD τ).loc main_v3) = Cert.SibWinRefIdeal.Read.val_main_v7 (F := Ideal) (own m c) (got m c)) :=
  (θ_run defs _ _).mono (fun _ h c => ((h c).1 2).trans (final m c)) (run_main m g (hO m))

end Cert.Proof.SibWin

namespace Cert.Proof

open Idealize.ShloMosaic Idealize.SL.Sem

theorem algebraicSibWin : Cert.algebraic_SibWinIdeal_SibWinRefIdeal (hSibWinIdeal := Cert.SibWinIdeal.Gen.facts) (hSibWinRefIdeal := Cert.SibWinRefIdeal.Gen.facts) := by
  pair_intro
  · run_from Cert.Proof.SibWin.ends m g & Cert.SibWinIdeal.Gen.unchanged m g (Cert.Proof.SibWinIdealOk.ok m)
  · run_from Cert.SibWinRefIdeal.Value.run m' g'
    rfl

end Cert.Proof

end
-- ==== Proof.Dh.lean ====
/-
  The gradient of the layer's input, `dproj · w_inᵀ + α · dy`, the product accumulated over five tiles of the contracted axis:
  after the run the result array is the reference's.
-/
module

public import proofs.«01_k».proof.Defs
public import proofs.«01_k».proof.Proof.Gen.DhIdeal.Frame
public import proofs.«01_k».proof.Proof.Gen.DhRefIdeal.Run
public import Idealize.ShloMosaic.Lib.Pipeline.ValueKit
public import Idealize.ShloMosaic.Lib.Claim

@[expose] public section

set_option maxRecDepth 16384

noncomputable section

namespace Cert.Proof.Dh

open Idealize.ShloMosaic Idealize.ShloMosaic.TcCoe Idealize.SL.Sem
open Idealize.ShloMosaic.Pipeline (Dat)
open Cert.DhIdeal Cert.DhIdeal.Gen

variable (m : (ℓ : Loc nD τ sig) → Buf (Elt Ideal) ℓ)

/-- The reference's result as a function of the three arguments. -/
abbrev REF (X : FVec Ideal ⟨2, ![2048, 8320]⟩ .bf16) (W : FVec Ideal ⟨2, ![8320, 2048]⟩ .bf16) (Y : FVec Ideal ⟨2, ![2048, 2048]⟩ .f32) : FVec Ideal ⟨2, ![2048, 2048]⟩ .f32 :=
  addf (mulf (broadcastInDim ⟨2, ![2048, 2048]⟩ ![] Cert.DhRefIdeal.Gen.bcast_S_S2048x2048 (constant Cert.DhRefIdeal.S_ .f32 0x3FB504F3#32)) Y)
    (Host.dotGeneral Cert.DhRefIdeal.dot_S2048x8320_S2048x8320_S2048x2048_1_1_0_0_n_n none (extf .f32 X Cert.DhRefIdeal.Gen.bitsLt_bf16_f32)
      (transpose ⟨2, ![2048, 8320]⟩ [1, 0] (extf .f32 W Cert.DhRefIdeal.Gen.bitsLt_bf16_f32) Cert.DhRefIdeal.Gen.transposes_S8320x2048_S2048x8320_1_0))

/-- Which block each window holds at each grid point. -/
theorem idx : ∀ t : Fin cfg0.N, win0_0.index t = ![t.val / 10, t.val % 5] ∧ win0_1.index t = ![t.val % 5, t.val / 5 % 2]
    ∧ win0_2.index t = ![t.val / 10, t.val / 5 % 2] ∧ win0_3.index t = ![t.val / 10, t.val / 5 % 2] :=
  (by decide +kernel : ∀ t : Fin grid0.N, _)

/-- Reading the scratch buffer that holds `X` whole gives `X`. -/
theorem scr (X : Vec Ideal S1024x1024 .f32) (h : (Memref.whole cc0_scratch0).IsWhole) :
    View.read (Elt Ideal) (View.whole cc0_scratch0) (h.unread X) = X := h.read_unread X

theorem hreset (x : FVec Ideal ⟨2, ![1024, 1664]⟩ .bf16) (w : FVec Ideal ⟨2, ![1664, 1024]⟩ .bf16) (j) :
    k0_pay2 (F := Ideal) x w j = 0 + ∑ k : Fin 1664, x (ix2 (j 0) k) * w (ix2 k (j 1)) := by
  rw [zero_add]; pointwise [k0_pay2, k0_pay1]

theorem hstep (x : FVec Ideal ⟨2, ![1024, 1664]⟩ .bf16) (w : FVec Ideal ⟨2, ![1664, 1024]⟩ .bf16) (a : FVec Ideal ⟨2, ![1024, 1024]⟩ .f32) (j) :
    k0_pay3 (F := Ideal) x w a j = a j + ∑ k : Fin 1664, x (ix2 (j 0) k) * w (ix2 k (j 1)) := by
  pointwise [k0_pay3, k0_pay1]

theorem href (X : FVec Ideal ⟨2, ![2048, 8320]⟩ .bf16) (W : FVec Ideal ⟨2, ![8320, 2048]⟩ .bf16) (Y : FVec Ideal ⟨2, ![2048, 2048]⟩ .f32) (j) :
    REF X W Y j = (∑ l : Fin 8320, X (ix2 (j 0) l) * W (ix2 l (j 1))) + Ideal.ofBits .f32 0x3FB504F3#32 * Y j := by
  rw [add_comm]; pointwise [REF]

/-- The accumulator after a run's last point: the whole contraction's sum, tile by tile. -/
theorem acc (c : Dev nD) (t : Fin cfg0.N) (h : t.val % 5 = 4) (j) :
    (outsAt0 m c t.val t.isLt).2 j = ∑ s : Fin 5, ∑ k : Fin 1664,
      (show FVec Ideal ⟨2, ![1024, 1664]⟩ .bf16 from iblk m c 0 ⟨5 * (t.val / 5) + s.val, Pipeline.run_point_lt_of_flush t h s⟩) (ix2 (j 0) k)
      * (show FVec Ideal ⟨2, ![1664, 1024]⟩ .bf16 from iblk m c 1 ⟨5 * (t.val / 5) + s.val, Pipeline.run_point_lt_of_flush t h s⟩) (ix2 k (j 1)) := by
  have e := Pipeline.eq_sum_fin_of_reset_step_apply_of_flush (fun n h => (outsAt0 m c n h).2) 5 (fun _ => 0)
    (fun p j => ∑ k : Fin 1664, (show FVec Ideal ⟨2, ![1024, 1664]⟩ .bf16 from iblk m c 0 p) (ix2 (j 0) k)
      * (show FVec Ideal ⟨2, ![1664, 1024]⟩ .bf16 from iblk m c 1 p) (ix2 k (j 1)))
    (fun t h j => by rw [outsAt0_A m c t h (by omega) (by omega)]; frame_out; exact hreset _ _ j)
    (fun t h j => by
      by_cases h2 : t.val % 5 = 4
      · rw [outsAt0_C m c t h (by omega) h2]; frame_out; exact (congrArg (fun z => k0_pay3 (F := Ideal) (iblk m c 0 t) (iblk m c 1 t) z j) (scr _ _)).trans (hstep _ _ _ j)
      · rw [outsAt0_B m c t h (by omega) h2]; frame_out; exact (congrArg (fun z => k0_pay3 (F := Ideal) (iblk m c 0 t) (iblk m c 1 t) z j) (scr _ _)).trans (hstep _ _ _ j)) t h j
  rw [zero_add] at e
  exact e

/-- What the last point of a run leaves in the result's block. -/
theorem block (c : Dev nD) (t : Fin cfg0.N) (h : t.val % 5 = 4) :
    (outsAt0 m c t.val t.isLt).1 = k0_pay4 (outsAt0 m c t.val t.isLt).2 (iblk m c 2 t) := by
  rw [outsAt0_C m c t (by omega) (by omega) h]; frame_out

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 5 = 4 := (flush0_3 t).mp hf
  blk_simp
  rw [after0_3, block m c t h, href]
  pointwise [k0_pay4]
  refine Ideal.add_congr ?_ ?_
  · rw [acc m c t h]
    refine Fin.sum_mul_add_congr fun s k hl => ?_
    have hr := idx ⟨_, Pipeline.run_point_lt_of_flush t h s⟩
    have hq : (5 * (t.val / 5) + s.val) % 5 = s.val := by omega
    have hq1 : (5 * (t.val / 5) + s.val) / 5 = t.val / 5 := by omega
    have hq2 : (5 * (t.val / 5) + s.val) / 10 = t.val / 10 := by omega
    dsimp only at hr
    rw [hq, hq1, hq2] at hr
    blk_point [iblk, V, idx t, hr]
  · blk_point [iblk, V, idx t]

end Cert.Proof.Dh

namespace Cert.Proof

open Idealize.ShloMosaic Idealize.SL.Sem

theorem algebraicDh : Cert.algebraic_DhIdeal_DhRefIdeal (hDhIdeal := Cert.DhIdeal.Gen.facts) (hDhRefIdeal := Cert.DhRefIdeal.Gen.facts) := by
  pair_intro
  · run_from Cert.DhIdeal.Gen.run_main m g
  · run_from Cert.DhRefIdeal.Value.run m' g'
    exact (Cert.Proof.Dh.final m _).symm

end Cert.Proof

end
-- ==== Proof.SumWin.lean ====
/-
  The input projection's gradient summed over the four pairs, on the place whose axis indices are 0: its own quarter of the rows and
  the three that arrived, written into the first slot of an array whose second slot keeps what it held.
-/
module

public import proofs.«01_k».proof.Defs
public import proofs.«01_k».proof.Proof.Gen.SumWinIdeal.Value
public import proofs.«01_k».proof.Proof.Gen.SumWinRefIdeal.Run
public import proofs.«01_k».proof.Proof.Gen.SumWinRefIdeal.Read
public import Idealize.ShloMosaic.Lib.Pipeline.ValueKit
public import Idealize.ShloMosaic.Lib.Claim

@[expose] public section

set_option maxRecDepth 16384

noncomputable section

namespace Cert.Proof.SumWin

open Idealize.ShloMosaic Idealize.ShloMosaic.TcCoe Idealize.SL.Sem
open Idealize.ShloMosaic.Pipeline (Dat)
open Cert.SumWinIdeal Cert.SumWinIdeal.Gen

variable (m : (ℓ : Loc nD τ sig) → Buf (Elt Ideal) ℓ)

/-- The sums of this place's pair, all four quarters. -/
abbrev own (c : Dev nD) : FVec Ideal ⟨2, ![4160, 2048]⟩ .bf16 := m ((c : Thread nD τ).loc main_arg0)

/-- The three parts that came from the other pairs. -/
abbrev got (c : Dev nD) : FVec Ideal ⟨3, ![3, 1040, 2048]⟩ .bf16 := m ((c : Thread nD τ).loc main_arg1)

/-- The array the result is written into: one slot per half. -/
abbrev into (c : Dev nD) : FVec Ideal ⟨3, ![2, 1040, 2048]⟩ .f32 := m ((c : Thread nD τ).loc main_arg2)

/-- Which block each window holds at each grid point. -/
theorem idx : ∀ t : Fin cfg0.N, win0_0.index t = ![0, t.val, 0] ∧ win0_1.index t = ![0, t.val, 0] ∧ win0_2.index t = ![0, t.val, 0] :=
  (by decide +kernel : ∀ t : Fin grid0.N, _)

theorem lt (t : Fin cfg0.N) (r : Fin 208) : t.val * 208 + r.val < 1040 := by
  have h : t.val < 5 := t.isLt
  omega

/-- The array's row that a tile's row is. -/
abbrev at_ (t : Fin cfg0.N) (r : Fin 208) : Fin 1040 := ⟨t.val * 208 + r.val, lt t r⟩

/-- A row of the first quarter, among all rows. -/
abbrev up (r : Fin 1040) : Fin 4160 := ⟨r.val, by omega⟩

/-- What the body makes of its slices: of the four quarters it keeps the first. -/
theorem pay (X0 X1 X2 X3 Y0 Y1 Y2 : FVec Ideal ⟨3, ![1, 208, 2048]⟩ .bf16) (r : Fin 208) (j : Fin 2048) :
    k0_pay1 (F := Ideal) X0 X1 X2 X3 Y0 Y1 Y2 (ix3 0 r j) = X0 (ix3 0 r j) + Y0 (ix3 0 r j) + Y1 (ix3 0 r j) + Y2 (ix3 0 r j) := by
  pointwise [k0_pay1]

/-- What the reference computes in the first slot. -/
theorem ref (H : FVec Ideal ⟨2, ![4160, 2048]⟩ .bf16) (G : FVec Ideal ⟨3, ![3, 1040, 2048]⟩ .bf16) (I : FVec Ideal ⟨3, ![2, 1040, 2048]⟩ .f32) (r : Fin 1040) (j : Fin 2048) :
    Cert.SumWinRefIdeal.Read.val_main_v9 (F := Ideal) H G I (ix3 0 r j) = H (ix2 (up r) j) + G (ix3 0 r j) + G (ix3 1 r j) + G (ix3 2 r j) := by
  pointwise [Cert.SumWinRefIdeal.Read.val_main_v0, Cert.SumWinRefIdeal.Read.val_main_v1, Cert.SumWinRefIdeal.Read.val_main_v2, Cert.SumWinRefIdeal.Read.val_main_v3, Cert.SumWinRefIdeal.Read.val_main_v4, Cert.SumWinRefIdeal.Read.val_main_v5, Cert.SumWinRefIdeal.Read.val_main_v6, Cert.SumWinRefIdeal.Read.val_main_v7, Cert.SumWinRefIdeal.Read.val_main_v8, Cert.SumWinRefIdeal.Read.val_main_v9, Cert.SumWinRefIdeal.Read.val_main_cst]
  rw [Fin.sum_univ_three, ← add_assoc, ← add_assoc]

/-- What the reference leaves in the second slot. -/
theorem refOther (H : FVec Ideal ⟨2, ![4160, 2048]⟩ .bf16) (G : FVec Ideal ⟨3, ![3, 1040, 2048]⟩ .bf16) (I : FVec Ideal ⟨3, ![2, 1040, 2048]⟩ .f32) (r : Fin 1040) (j : Fin 2048) :
    Cert.SumWinRefIdeal.Read.val_main_v9 (F := Ideal) H G I (ix3 1 r j) = I (ix3 1 r j) := by
  pointwise [Cert.SumWinRefIdeal.Read.val_main_v0, Cert.SumWinRefIdeal.Read.val_main_v1, Cert.SumWinRefIdeal.Read.val_main_v2, Cert.SumWinRefIdeal.Read.val_main_v3, Cert.SumWinRefIdeal.Read.val_main_v4, Cert.SumWinRefIdeal.Read.val_main_v5, Cert.SumWinRefIdeal.Read.val_main_v6, Cert.SumWinRefIdeal.Read.val_main_v7, Cert.SumWinRefIdeal.Read.val_main_v8, Cert.SumWinRefIdeal.Read.val_main_v9, Cert.SumWinRefIdeal.Read.val_main_cst]

/-- The rows after they were split in quarters. -/
theorem split (c : Dev nD) (r : Fin 1040) (j : Fin 2048) : (V m c main_v0 : FVec Ideal ⟨3, ![4, 1040, 2048]⟩ .bf16) (ix3 0 r j) = own m c (ix2 (up r) j) := by
  entry_read
  pointwise

theorem readOwn (c : Dev nD) (t : Fin cfg0.N) (r : Fin 208) (j : Fin 2048) :
    (iblk m c 0 t : FVec Ideal ⟨3, ![4, 208, 2048]⟩ .bf16) (ix3 0 r j) = own m c (ix2 (up (at_ t r)) j) := by
  refine Eq.trans ?_ (split m c (at_ t r) j)
  blk_ext [iblk, idx t]

theorem readGot (c : Dev nD) (t : Fin cfg0.N) (q : Fin 3) (r : Fin 208) (j : Fin 2048) :
    (iblk m c 1 t : FVec Ideal ⟨3, ![3, 208, 2048]⟩ .bf16) (ix3 q r j) = got m c (ix3 q (at_ t r) j) := by
  blk_ext [iblk, V, idx t]

theorem ldOwn (c : Dev nD) (t : Fin cfg0.N) (r : Fin 208) (j : Fin 2048) :
    View.ld (iblk m c 0 t) (Rect.unit (s := S4x208x2048) ![0, 0, 0] S1x208x2048.size inb_S4x208x2048_S1x208x2048_0_0_0) (ix3 0 r j) = own m c (ix2 (up (at_ t r)) j) :=
  (congrArg (iblk m c 0 t) (show (Rect.unit (s := S4x208x2048) ![0, 0, 0] S1x208x2048.size inb_S4x208x2048_S1x208x2048_0_0_0).idx (ix3 0 r j) = ix3 0 r j by
    funext a; apply Fin.ext; fin_cases a <;> simp [Rect.idx_unit_val])).trans (readOwn m c t r j)

theorem ldGot0 (c : Dev nD) (t : Fin cfg0.N) (r : Fin 208) (j : Fin 2048) :
    View.ld (iblk m c 1 t) (Rect.unit (s := S3x208x2048) ![0, 0, 0] S1x208x2048.size inb_S3x208x2048_S1x208x2048_0_0_0) (ix3 0 r j) = got m c (ix3 0 (at_ t r) j) :=
  (congrArg (iblk m c 1 t) (show (Rect.unit (s := S3x208x2048) ![0, 0, 0] S1x208x2048.size inb_S3x208x2048_S1x208x2048_0_0_0).idx (ix3 0 r j) = ix3 0 r j by
    funext a; apply Fin.ext; fin_cases a <;> simp [Rect.idx_unit_val])).trans (readGot m c t 0 r j)

theorem ldGot1 (c : Dev nD) (t : Fin cfg0.N) (r : Fin 208) (j : Fin 2048) :
    View.ld (iblk m c 1 t) (Rect.unit (s := S3x208x2048) ![1, 0, 0] S1x208x2048.size inb_S3x208x2048_S1x208x2048_1_0_0) (ix3 0 r j) = got m c (ix3 1 (at_ t r) j) :=
  (congrArg (iblk m c 1 t) (show (Rect.unit (s := S3x208x2048) ![1, 0, 0] S1x208x2048.size inb_S3x208x2048_S1x208x2048_1_0_0).idx (ix3 0 r j) = ix3 1 r j by
    funext a; apply Fin.ext; fin_cases a <;> simp [Rect.idx_unit_val])).trans (readGot m c t 1 r j)

theorem ldGot2 (c : Dev nD) (t : Fin cfg0.N) (r : Fin 208) (j : Fin 2048) :
    View.ld (iblk m c 1 t) (Rect.unit (s := S3x208x2048) ![2, 0, 0] S1x208x2048.size inb_S3x208x2048_S1x208x2048_2_0_0) (ix3 0 r j) = got m c (ix3 2 (at_ t r) j) :=
  (congrArg (iblk m c 1 t) (show (Rect.unit (s := S3x208x2048) ![2, 0, 0] S1x208x2048.size inb_S3x208x2048_S1x208x2048_2_0_0).idx (ix3 0 r j) = ix3 2 r j by
    funext a; apply Fin.ext; fin_cases a <;> simp [Rect.idx_unit_val])).trans (readGot m c t 2 r j)

/-- A tile's entries after the run. -/
theorem tile (c : Dev nD) (t : Fin cfg0.N) (r : Fin 208) (j : Fin 2048) :
    ((dats m 0 c).arrAt 2 cfg0.N : FVec Ideal ⟨3, ![2, 1040, 2048]⟩ .f32) (ix3 0 (at_ t r) j) = Cert.SumWinRefIdeal.Read.val_main_v9 (F := Ideal) (own m c) (got m c) (into m c) (ix3 0 (at_ t r) j) := by
  have hf : (cfg0.win 2).flush t = true := (by decide +kernel : ∀ t : Fin grid0.N, (cfg0.win 2).flush t = true) t
  have b := congrFun (Value.blocks2 m c t hf) (ix3 0 r j)
  rw [Value.flushed2_A m c t] at b
  rw [← show ((cfg0.win 2).blk t).view.emb (ix3 0 r j) = ix3 0 (at_ t r) j by blk_ext [idx t]]
  refine Eq.trans b ?_
  rw [show ((cfg0.win 2).blk t).view.emb (ix3 0 r j) = ix3 0 (at_ t r) j by blk_ext [idx t], ref]; frame_out
  refine (pay _ _ _ _ _ _ _ r j).trans ?_
  exact congrArg₂ _ (congrArg₂ _ (congrArg₂ _ (ldOwn m c t r j) (ldGot0 m c t r j)) (ldGot1 m c t r j)) (ldGot2 m c t r j)

/-- The second slot is not written. -/
theorem other (c : Dev nD) (r : Fin 1040) (j : Fin 2048) :
    ((dats m 0 c).arrAt 2 cfg0.N : FVec Ideal ⟨3, ![2, 1040, 2048]⟩ .f32) (ix3 1 r j) = into m c (ix3 1 r j) := by
  refine (Value.entry2 m c (ix3 1 r j) fun t _ hm => ?_).trans ?_
  · obtain ⟨x, -, hx⟩ := Finset.mem_map.mp hm
    obtain ⟨p, q, rfl⟩ : ∃ p q, x = ix3 0 p q := ⟨x 1, x 2, (eq_ix3 x).trans (congrArg (fun a => ix3 a (x 1) (x 2)) (Subsingleton.elim (α := Fin 1) (x 0) 0))⟩
    rw [show ((cfg0.win 2).blk t).view.emb (ix3 0 p q) = ix3 0 (at_ t p) q by blk_ext [idx t]] at hx
    exact absurd (congrFun hx 0) (show ¬ (0 : Fin 2) = 1 by decide)
  · entry_read
    rfl

/-- The result array after the run. -/
theorem final (c : Dev nD) : (dats m 0 c).arrAt 2 (cfgs 0).N = Cert.SumWinRefIdeal.Read.val_main_v9 (F := Ideal) (own m c) (got m c) (into m c) := by
  funext x
  obtain ⟨s, r, j, rfl⟩ : ∃ s r j, x = ix3 s r j := ⟨_, _, _, eq_ix3 x⟩
  by_cases h : s = 0
  · subst h
    have k := tile m c ⟨r.val / 208, by show r.val / 208 < 5; omega⟩ ⟨r.val % 208, by omega⟩ j
    rwa [show at_ ⟨r.val / 208, by show r.val / 208 < 5; omega⟩ ⟨r.val % 208, by omega⟩ = r from Fin.ext (by show r.val / 208 * 208 + r.val % 208 = r.val; omega)] at k
  · obtain rfl : s = 1 := by revert h; revert s; decide
    rw [refOther]
    exact other m c r j

end Cert.Proof.SumWin

namespace Cert.Proof

open Idealize.ShloMosaic Idealize.SL.Sem

theorem algebraicSumWin : Cert.algebraic_SumWinIdeal_SumWinRefIdeal (hSumWinIdeal := Cert.SumWinIdeal.Gen.facts) (hSumWinRefIdeal := Cert.SumWinRefIdeal.Gen.facts) := by
  pair_intro
  · run_from Cert.SumWinIdeal.Gen.run_main m g
  · run_from Cert.SumWinRefIdeal.Value.run m' g'
    refine Eq.trans ?_ (Cert.Proof.SumWin.final m _).symm
    exact congrArg (fun a => Cert.SumWinRefIdeal.Read.val_main_v9 (F := Ideal) (Cert.Proof.SumWin.own m c) (Cert.Proof.SumWin.got m c) a) (hagree c).2.2

end Cert.Proof

end
-- ==== Proof.SumPackFirst.lean ====
/-
  The first layer's packed small gradients, summed over the four pairs, on the place whose axis indices are 0: its own quarter and
  the three that arrived.
-/
module

public import proofs.«01_k».proof.Defs
public import proofs.«01_k».proof.Proof.Gen.SumPackFirstIdeal.Frame
public import proofs.«01_k».proof.Proof.Gen.SumPackFirstRefIdeal.Run
public import proofs.«01_k».proof.Proof.Gen.SumPackFirstRefIdeal.Read
public import Idealize.ShloMosaic.Lib.Pipeline.ValueKit
public import Idealize.ShloMosaic.Lib.Claim

@[expose] public section

set_option maxRecDepth 16384

noncomputable section

namespace Cert.Proof.SumPackFirst

open Idealize.ShloMosaic Idealize.ShloMosaic.TcCoe Idealize.SL.Sem
open Idealize.ShloMosaic.Pipeline (Dat)
open Cert.SumPackFirstIdeal Cert.SumPackFirstIdeal.Gen

variable (m : (ℓ : Loc nD τ sig) → Buf (Elt Ideal) ℓ)

/-- The sums of this place's pair, all four quarters. -/
abbrev own (c : Dev nD) : FVec Ideal ⟨2, ![512, 128]⟩ .bf16 := m ((c : Thread nD τ).loc main_arg0)

/-- The three parts that came from the other pairs. -/
abbrev got (c : Dev nD) : FVec Ideal ⟨3, ![3, 128, 128]⟩ .bf16 := m ((c : Thread nD τ).loc main_arg1)

/-- Which block each window holds at each grid point. -/
theorem idx : ∀ t : Fin cfg0.N, win0_0.index t = ![0, t.val, 0] ∧ win0_1.index t = ![0, t.val, 0] ∧ win0_2.index t = ![0, t.val, 0] :=
  (by decide +kernel : ∀ t : Fin grid0.N, _)

theorem lt (t : Fin cfg0.N) (r : Fin 128) : t.val * 128 + r.val < 128 := by
  have h : t.val < 1 := t.isLt
  omega

/-- The array's row that a tile's row is. -/
abbrev at_ (t : Fin cfg0.N) (r : Fin 128) : Fin 128 := ⟨t.val * 128 + r.val, lt t r⟩

/-- A row of the first quarter, among all rows. -/
abbrev up (r : Fin 128) : Fin 512 := ⟨r.val, by omega⟩

/-- What the body makes of its slices: of the four quarters it keeps the first. -/
theorem pay (X0 X1 X2 X3 Y0 Y1 Y2 : FVec Ideal ⟨3, ![1, 128, 128]⟩ .bf16) (r : Fin 128) (j : Fin 128) :
    k0_pay1 (F := Ideal) X0 X1 X2 X3 Y0 Y1 Y2 (ix3 0 r j) = X0 (ix3 0 r j) + Y0 (ix3 0 r j) + Y1 (ix3 0 r j) + Y2 (ix3 0 r j) := by
  pointwise [k0_pay1]

/-- What the reference computes. -/
theorem ref (H : FVec Ideal ⟨2, ![512, 128]⟩ .bf16) (G : FVec Ideal ⟨3, ![3, 128, 128]⟩ .bf16) (r : Fin 128) (j : Fin 128) :
    Cert.SumPackFirstRefIdeal.Read.val_main_v5 (F := Ideal) H G (ix3 0 r j) = H (ix2 (up r) j) + G (ix3 0 r j) + G (ix3 1 r j) + G (ix3 2 r j) := by
  pointwise [Cert.SumPackFirstRefIdeal.Read.val_main_v0, Cert.SumPackFirstRefIdeal.Read.val_main_v1, Cert.SumPackFirstRefIdeal.Read.val_main_v2, Cert.SumPackFirstRefIdeal.Read.val_main_v3, Cert.SumPackFirstRefIdeal.Read.val_main_v4, Cert.SumPackFirstRefIdeal.Read.val_main_v5, Cert.SumPackFirstRefIdeal.Read.val_main_cst]
  rw [Fin.sum_univ_three, ← add_assoc, ← add_assoc]

/-- The rows after they were split in quarters. -/
theorem split (c : Dev nD) (r : Fin 128) (j : Fin 128) : (V m c main_v0 : FVec Ideal ⟨3, ![4, 128, 128]⟩ .bf16) (ix3 0 r j) = own m c (ix2 (up r) j) := by
  entry_read
  pointwise

theorem readOwn (c : Dev nD) (t : Fin cfg0.N) (r : Fin 128) (j : Fin 128) :
    (iblk m c 0 t : FVec Ideal ⟨3, ![4, 128, 128]⟩ .bf16) (ix3 0 r j) = own m c (ix2 (up (at_ t r)) j) := by
  refine Eq.trans ?_ (split m c (at_ t r) j)
  blk_ext [iblk, idx t]

theorem readGot (c : Dev nD) (t : Fin cfg0.N) (q : Fin 3) (r : Fin 128) (j : Fin 128) :
    (iblk m c 1 t : FVec Ideal ⟨3, ![3, 128, 128]⟩ .bf16) (ix3 q r j) = got m c (ix3 q (at_ t r) j) := by
  blk_ext [iblk, V, idx t]

/-- The result array after the run. -/
theorem final (c : Dev nD) : (dats m 0 c).arrAt 2 (cfgs 0).N = Cert.SumPackFirstRefIdeal.Read.val_main_v5 (F := Ideal) (own m c) (got m c) := by
  refine (dats m 0 c).arrAt_eq_of_covers 2 _ (by decide +kernel) fun t _ x => ?_
  obtain ⟨r, j, rfl⟩ : ∃ r j, x = ix3 0 r j := ⟨x 1, x 2, (eq_ix3 x).trans (congrArg (fun a => ix3 a (x 1) (x 2)) (Subsingleton.elim (α := Fin 1) (x 0) 0))⟩
  rw [show ((cfg0.win 2).blk t).view.emb (ix3 0 r j) = ix3 0 (at_ t r) j by blk_ext [idx t], ref, after0_2]; frame_out
  refine (pay _ _ _ _ _ _ _ r j).trans ?_
  rw [
    show View.ld (iblk m c 0 t) r0_0 (ix3 0 r j) = own m c (ix2 (up (at_ t r)) j) from (congrArg (iblk m c 0 t) (show r0_0.idx (ix3 0 r j) = ix3 0 r j by funext a; apply Fin.ext; fin_cases a <;> simp [r0_0, Rect.idx_unit_val])).trans (readOwn m c t r j),
    show View.ld (iblk m c 1 t) r0_4 (ix3 0 r j) = got m c (ix3 0 (at_ t r) j) from (congrArg (iblk m c 1 t) (show r0_4.idx (ix3 0 r j) = ix3 0 r j by funext a; apply Fin.ext; fin_cases a <;> simp [r0_4, Rect.idx_unit_val])).trans (readGot m c t 0 r j),
    show View.ld (iblk m c 1 t) r0_5 (ix3 0 r j) = got m c (ix3 1 (at_ t r) j) from (congrArg (iblk m c 1 t) (show r0_5.idx (ix3 0 r j) = ix3 1 r j by funext a; apply Fin.ext; fin_cases a <;> simp [r0_5, Rect.idx_unit_val])).trans (readGot m c t 1 r j),
    show View.ld (iblk m c 1 t) r0_6 (ix3 0 r j) = got m c (ix3 2 (at_ t r) j) from (congrArg (iblk m c 1 t) (show r0_6.idx (ix3 0 r j) = ix3 2 r j by funext a; apply Fin.ext; fin_cases a <;> simp [r0_6, Rect.idx_unit_val])).trans (readGot m c t 2 r j)]

end Cert.Proof.SumPackFirst

namespace Cert.Proof

open Idealize.ShloMosaic Idealize.SL.Sem

theorem algebraicSumPackFirst : Cert.algebraic_SumPackFirstIdeal_SumPackFirstRefIdeal (hSumPackFirstIdeal := Cert.SumPackFirstIdeal.Gen.facts) (hSumPackFirstRefIdeal := Cert.SumPackFirstRefIdeal.Gen.facts) := by
  pair_intro
  · run_from Cert.SumPackFirstIdeal.Gen.run_main m g
  · run_from Cert.SumPackFirstRefIdeal.Value.run m' g'
    exact (Cert.Proof.SumPackFirst.final m _).symm

end Cert.Proof

end
-- ==== Proof.RwkvPay.lean ====
/-
  What the pieces of the backward call's body compute at an element: the mixed features, the columns stacked by pairs of heads, the
  rate, the head mask, and the shares of rows 2 and 4.
-/
module

public import proofs.«01_k».proof.Proof.Gen.KernelIdeal.Skeleton
public import Idealize.ShloMosaic.Lib.Pipeline.ValueKit

@[expose] public section

set_option maxRecDepth 16384

noncomputable section

namespace Cert.Proof.Rwkv

open Idealize.ShloMosaic Idealize.ShloMosaic.TcCoe Idealize.SL.Sem
open Cert.KernelIdeal Cert.KernelIdeal.Gen

set_option maxHeartbeats 1000000

theorem row4 (D Z : FVec Ideal S8x64x128 .f32) (p : Fin 8) (l : Fin 128) :
    k0_pay161 D Z (ix3 p 0 l) = ∑ r : Fin 64, D (ix3 p r l) * (Z (ix3 p r l) * Ideal.logistic (Z (ix3 p r l))) := by
  pointwise [k0_pay161, k0_pay153, k0_pay152]

theorem word (r : Fin 64) : (IntOp.cmpi .eq (BitVec.ofNat 32 r.val) 0#32 = 1#1) ↔ r.val = 0 := by
  revert r; decide +kernel

/-- The block shifted down by one row, its first row zero. -/
theorem shifted (Y : FVec Ideal S64x4224 .f32) (r : Fin 64) (k : Fin 4224) :
    k0_pay23 Y (ix2 r k) = if r.val = 0 then 0 else Y (ix2 ⟨r.val - 1, by omega⟩ k) := by
  refine (show k0_pay23 Y (ix2 r k) = Scalar.select (IntOp.cmpi .eq (BitVec.ofNat 32 r.val) 0#32) (FloatOps.ofBits .f32 0x00000000#32 : Ideal .f32)
    (dynamicRotate 0 1#32 none Y rotates_S64x4224_d0 (ix2 r k)) by pointwise [k0_pay23]).trans ?_
  by_cases h : r.val = 0
  · rw [if_pos h, Scalar.select_of_eq_one ((word r).2 h)]
    pointwise []
  · rw [if_neg h, Scalar.select_of_ne_one (fun e => h ((word r).1 e))]
    refine congrArg Y ?_
    funext a
    apply Fin.ext
    match a with
    | ⟨0, _⟩ => show (r.val + 64 - 1 % 64) % 64 = r.val - 1; omega
    | ⟨1, _⟩ => rfl

theorem mix (v9 mu : FVec Ideal S1x4224 .f32) (Y : FVec Ideal S64x4224 .f32) (r : Fin 64) (k : Fin 4224) :
    k0_pay26 v9 mu Y (k0_pay23 Y) (ix2 r k)
      = Y (ix2 r k) + mu (ix2 0 k) * ((if r.val = 0 then v9 (ix2 0 k) else Y (ix2 ⟨r.val - 1, by omega⟩ k)) - Y (ix2 r k)) := by
  have e := shifted Y r k
  generalize k0_pay23 (F := Ideal) Y = U at e
  pointwise [k0_pay26, k0_pay25, k0_pay24]
  rw [e]
  by_cases h : r.val = 0
  · rw [Scalar.select_of_eq_one ((word r).2 h), if_pos h, if_pos h, zero_add (v9 _)]
  · rw [Scalar.select_of_ne_one (fun e => h ((word r).1 e)), if_neg h, if_neg h, add_zero]

theorem word31 (n : Fin 32) : (Scalar.extui (Scalar.cmpi .ne (Scalar.subi 31#32 (BitVec.ofNat 32 n.val)) 0#32)).toInt = if n.val = 31 then 0 else 1 := by
  revert n; decide +kernel

theorem first (i : grid0.Coords) (v4 : FVec Ideal S1x4224 .f32) (k : Fin 4224) :
    k0_pay12 (F := Ideal) i v4 (ix2 0 k) = if (i 0).val = 31 then 0 else v4 (ix2 0 k) := by
  pointwise [k0_pay12]
  have e := word31 (i 0)
  rw [e]
  by_cases h : (i 0).val = 31 <;> simp [h]

theorem stackR (X : FVec Ideal S64x1024 .f32) (p : Fin 8) (r : Fin 64) (l : Fin 128) :
    k0_pay48 X (ix3 p r l) = X (ix2 r ⟨128 * p.val + l.val, by omega⟩) := by
  pointwise [k0_pay48]
  blk_point []

theorem stackK (X : FVec Ideal S64x1024 .f32) (p : Fin 8) (r : Fin 64) (l : Fin 128) :
    k0_pay55 X (k0_pay49 X) (k0_pay50 X) (k0_pay51 X) (k0_pay52 X) (k0_pay53 X) (k0_pay54 X) (ix3 p r l) = X (ix2 r ⟨128 * p.val + l.val, by omega⟩) := by
  pointwise [k0_pay55, k0_pay49, k0_pay50, k0_pay51, k0_pay52, k0_pay53, k0_pay54]
  blk_point []

theorem stackV (X : FVec Ideal S64x1024 .f32) (p : Fin 8) (r : Fin 64) (l : Fin 128) :
    k0_pay56 X (ix3 p r l) = X (ix2 r ⟨128 * p.val + l.val, by omega⟩) := by
  pointwise [k0_pay56]
  blk_point []

theorem stackZ (X : FVec Ideal S64x1024 .f32) (p : Fin 8) (r : Fin 64) (l : Fin 128) :
    k0_pay57 X (ix3 p r l) = X (ix2 r ⟨128 * p.val + l.val, by omega⟩) := by
  pointwise [k0_pay57]
  blk_point []

theorem stackA (X : FVec Ideal S64x1024 .f32) (p : Fin 8) (r : Fin 64) (l : Fin 128) :
    k0_pay67 X (ix3 p r l) = X (ix2 r ⟨128 * p.val + l.val, by omega⟩) := by
  pointwise [k0_pay67]
  blk_point []

theorem colR (v9 mu : FVec Ideal S1x4224 .f32) (Y U : FVec Ideal S64x4224 .f32) (r : Fin 64) (j : Fin 1024) :
    k0_pay27 v9 mu Y U (ix2 r j) = k0_pay26 v9 mu Y U (ix2 r ⟨j.val, by omega⟩) := by
  unfold k0_pay27
  generalize k0_pay26 v9 mu Y U = X
  pointwise []

theorem colK (v9 mu : FVec Ideal S1x4224 .f32) (Y U : FVec Ideal S64x4224 .f32) (r : Fin 64) (j : Fin 1024) :
    k0_pay28 v9 mu Y U (ix2 r j) = k0_pay26 v9 mu Y U (ix2 r ⟨1024 + j.val, by omega⟩) := by
  unfold k0_pay28
  generalize k0_pay26 v9 mu Y U = X
  pointwise []

theorem colV (v9 mu : FVec Ideal S1x4224 .f32) (Y U : FVec Ideal S64x4224 .f32) (r : Fin 64) (j : Fin 1024) :
    k0_pay29 v9 mu Y U (ix2 r j) = k0_pay26 v9 mu Y U (ix2 r ⟨2048 + j.val, by omega⟩) := by
  unfold k0_pay29
  generalize k0_pay26 v9 mu Y U = X
  pointwise []

theorem colZ (v9 mu : FVec Ideal S1x4224 .f32) (Y U : FVec Ideal S64x4224 .f32) (r : Fin 64) (j : Fin 1024) :
    k0_pay30 v9 mu Y U (ix2 r j) = k0_pay26 v9 mu Y U (ix2 r ⟨3072 + j.val, by omega⟩) := by
  unfold k0_pay30
  generalize k0_pay26 v9 mu Y U = X
  pointwise []

theorem colW (v9 mu : FVec Ideal S1x4224 .f32) (Y U : FVec Ideal S64x4224 .f32) (r : Fin 64) (j : Fin 128) :
    k0_pay31 v9 mu Y U (ix2 r j) = k0_pay26 v9 mu Y U (ix2 r ⟨4096 + j.val, by omega⟩) := by
  unfold k0_pay31
  generalize k0_pay26 v9 mu Y U = X
  pointwise []

/-- The number of a lane's head, as the body computes it. -/
theorem lane (a : Fin 128) : Scalar.select
    (IntOp.andi
      (IntOp.cmpi .ne (IntOp.subi (BitVec.setWidth 32 (IntOp.cmpi .sgt (BitVec.ofNat 32 a.val) 0#32)) (BitVec.setWidth 32 (IntOp.cmpi .slt (BitVec.ofNat 32 a.val) 0#32)))
        (Scalar.subi (Scalar.extui (Scalar.cmpi .sgt 64#32 0#32)) (Scalar.extui (Scalar.cmpi .slt 64#32 0#32))))
      (IntOp.cmpi .ne (IntOp.remsi .vector (BitVec.ofNat 32 a.val) 64#32) 0#32))
    (IntOp.subi (IntOp.divsi .vector (BitVec.ofNat 32 a.val) 64#32) 1#32)
    (IntOp.divsi .vector (BitVec.ofNat 32 a.val) 64#32) = BitVec.ofNat 32 (a.val / 64) := by
  revert a; decide +kernel

theorem same (a b : Fin 2) : (BitVec.setWidth 32 (IntOp.cmpi .eq (BitVec.ofNat 32 a.val) (BitVec.ofNat 32 b.val))).toInt = if a.val = b.val then 1 else 0 := by
  revert a b; decide +kernel

theorem mask (a b : Fin 128) : k0_pay74 (F := Ideal) k0_pay70 k0_pay71 k0_pay72 (ix2 a b) = if a.val / 64 = b.val / 64 then 1 else 0 := by
  pointwise [k0_pay74, k0_pay73, k0_pay70, k0_pay71, k0_pay72]
  have ea := lane a
  have eb := lane b
  have e := same ⟨a.val / 64, by omega⟩ ⟨b.val / 64, by omega⟩
  rw [ea, eb]
  refine (show _ = (((BitVec.setWidth 32 (IntOp.cmpi .eq (BitVec.ofNat 32 (a.val / 64)) (BitVec.ofNat 32 (b.val / 64)))).toInt : ℝ) : EReal) from rfl).trans ?_
  rw [e]
  by_cases h : a.val / 64 = b.val / 64 <;> simp [h]

theorem seg (D V Z : FVec Ideal S8x64x128 .f32) (G : FVec Ideal S128x128 .bf16) (p : Fin 8) (r : Fin 64) (l : Fin 128) :
    k0_pay156 D V Z G (ix3 p r l)
      = ∑ x : Fin 128, D (ix3 p r x) * (Z (ix3 p r x) * Ideal.logistic (Z (ix3 p r x))) * V (ix3 p r x) * G (ix2 l x) := by
  pointwise [k0_pay156, k0_pay153, k0_pay152]

theorem row2 (D R V Z K : FVec Ideal S8x64x128 .f32) (G : FVec Ideal S128x128 .bf16) (p : Fin 8) (l : Fin 128) :
    k0_pay157 D R V Z G K (ix3 p 0 l) = ∑ r : Fin 64, R (ix3 p r l) * K (ix3 p r l) * k0_pay156 D V Z G (ix3 p r l) := by
  unfold k0_pay157
  generalize k0_pay156 D V Z G = X
  pointwise [k0_pay150]

theorem asig (a0 : FVec Ideal S1x1024 .f32) (up : FVec Ideal S128x1024 .f32) (W : FVec Ideal S64x128 .f32) (r : Fin 64) (l : Fin 1024) :
    k0_pay46 a0 up W (ix2 r l) = Ideal.logistic (a0 (ix2 0 l) + ∑ x : Fin 128, W (ix2 r x) * up (ix2 x l)) := by
  pointwise [k0_pay46]

theorem gate (ka : FVec Ideal S8x1x128 .f32) (K S : FVec Ideal S8x64x128 .f32) (p : Fin 8) (r : Fin 64) (l : Fin 128) :
    k0_pay86 ka K S (ix3 p r l) = K (ix3 p r l) * (1 + (S (ix3 p r l) - 1) * ka (ix3 p 0 l)) := by
  pointwise [k0_pay86, k0_pay85, k0_pay84]

theorem fill (a b c d e f g h : FVec Ideal S64x128 .f32) (X : FVec Ideal S64x1024 .f32)
    (ha : ∀ r l, a (ix2 r l) = X (ix2 r ⟨l.val, by omega⟩)) (hb : ∀ r l, b (ix2 r l) = X (ix2 r ⟨128 + l.val, by omega⟩))
    (hc : ∀ r l, c (ix2 r l) = X (ix2 r ⟨256 + l.val, by omega⟩)) (hd : ∀ r l, d (ix2 r l) = X (ix2 r ⟨384 + l.val, by omega⟩))
    (he : ∀ r l, e (ix2 r l) = X (ix2 r ⟨512 + l.val, by omega⟩)) (hf : ∀ r l, f (ix2 r l) = X (ix2 r ⟨640 + l.val, by omega⟩))
    (hg : ∀ r l, g (ix2 r l) = X (ix2 r ⟨768 + l.val, by omega⟩)) (hh : ∀ r l, h (ix2 r l) = X (ix2 r ⟨896 + l.val, by omega⟩))
    (p : Fin 8) (r : Fin 64) (l : Fin 128) :
    k0_pay20 a b c d e f g h (ix3 p r l) = X (ix2 r ⟨128 * p.val + l.val, by omega⟩) := by
  pointwise [k0_pay20]
  fin_cases p <;> simp [ha, hb, hc, hd, he, hf, hg, hh]

end Cert.Proof.Rwkv
end
-- ==== Proof.RwkvStep.lean ====
/-
  What a grid point of the backward call adds to rows 2 and 4 of its last result: at the first point the rows start from zero, at the
  others from what the point before left.
-/
module

public import proofs.«01_k».proof.Proof.RwkvIdealFrame
public import proofs.«01_k».proof.Proof.RwkvPay
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Proof.Rwkv

open Idealize.ShloMosaic Idealize.ShloMosaic.TcCoe Idealize.SL.Sem
open Idealize.ShloMosaic.Pipeline (Dat)
open Cert.KernelIdeal Cert.KernelIdeal.Gen

set_option maxHeartbeats 400000

variable (m : (ℓ : Loc nD τ sig) → Buf (Elt Ideal) ℓ) (c : Dev nD)

abbrev Stack := FVec Ideal S8x64x128 .f32

/-- The loads of a point. -/
abbrev ldY (t : Fin cfg0.N) : FVec Ideal S64x4224 .f32 := View.ld (X0_0 m c t) (Rect.unit ![0, 0] ![64, 4224] inb_S64x4224_S64x4224_0_0)
abbrev ldLast (t : Fin cfg0.N) : FVec Ideal S1x4224 .f32 := View.ld (X0_1 m c t) (Rect.unit ![7, 0] ![1, 4224] inb_S8x4224_S1x4224_7_0)
abbrev ldMu (t : Fin cfg0.N) : FVec Ideal S1x4224 .f32 := View.ld (iblk m c 2 t) (Rect.unit ![0, 0] ![1, 4224] inb_S1x4224_S1x4224_0_0)

/-- The row before a block's first row. -/
abbrev lastRow (t : Fin cfg0.N) : FVec Ideal S1x4224 .f32 := k0_pay12 (grid0.coords t) (ldLast m c t)

/-- A feature of a token: its own row moved towards the row before it. -/
def featB (t : Fin cfg0.N) (r : Fin 64) (k : Fin 4224) : Ideal .f32 :=
  ldY m c t (ix2 r k) + ldMu m c t (ix2 0 k)
    * ((if r.val = 0 then lastRow m c t (ix2 0 k) else ldY m c t (ix2 ⟨r.val - 1, by omega⟩ k)) - ldY m c t (ix2 r k))

/-- The incoming gradient's block. -/
abbrev gradB (t : Fin cfg0.N) : FVec Ideal S64x1024 .f32 := iblk m c 9 t

/-- The blocks of the rates' offset, of the second half of the rates' product, and of the stacked row vectors. -/
abbrev blA (t : Fin cfg0.N) : FVec Ideal S1x1024 .f32 := iblk m c 4 t
abbrev blUp (t : Fin cfg0.N) : FVec Ideal S128x1024 .f32 := iblk m c 6 t
abbrev blPp (t : Fin cfg0.N) : FVec Ideal S8x8x128 .f32 := iblk m c 7 t

/-- A point's share of row 4. -/
def share4 (t : Fin cfg0.N) (p : Fin 8) (l : Fin 128) : Ideal .f32 :=
  ∑ r : Fin 64, gradB m c t (ix2 r ⟨128 * p.val + l.val, by omega⟩)
    * (featB m c t r ⟨3072 + (128 * p.val + l.val), by omega⟩ * Ideal.logistic (featB m c t r ⟨3072 + (128 * p.val + l.val), by omega⟩))

/-- A point's rate, its key and its sum over the lanes of a head. -/
def rateB (t : Fin cfg0.N) (r : Fin 64) (j : Fin 1024) : Ideal .f32 :=
  Ideal.logistic (blA m c t (ix2 0 j) + ∑ x : Fin 128, featB m c t r ⟨4096 + x.val, by omega⟩ * blUp m c t (ix2 x j))

def keyB (t : Fin cfg0.N) (r : Fin 64) (p : Fin 8) (l : Fin 128) : Ideal .f32 :=
  featB m c t r ⟨1024 + (128 * p.val + l.val), by omega⟩ * (1 + (rateB m c t r ⟨128 * p.val + l.val, by omega⟩ - 1) * blPp m c t (ix3 p 1 l))

def headB (t : Fin cfg0.N) (r : Fin 64) (p : Fin 8) (l : Fin 128) : Ideal .f32 :=
  ∑ x : Fin 128, gradB m c t (ix2 r ⟨128 * p.val + x.val, by omega⟩)
    * (featB m c t r ⟨3072 + (128 * p.val + x.val), by omega⟩ * Ideal.logistic (featB m c t r ⟨3072 + (128 * p.val + x.val), by omega⟩))
    * featB m c t r ⟨2048 + (128 * p.val + x.val), by omega⟩ * (if l.val / 64 = x.val / 64 then 1 else 0)

/-- A point's share of row 2. -/
def share2 (t : Fin cfg0.N) (p : Fin 8) (l : Fin 128) : Ideal .f32 :=
  ∑ r : Fin 64, featB m c t r ⟨128 * p.val + l.val, by omega⟩ * keyB m c t r p l * headB m c t r p l

theorem silu {z w : Ideal .f32} (h : z = w) : z * Ideal.logistic z = w * Ideal.logistic w := by rw [h]

theorem ldG (X : FVec Ideal S64x1024 .f32) (o : ℕ) (ho : o + 128 ≤ 1024) (h : _) (r : Fin 64) (l : Fin 128) :
    View.ld (Val := Elt Ideal) (e' := .f32) X (Rect.unit ![0, o] ![64, 128] h) (ix2 r l) = X (ix2 r ⟨o + l.val, by omega⟩) := by
  refine congrArg X ?_
  funext a; apply Fin.ext; fin_cases a <;> simp [Rect.idx_unit_val]

theorem add4 (v x : FVec Ideal S8x1x128 .f32) (p : Fin 8) (l : Fin 128) : k0_pay288 v x (ix3 p 0 l) = x (ix3 p 0 l) + v (ix3 p 0 l) := by
  pointwise [k0_pay288]
theorem add2 (v x : FVec Ideal S8x1x128 .f32) (p : Fin 8) (l : Fin 128) : k0_pay286 v x (ix3 p 0 l) = x (ix3 p 0 l) + v (ix3 p 0 l) := by
  pointwise [k0_pay286]

theorem ld4 (X : FVec Ideal S8x8x128 .f32) (p : Fin 8) (l : Fin 128) :
    View.ld (Val := Elt Ideal) (e' := .f32) X (Rect.unit ![0, 4, 0] ![8, 1, 128] inb_S8x8x128_S8x1x128_0_4_0) (ix3 p 0 l) = X (ix3 p 4 l) := by
  refine congrArg X ?_
  funext a; apply Fin.ext; fin_cases a <;> simp [Rect.idx_unit_val]
theorem ld2 (X : FVec Ideal S8x8x128 .f32) (p : Fin 8) (l : Fin 128) :
    View.ld (Val := Elt Ideal) (e' := .f32) X (Rect.unit ![0, 2, 0] ![8, 1, 128] inb_S8x8x128_S8x1x128_0_2_0) (ix3 p 0 l) = X (ix3 p 2 l) := by
  refine congrArg X ?_
  funext a; apply Fin.ext; fin_cases a <;> simp [Rect.idx_unit_val]

theorem row4A (t : Fin cfg0.N) (h : t.val % 32 = 0) (p : Fin 8) (l : Fin 128) :
    (outsAt0 m c t.val t.isLt).2.2.2.2.2.2.1 (ix3 p 4 l) = 0 + share4 m c t p l := by
  rw [outsAt0_A m c t h]
  dsimp only
  frame_open
  refine (View.read_writes_cons_unit_of_mem _ _ _ _ _ (ix3 p 4 l) (ix3 p 0 l) rfl (fun a => by fin_cases a <;> simp)).trans ?_
  simp (disch := decide) only [↓ View.readCov_skip, ↓ View.readCov_cons_toLoadRect, ↓ View.readCov_fill, View.readAt_eq_ld, Memref.IsWhole.read_unread]
  refine (add4 _ _ p l).trans (congrArg₂ (· + ·) ((ld4 _ p l).trans (by pointwise [k0_pay6])) ((row4 _ _ p l).trans (Finset.sum_congr rfl fun r _ => ?_)))
  refine congrArg₂ (· * ·) ?_ (silu ?_)
  · exact fill _ _ _ _ _ _ _ _ (gradB m c t) (fun r l => (ldG _ 0 (by omega) _ r l).trans (congrArg _ (by simp))) (fun r l => ldG _ 128 (by omega) _ r l) (fun r l => ldG _ 256 (by omega) _ r l)
      (fun r l => ldG _ 384 (by omega) _ r l) (fun r l => ldG _ 512 (by omega) _ r l) (fun r l => ldG _ 640 (by omega) _ r l)
      (fun r l => ldG _ 768 (by omega) _ r l) (fun r l => ldG _ 896 (by omega) _ r l) p r l
  · refine (stackZ _ p r l).trans ?_
    refine (colZ _ _ _ _ r ⟨128 * p.val + l.val, by omega⟩).trans ?_
    refine (mix _ _ _ r _).trans ?_
    simp only [Memref.IsWhole.read_unread]
    rfl

theorem row4B (t : Fin cfg0.N) (h : ¬ t.val % 32 = 0) (p : Fin 8) (l : Fin 128) :
    (outsAt0 m c t.val t.isLt).2.2.2.2.2.2.1 (ix3 p 4 l)
      = (outsAt0 m c (t.val - 1) (by omega)).2.2.2.2.2.2.1 (ix3 p 4 l) + share4 m c t p l := by
  rw [outsAt0_B m c t h]
  dsimp only
  frame_open
  refine (View.read_writes_cons_unit_of_mem _ _ _ _ _ (ix3 p 4 l) (ix3 p 0 l) rfl (fun a => by fin_cases a <;> simp)).trans ?_
  simp (disch := decide) only [↓ View.readCov_skip, ↓ View.readCov_cons_toLoadRect, ↓ View.readCov_fill, View.readAt_eq_ld, Memref.IsWhole.read_unread]
  refine (add4 _ _ p l).trans (congrArg₂ (· + ·) (ld4 _ p l) ((row4 _ _ p l).trans (Finset.sum_congr rfl fun r _ => ?_)))
  refine congrArg₂ (· * ·) ?_ (silu ?_)
  · exact fill _ _ _ _ _ _ _ _ (gradB m c t) (fun r l => (ldG _ 0 (by omega) _ r l).trans (congrArg _ (by simp))) (fun r l => ldG _ 128 (by omega) _ r l) (fun r l => ldG _ 256 (by omega) _ r l)
      (fun r l => ldG _ 384 (by omega) _ r l) (fun r l => ldG _ 512 (by omega) _ r l) (fun r l => ldG _ 640 (by omega) _ r l)
      (fun r l => ldG _ 768 (by omega) _ r l) (fun r l => ldG _ 896 (by omega) _ r l) p r l
  · refine (stackZ _ p r l).trans ?_
    refine (colZ _ _ _ _ r ⟨128 * p.val + l.val, by omega⟩).trans ?_
    refine (mix _ _ _ r _).trans ?_
    simp only [Memref.IsWhole.read_unread]
    rfl

theorem row2A (t : Fin cfg0.N) (h : t.val % 32 = 0) (p : Fin 8) (l : Fin 128) :
    (outsAt0 m c t.val t.isLt).2.2.2.2.2.2.1 (ix3 p 2 l) = 0 + share2 m c t p l := by
  rw [outsAt0_A m c t h]
  dsimp only
  frame_open
  refine (View.read_writes_cons_unit_of_not_mem _ _ _ _ _ (ix3 p 2 l) rfl 1 (by simp)).trans ?_
  refine (View.read_writes_cons_unit_of_not_mem _ _ _ _ _ (ix3 p 2 l) rfl 1 (by simp)).trans ?_
  refine (View.read_writes_cons_unit_of_mem _ _ _ _ _ (ix3 p 2 l) (ix3 p 0 l) rfl (fun a => by fin_cases a <;> simp)).trans ?_
  simp (disch := decide) only [↓ View.readCov_skip, ↓ View.readCov_cons_toLoadRect, ↓ View.readCov_fill, View.readAt_eq_ld, Memref.IsWhole.read_unread]
  refine (add2 _ _ p l).trans ?_
  refine (congrArg₂ (· + ·) ((ld2 _ p l).trans (by pointwise [k0_pay6])) ((row2 _ _ _ _ _ _ p l).trans (Finset.sum_congr rfl fun r _ => ?_)))
  refine congrArg₂ (· * ·) (congrArg₂ (· * ·) ?_ ((gate _ _ _ p r l).trans (congrArg₂ (· * ·) ?_ (congrArg (1 + ·) (congrArg₂ (fun a b => (a - 1) * b) ?_ ?_))))) ?_
  · refine (stackR _ p r l).trans ?_
    refine (colR _ _ _ _ r ⟨128 * p.val + l.val, by omega⟩).trans ?_
    refine (mix _ _ _ r _).trans ?_
    simp only [Memref.IsWhole.read_unread]
    rfl
  · refine (stackK _ p r l).trans ?_
    refine (colK _ _ _ _ r ⟨128 * p.val + l.val, by omega⟩).trans ?_
    refine (mix _ _ _ r _).trans ?_
    simp only [Memref.IsWhole.read_unread]
    rfl
  · refine (stackA _ p r l).trans ((asig _ _ _ r _).trans (congrArg Ideal.logistic (congrArg₂ (· + ·) ?_ (Finset.sum_congr rfl fun x _ => congrArg₂ (· * ·) ?_ ?_))))
    · pointwise [k0_pay14, Memref.IsWhole.read_unread]
    · refine (colW _ _ _ _ r x).trans ?_
      exact mix _ _ _ r _
    · pointwise [k0_pay14, Memref.IsWhole.read_unread]
  · pointwise [k0_pay16, Memref.IsWhole.read_unread]
  refine (seg _ _ _ _ p r l).trans (Finset.sum_congr rfl fun x _ => ?_)
  refine congrArg₂ (· * ·) (congrArg₂ (· * ·) (congrArg₂ (· * ·) ?_ (silu ?_)) ?_) (mask l x)
  · exact fill _ _ _ _ _ _ _ _ (gradB m c t) (fun r l => (ldG _ 0 (by omega) _ r l).trans (congrArg _ (by simp))) (fun r l => ldG _ 128 (by omega) _ r l) (fun r l => ldG _ 256 (by omega) _ r l)
      (fun r l => ldG _ 384 (by omega) _ r l) (fun r l => ldG _ 512 (by omega) _ r l) (fun r l => ldG _ 640 (by omega) _ r l)
      (fun r l => ldG _ 768 (by omega) _ r l) (fun r l => ldG _ 896 (by omega) _ r l) p r x
  · refine (stackZ _ p r x).trans ?_
    refine (colZ _ _ _ _ r ⟨128 * p.val + x.val, by omega⟩).trans ?_
    refine (mix _ _ _ r _).trans ?_
    simp only [Memref.IsWhole.read_unread]
    rfl
  · refine (stackV _ p r x).trans ?_
    refine (colV _ _ _ _ r ⟨128 * p.val + x.val, by omega⟩).trans ?_
    refine (mix _ _ _ r _).trans ?_
    simp only [Memref.IsWhole.read_unread]
    rfl

theorem row2B (t : Fin cfg0.N) (h : ¬ t.val % 32 = 0) (p : Fin 8) (l : Fin 128) :
    (outsAt0 m c t.val t.isLt).2.2.2.2.2.2.1 (ix3 p 2 l)
      = (outsAt0 m c (t.val - 1) (by omega)).2.2.2.2.2.2.1 (ix3 p 2 l) + share2 m c t p l := by
  rw [outsAt0_B m c t h]
  dsimp only
  frame_open
  refine (View.read_writes_cons_unit_of_not_mem _ _ _ _ _ (ix3 p 2 l) rfl 1 (by simp)).trans ?_
  refine (View.read_writes_cons_unit_of_not_mem _ _ _ _ _ (ix3 p 2 l) rfl 1 (by simp)).trans ?_
  refine (View.read_writes_cons_unit_of_mem _ _ _ _ _ (ix3 p 2 l) (ix3 p 0 l) rfl (fun a => by fin_cases a <;> simp)).trans ?_
  simp (disch := decide) only [↓ View.readCov_skip, ↓ View.readCov_cons_toLoadRect, ↓ View.readCov_fill, View.readAt_eq_ld, Memref.IsWhole.read_unread]
  refine (add2 _ _ p l).trans ?_
  refine (congrArg₂ (· + ·) (ld2 _ p l) ((row2 _ _ _ _ _ _ p l).trans (Finset.sum_congr rfl fun r _ => ?_)))
  refine congrArg₂ (· * ·) (congrArg₂ (· * ·) ?_ ((gate _ _ _ p r l).trans (congrArg₂ (· * ·) ?_ (congrArg (1 + ·) (congrArg₂ (fun a b => (a - 1) * b) ?_ ?_))))) ?_
  · refine (stackR _ p r l).trans ?_
    refine (colR _ _ _ _ r ⟨128 * p.val + l.val, by omega⟩).trans ?_
    refine (mix _ _ _ r _).trans ?_
    simp only [Memref.IsWhole.read_unread]
    rfl
  · refine (stackK _ p r l).trans ?_
    refine (colK _ _ _ _ r ⟨128 * p.val + l.val, by omega⟩).trans ?_
    refine (mix _ _ _ r _).trans ?_
    simp only [Memref.IsWhole.read_unread]
    rfl
  · refine (stackA _ p r l).trans ((asig _ _ _ r _).trans (congrArg Ideal.logistic (congrArg₂ (· + ·) ?_ (Finset.sum_congr rfl fun x _ => congrArg₂ (· * ·) ?_ ?_))))
    · pointwise [k0_pay14, Memref.IsWhole.read_unread]
    · refine (colW _ _ _ _ r x).trans ?_
      exact mix _ _ _ r _
    · pointwise [k0_pay14, Memref.IsWhole.read_unread]
  · pointwise [k0_pay16, Memref.IsWhole.read_unread]
  refine (seg _ _ _ _ p r l).trans (Finset.sum_congr rfl fun x _ => ?_)
  refine congrArg₂ (· * ·) (congrArg₂ (· * ·) (congrArg₂ (· * ·) ?_ (silu ?_)) ?_) (mask l x)
  · exact fill _ _ _ _ _ _ _ _ (gradB m c t) (fun r l => (ldG _ 0 (by omega) _ r l).trans (congrArg _ (by simp))) (fun r l => ldG _ 128 (by omega) _ r l) (fun r l => ldG _ 256 (by omega) _ r l)
      (fun r l => ldG _ 384 (by omega) _ r l) (fun r l => ldG _ 512 (by omega) _ r l) (fun r l => ldG _ 640 (by omega) _ r l)
      (fun r l => ldG _ 768 (by omega) _ r l) (fun r l => ldG _ 896 (by omega) _ r l) p r x
  · refine (stackZ _ p r x).trans ?_
    refine (colZ _ _ _ _ r ⟨128 * p.val + x.val, by omega⟩).trans ?_
    refine (mix _ _ _ r _).trans ?_
    simp only [Memref.IsWhole.read_unread]
    rfl
  · refine (stackV _ p r x).trans ?_
    refine (colV _ _ _ _ r ⟨128 * p.val + x.val, by omega⟩).trans ?_
    refine (mix _ _ _ r _).trans ?_
    simp only [Memref.IsWhole.read_unread]
    rfl

end Cert.Proof.Rwkv
end
-- ==== Proof.RwkvForm.lean ====
/-
  What rows 2 and 4 of the parameter gradients are, written with sums over the whole arrays: the token-shifted features, the gated
  output gradient, the key after its gate, and the two sums over the tokens.
-/
module

public import Idealize.ShloMosaic.Lib.Pipeline.ValueKit

@[expose] public section

noncomputable section

namespace Cert.Proof.Rwkv

open Idealize.ShloMosaic

abbrev ArrX := FVec Ideal ⟨2, ![2048, 8320]⟩ .f32
abbrev ArrMu := FVec Ideal ⟨2, ![1, 4224]⟩ .f32
abbrev ArrA := FVec Ideal ⟨2, ![1, 1024]⟩ .f32
abbrev ArrUp := FVec Ideal ⟨2, ![64, 1024]⟩ .f32
abbrev ArrKa := FVec Ideal ⟨1, ![1024]⟩ .f32
abbrev ArrG := FVec Ideal ⟨2, ![2048, 2048]⟩ .f32

/-- The projection one token earlier; zero before the first token. -/
def before (X : ArrX) (t : Fin 2048) (k : Fin 4224) : Ideal .f32 :=
  if t.val = 0 then 0 else X (ix2 ⟨t.val - 1, by omega⟩ ⟨k.val, by omega⟩)

/-- The features of a token, mixed with those of the token before. -/
def feat (X : ArrX) (M : ArrMu) (t : Fin 2048) (k : Fin 4224) : Ideal .f32 :=
  X (ix2 t ⟨k.val, by omega⟩) + M (ix2 0 k) * (before X t k - X (ix2 t ⟨k.val, by omega⟩))

/-- The gradient that comes in, times the gate. -/
def gated (X : ArrX) (M : ArrMu) (G : ArrG) (t : Fin 2048) (j : Fin 1024) : Ideal .f32 :=
  G (ix2 t ⟨j.val, by omega⟩) * (feat X M t ⟨3072 + j.val, by omega⟩ * Ideal.logistic (feat X M t ⟨3072 + j.val, by omega⟩))

/-- The in-context rate of a token. -/
def rate (X : ArrX) (M : ArrMu) (A : ArrA) (U : ArrUp) (t : Fin 2048) (j : Fin 1024) : Ideal .f32 :=
  Ideal.logistic (A (ix2 0 j) + ∑ x : Fin 64, feat X M t ⟨4160 + x.val, by omega⟩ * U (ix2 x j))

/-- The key after its gate. -/
def key (X : ArrX) (M : ArrMu) (A : ArrA) (U : ArrUp) (K : ArrKa) (t : Fin 2048) (j : Fin 1024) : Ideal .f32 :=
  feat X M t ⟨1024 + j.val, by omega⟩ * (1 + (rate X M A U t j - 1) * K (ix1 j))

/-- The sum of a head's gated gradient times its value. -/
def head (X : ArrX) (M : ArrMu) (G : ArrG) (t : Fin 2048) (j : Fin 1024) : Ideal .f32 :=
  ∑ x : Fin 64, gated X M G t ⟨j.val / 64 * 64 + x.val, by omega⟩ * feat X M t ⟨2048 + (j.val / 64 * 64 + x.val), by omega⟩

/-- A token's share of the gradient of the bonus weight. -/
def bonus (X : ArrX) (M : ArrMu) (A : ArrA) (U : ArrUp) (K : ArrKa) (G : ArrG) (t : Fin 2048) (j : Fin 1024) : Ideal .f32 :=
  feat X M t ⟨j.val, by omega⟩ * key X M A U K t j * head X M G t j

end Cert.Proof.Rwkv
end
-- ==== Proof.RwkvBlocks.lean ====
/-
  What the blocks of a grid point hold of the arguments, and with them a point's shares of rows 2 and 4 written over the whole arrays.
-/
module

public import proofs.«01_k».proof.Proof.RwkvStep
public import proofs.«01_k».proof.Proof.RwkvForm
public import Idealize.ShloMosaic.Lib.Pipeline.ValueKit

@[expose] public section

set_option maxRecDepth 16384

noncomputable section

namespace Cert.Proof.Rwkv

open Idealize.ShloMosaic Idealize.ShloMosaic.TcCoe Idealize.SL.Sem
open Idealize.ShloMosaic.Pipeline (Dat)
open Cert.KernelIdeal Cert.KernelIdeal.Gen

set_option maxHeartbeats 1000000

variable (m : (ℓ : Loc nD τ sig) → Buf (Elt Ideal) ℓ) (c : Dev nD)

abbrev argX : ArrX := m ((c : Thread nD τ).loc main_arg0)
abbrev argM : ArrMu := m ((c : Thread nD τ).loc main_arg1)
abbrev argA : ArrA := m ((c : Thread nD τ).loc main_arg4)
abbrev argU : ArrUp := m ((c : Thread nD τ).loc main_arg5)
abbrev argK : ArrKa := m ((c : Thread nD τ).loc main_arg7)
abbrev argG : ArrG := m ((c : Thread nD τ).loc main_arg12)

theorem lt32 (t : Fin cfg0.N) : t.val < 32 := lt_of_lt_of_eq t.isLt (by decide +kernel)

/-- The token a row of a point's block is: the points go through the blocks from the last to the first. -/
def at_ (t : Fin cfg0.N) (r : Fin 64) : Fin 2048 := ⟨64 * (31 - t.val) + r.val, by have := lt32 t; omega⟩

theorem idx : ∀ t : Fin cfg0.N, win0_0.index t = ![31 - t.val, 0] ∧ win0_1.index t = ![(31 - t.val) * 8 - 1, 0] ∧ win0_2.index t = ![0, 0]
    ∧ win0_4.index t = ![0, 0] ∧ win0_6.index t = ![0, 0] ∧ win0_7.index t = ![0, 0, 0] ∧ win0_9.index t = ![31 - t.val, 0]
    ∧ (grid0.coords t 0).val = t.val := by
  decide +kernel

theorem wholeY (X : FVec Ideal S64x4224 .f32) (r : Fin 64) (k : Fin 4224) :
    View.ld (Val := Elt Ideal) (e' := .f32) X (Rect.unit ![0, 0] ![64, 4224] inb_S64x4224_S64x4224_0_0) (ix2 r k) = X (ix2 r k) := by
  refine congrArg X ?_
  funext a; apply Fin.ext; fin_cases a <;> simp [Rect.idx_unit_val]
theorem wholeMu (X : FVec Ideal S1x4224 .f32) (k : Fin 4224) :
    View.ld (Val := Elt Ideal) (e' := .f32) X (Rect.unit ![0, 0] ![1, 4224] inb_S1x4224_S1x4224_0_0) (ix2 0 k) = X (ix2 0 k) := by
  refine congrArg X ?_
  funext a; apply Fin.ext; fin_cases a <;> simp [Rect.idx_unit_val]
theorem lastOf (X : FVec Ideal S8x4224 .f32) (k : Fin 4224) :
    View.ld (Val := Elt Ideal) (e' := .f32) X (Rect.unit ![7, 0] ![1, 4224] inb_S8x4224_S1x4224_7_0) (ix2 0 k) = X (ix2 7 k) := by
  refine congrArg X ?_
  funext a; apply Fin.ext; fin_cases a <;> simp [Rect.idx_unit_val]

theorem readY (t : Fin cfg0.N) (r : Fin 64) (k : Fin 4224) : ldY m c t (ix2 r k) = argX m c (ix2 (at_ t r) ⟨k.val, by omega⟩) := by
  refine (wholeY _ r k).trans ?_
  unfold X0_0 Pipeline.Window.fill
  rw [dif_pos (moved0_0 t _)]
  have := lt32 t
  blk_ext [iblk, V, idx t, at_]

theorem readLast (t : Fin cfg0.N) (h : t.val ≠ 31) (k : Fin 4224) :
    ldLast m c t (ix2 0 k) = argX m c (ix2 ⟨64 * (31 - t.val) - 1, by have := lt32 t; omega⟩ ⟨k.val, by omega⟩) := by
  refine (lastOf _ k).trans ?_
  unfold X0_1 Pipeline.Window.fill
  rw [dif_pos (moved0_1 t _)]
  have := lt32 t
  blk_ext [iblk, V, idx t]

theorem readMu (t : Fin cfg0.N) (k : Fin 4224) : ldMu m c t (ix2 0 k) = argM m c (ix2 0 k) := by
  refine (wholeMu _ k).trans ?_
  blk_ext [iblk, V, idx t]

theorem readA (t : Fin cfg0.N) (j : Fin 1024) : blA m c t (ix2 0 j) = argA m c (ix2 0 j) := by
  blk_ext [iblk, V, idx t]

theorem readG (t : Fin cfg0.N) (r : Fin 64) (j : Fin 1024) : gradB m c t (ix2 r j) = argG m c (ix2 (at_ t r) ⟨j.val, by omega⟩) := by
  blk_ext [iblk, V, idx t, at_]

theorem padded (x : Fin 128) (j : Fin 1024) :
    (V m c main_v3 : FVec Ideal S128x1024 .f32) (ix2 x j) = if h : x.val < 64 then 0 else argU m c (ix2 ⟨x.val - 64, by omega⟩ j) := by
  entry_read
  pointwise

theorem readUp (t : Fin cfg0.N) (x : Fin 128) (j : Fin 1024) :
    blUp m c t (ix2 x j) = if h : x.val < 64 then 0 else argU m c (ix2 ⟨x.val - 64, by omega⟩ j) := by
  refine Eq.trans ?_ (padded m c x j)
  blk_ext [iblk, idx t]

/-- The host operations that stack the row vectors, over whatever the operations before them left. -/
abbrev stackOps : List (HloOp τ sig (Elt Ideal)) :=
  [ StableHlo.nary ![main_v5, main_v6, main_v7, main_v8, main_v9, main_v10, main_v11, main_v12] main_v13 (fun u => (concatenate S8x1024 0 [⟨S1x1024, (u 0 : (⟨S1x1024, .f32⟩ : BufTy).Contents (Elt Ideal))⟩, ⟨S1x1024, (u 1 : (⟨S1x1024, .f32⟩ : BufTy).Contents (Elt Ideal))⟩, ⟨S1x1024, (u 2 : (⟨S1x1024, .f32⟩ : BufTy).Contents (Elt Ideal))⟩, ⟨S1x1024, (u 3 : (⟨S1x1024, .f32⟩ : BufTy).Contents (Elt Ideal))⟩, ⟨S1x1024, (u 4 : (⟨S1x1024, .f32⟩ : BufTy).Contents (Elt Ideal))⟩, ⟨S1x1024, (u 5 : (⟨S1x1024, .f32⟩ : BufTy).Contents (Elt Ideal))⟩, ⟨S1x1024, (u 6 : (⟨S1x1024, .f32⟩ : BufTy).Contents (Elt Ideal))⟩, ⟨S1x1024, (u 7 : (⟨S1x1024, .f32⟩ : BufTy).Contents (Elt Ideal))⟩] concatenates_S1x1024_S1x1024_S1x1024_S1x1024_S1x1024_S1x1024_S1x1024_S1x1024_S8x1024_d0 : (⟨S8x1024, .f32⟩ : BufTy).Contents (Elt Ideal))),
    StableHlo.reshape main_v13 main_v14 (rfl : (.f32 : EltTy) = .f32) shapeCasts_S8x1024_S8x8x128,
    StableHlo.unary main_v14 main_v15 ((transpose S8x8x128 [1, 0, 2] · transposes_S8x8x128_S8x8x128_1_0_2) : (⟨S8x8x128, .f32⟩ : BufTy).Contents (Elt Ideal) → (⟨S8x8x128, .f32⟩ : BufTy).Contents (Elt Ideal)) ]

theorem stackedOf (W : Valuation τ sig (Elt Ideal)) (p : Fin 8) (l : Fin 128) :
    (StableHlo.after stackOps W (Proc.devRef .tc main_v15) : FVec Ideal S8x8x128 .f32) (ix3 p 1 l)
      = (W (Proc.devRef .tc main_v6) : FVec Ideal S1x1024 .f32) (ix2 0 ⟨128 * p.val + l.val, by omega⟩) := by
  simp only [stackOps, StableHlo.after_cons, StableHlo.after_nil]
  rw [StableHlo.unary_result, StableHlo.reshape_result, StableHlo.nary_result]
  pointwise
  exact congrArg (W (Proc.devRef .tc main_v6) : FVec Ideal S1x1024 .f32) (congrArg (ix2 0) (Fin.ext (by show p.val * 128 + l.val = 128 * p.val + l.val; omega)))

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih _

theorem splitOps : (hostOps0 : List (HloOp τ sig (Elt Ideal))) = hostOps0.take 16 ++ stackOps := rfl

theorem beforeStack (p : Fin 8) (l : Fin 128) :
    (StableHlo.after (hostOps0.take 16) (fun b => m (c, b)) (Proc.devRef .tc main_v6) : FVec Ideal S1x1024 .f32) (ix2 0 ⟨128 * p.val + l.val, by omega⟩)
      = argK m c (ix1 ⟨128 * p.val + l.val, by omega⟩) := by
  simp only [hostOps0, List.take_succ_cons, List.take_zero]
  set_option maxRecDepth 100000 in entry_read
  pointwise

theorem stacked (p : Fin 8) (l : Fin 128) :
    (V m c main_v15 : FVec Ideal S8x8x128 .f32) (ix3 p 1 l) = argK m c (ix1 ⟨128 * p.val + l.val, by omega⟩) := by
  have e := stackedOf (StableHlo.after (hostOps0.take 16) (fun b => m (c, b))) p l
  rw [← after_app, ← splitOps] at e
  exact e.trans (beforeStack m c p l)

theorem readPp (t : Fin cfg0.N) (p : Fin 8) (l : Fin 128) :
    blPp m c t (ix3 p 1 l) = argK m c (ix1 ⟨128 * p.val + l.val, by omega⟩) := by
  refine Eq.trans ?_ (stacked m c p l)
  blk_ext [iblk, idx t]

end Cert.Proof.Rwkv
end
-- ==== Proof.RwkvSum.lean ====
/-
  The shares of the points, summed over the grid: rows 2 and 4 after the last point are sums over all tokens.
-/
module

public import proofs.«01_k».proof.Proof.RwkvBlocks
public import Idealize.ShloMosaic.Lib.Pipeline.ValueKit

@[expose] public section

set_option maxRecDepth 16384

noncomputable section

namespace Cert.Proof.Rwkv

open Idealize.ShloMosaic Idealize.ShloMosaic.TcCoe Idealize.SL.Sem
open Cert.KernelIdeal Cert.KernelIdeal.Gen

set_option maxHeartbeats 400000

variable (m : (ℓ : Loc nD τ sig) → Buf (Elt Ideal) ℓ) (c : Dev nD)

theorem featAt (t : Fin cfg0.N) (r : Fin 64) (k : Fin 4224) : featB m c t r k = feat (argX m c) (argM m c) (at_ t r) k := by
  have h32 := lt32 t
  unfold featB feat
  rw [readY, readMu]
  refine congrArg₂ (· + ·) rfl (congrArg₂ (· * ·) rfl (congrArg₂ (· - ·) ?_ rfl))
  unfold before
  by_cases hr : r.val = 0
  · rw [if_pos hr]
    refine (first _ _ k).trans ?_
    rw [(idx t).2.2.2.2.2.2.2]
    by_cases ht : t.val = 31
    · rw [if_pos ht, if_pos (show (at_ t r).val = 0 by show 64 * (31 - t.val) + r.val = 0; omega)]
    · rw [if_neg ht, if_neg (show ¬ (at_ t r).val = 0 by show ¬ 64 * (31 - t.val) + r.val = 0; omega), readLast m c t ht]
      refine congrArg (argX m c) (congrArg₂ ix2 (Fin.ext ?_) rfl)
      show 64 * (31 - t.val) - 1 = 64 * (31 - t.val) + r.val - 1
      omega
  · rw [if_neg hr, if_neg (show ¬ (at_ t r).val = 0 by show ¬ 64 * (31 - t.val) + r.val = 0; omega), readY]
    refine congrArg (argX m c) (congrArg₂ ix2 (Fin.ext ?_) rfl)
    show 64 * (31 - t.val) + (r.val - 1) = 64 * (31 - t.val) + r.val - 1
    omega

theorem gatedAt (t : Fin cfg0.N) (r : Fin 64) (j : Fin 1024) :
    gradB m c t (ix2 r j) * (featB m c t r ⟨3072 + j.val, by omega⟩ * Ideal.logistic (featB m c t r ⟨3072 + j.val, by omega⟩))
      = gated (argX m c) (argM m c) (argG m c) (at_ t r) j := by
  unfold gated
  rw [readG, featAt]

theorem share4At (t : Fin cfg0.N) (p : Fin 8) (l : Fin 128) :
    share4 m c t p l = ∑ r : Fin 64, gated (argX m c) (argM m c) (argG m c) (at_ t r) ⟨128 * p.val + l.val, by omega⟩ :=
  Finset.sum_congr rfl fun r _ => gatedAt m c t r _

theorem rateAt (t : Fin cfg0.N) (r : Fin 64) (j : Fin 1024) :
    rateB m c t r j = rate (argX m c) (argM m c) (argA m c) (argU m c) (at_ t r) j := by
  unfold rateB rate
  rw [readA]
  refine congrArg Ideal.logistic (congrArg (argA m c (ix2 0 j) + ·) ?_)
  refine (Fin.sum_univ_add (M := EReal) (a := 64) (b := 64) _).trans ?_
  refine (congrArg₂ (· + ·) (Finset.sum_eq_zero fun x _ => ?_) (Finset.sum_congr rfl fun x _ => ?_)).trans (zero_add _)
  · rw [readUp, dif_pos (show (Fin.castAdd 64 x).val < 64 from x.isLt)]
    exact mul_zero _
  · rw [readUp, dif_neg (show ¬ (Fin.natAdd 64 x).val < 64 by simp), featAt]
    refine congrArg₂ (· * ·) (congrArg (feat (argX m c) (argM m c) (at_ t r)) (Fin.ext ?_)) (congrArg (argU m c) (congrArg₂ ix2 (Fin.ext ?_) rfl))
    · show 4096 + (64 + x.val) = 4160 + x.val; omega
    · show 64 + x.val - 64 = x.val; omega

theorem keyAt (t : Fin cfg0.N) (r : Fin 64) (p : Fin 8) (l : Fin 128) :
    keyB m c t r p l = key (argX m c) (argM m c) (argA m c) (argU m c) (argK m c) (at_ t r) ⟨128 * p.val + l.val, by omega⟩ := by
  unfold keyB key
  rw [featAt, rateAt, readPp]

theorem headAt (t : Fin cfg0.N) (r : Fin 64) (p : Fin 8) (l : Fin 128) :
    headB m c t r p l = head (argX m c) (argM m c) (argG m c) (at_ t r) ⟨128 * p.val + l.val, by omega⟩ := by
  unfold headB head
  refine (Finset.sum_congr rfl fun x _ => congrArg₂ (· * ·) (congrArg₂ (· * ·) (gatedAt m c t r ⟨128 * p.val + x.val, by omega⟩) (featAt m c t r _)) rfl).trans ?_
  refine (Fin.sum_univ_add (M := EReal) (a := 64) (b := 64) _).trans ?_
  by_cases hl : l.val < 64
  · refine (congrArg₂ (· + ·) (Finset.sum_congr rfl fun x _ => ?_) (Finset.sum_eq_zero fun x _ => ?_)).trans (add_zero _)
    · rw [if_pos (show l.val / 64 = (Fin.castAdd 64 x).val / 64 by simp; omega), mul_one]
      refine congrArg₂ (· * ·) (congrArg (gated (argX m c) (argM m c) (argG m c) (at_ t r)) (Fin.ext ?_)) (congrArg (feat (argX m c) (argM m c) (at_ t r)) (Fin.ext ?_))
      · show 128 * p.val + x.val = (128 * p.val + l.val) / 64 * 64 + x.val; omega
      · show 2048 + (128 * p.val + x.val) = 2048 + ((128 * p.val + l.val) / 64 * 64 + x.val); omega
    · rw [if_neg (show ¬ l.val / 64 = (Fin.natAdd 64 x).val / 64 by simp; omega)]
      exact mul_zero _
  · refine (congrArg₂ (· + ·) (Finset.sum_eq_zero fun x _ => ?_) (Finset.sum_congr rfl fun x _ => ?_)).trans (zero_add _)
    · rw [if_neg (show ¬ l.val / 64 = (Fin.castAdd 64 x).val / 64 by simp; omega)]
      exact mul_zero _
    · rw [if_pos (show l.val / 64 = (Fin.natAdd 64 x).val / 64 by simp; omega), mul_one]
      refine congrArg₂ (· * ·) (congrArg (gated (argX m c) (argM m c) (argG m c) (at_ t r)) (Fin.ext ?_)) (congrArg (feat (argX m c) (argM m c) (at_ t r)) (Fin.ext ?_))
      · show 128 * p.val + (64 + x.val) = (128 * p.val + l.val) / 64 * 64 + x.val; omega
      · show 2048 + (128 * p.val + (64 + x.val)) = 2048 + ((128 * p.val + l.val) / 64 * 64 + x.val); omega

theorem share2At (t : Fin cfg0.N) (p : Fin 8) (l : Fin 128) :
    share2 m c t p l = ∑ r : Fin 64, bonus (argX m c) (argM m c) (argA m c) (argU m c) (argK m c) (argG m c) (at_ t r) ⟨128 * p.val + l.val, by omega⟩ := by
  unfold share2 bonus
  refine Finset.sum_congr rfl fun r _ => ?_
  rw [featAt, keyAt, headAt]

/-- The points go through the blocks of 64 tokens from the last to the first; together they go through all tokens. -/
theorem tokens (f : Fin 2048 → EReal) : ∑ s : Fin 32, ∑ r : Fin 64, f ⟨64 * (31 - s.val) + r.val, by omega⟩ = ∑ t : Fin 2048, f t := by
  refine (Equiv.sum_comp Fin.revPerm fun s : Fin 32 => ∑ r : Fin 64, f ⟨64 * (31 - s.val) + r.val, by omega⟩).symm.trans ?_
  refine Fin.sum_mul_add_congr fun s r hl => congrArg f (Fin.ext ?_)
  show 64 * (31 - (Fin.revPerm s).val) + r.val = s.val * 64 + r.val
  rw [Fin.revPerm_apply, Fin.val_rev]
  omega

theorem acc4 (p : Fin 8) (l : Fin 128) : ∀ (n : ℕ) (h : n < cfg0.N),
    (outsAt0 m c n h).2.2.2.2.2.2.1 (ix3 p 4 l) = ∑ s : Fin (n + 1), share4 m c ⟨s.val, by omega⟩ p l := by
  intro n
  induction n with
  | zero =>
    intro h
    refine (row4A m c ⟨0, h⟩ rfl p l).trans ((zero_add _).trans ?_)
    exact (Fin.sum_univ_one (M := EReal) (fun s : Fin 1 => share4 m c ⟨s.val, by have := s.isLt; omega⟩ p l)).symm
  | succ n ih =>
    intro h
    refine (row4B m c ⟨n + 1, h⟩ (by have := lt32 ⟨n + 1, h⟩; show ¬ (n + 1) % 32 = 0; simp only at this; omega) p l).trans ?_
    refine Eq.trans ?_ (Fin.sum_univ_castSucc (M := EReal) _).symm
    exact congrArg₂ (· + ·) (ih (by omega)) rfl

theorem acc2 (p : Fin 8) (l : Fin 128) : ∀ (n : ℕ) (h : n < cfg0.N),
    (outsAt0 m c n h).2.2.2.2.2.2.1 (ix3 p 2 l) = ∑ s : Fin (n + 1), share2 m c ⟨s.val, by omega⟩ p l := by
  intro n
  induction n with
  | zero =>
    intro h
    refine (row2A m c ⟨0, h⟩ rfl p l).trans ((zero_add _).trans ?_)
    exact (Fin.sum_univ_one (M := EReal) (fun s : Fin 1 => share2 m c ⟨s.val, by have := s.isLt; omega⟩ p l)).symm
  | succ n ih =>
    intro h
    refine (row2B m c ⟨n + 1, h⟩ (by have := lt32 ⟨n + 1, h⟩; show ¬ (n + 1) % 32 = 0; simp only at this; omega) p l).trans ?_
    refine Eq.trans ?_ (Fin.sum_univ_castSucc (M := EReal) _).symm
    exact congrArg₂ (· + ·) (ih (by omega)) rfl

theorem last_lt : 31 < cfg0.N := by decide +kernel

theorem last4 (p : Fin 8) (l : Fin 128) : (outsAt0 m c 31 last_lt).2.2.2.2.2.2.1 (ix3 p 4 l)
    = ∑ t : Fin 2048, gated (argX m c) (argM m c) (argG m c) t ⟨128 * p.val + l.val, by omega⟩ := by
  refine (acc4 m c p l 31 last_lt).trans (Eq.trans ?_ (tokens _))
  exact Finset.sum_congr rfl fun s _ => share4At m c _ p l

theorem last2 (p : Fin 8) (l : Fin 128) : (outsAt0 m c 31 last_lt).2.2.2.2.2.2.1 (ix3 p 2 l)
    = ∑ t : Fin 2048, bonus (argX m c) (argM m c) (argA m c) (argU m c) (argK m c) (argG m c) t ⟨128 * p.val + l.val, by omega⟩ := by
  refine (acc2 m c p l 31 last_lt).trans (Eq.trans ?_ (tokens _))
  exact Finset.sum_congr rfl fun s _ => share2At m c _ p l

end Cert.Proof.Rwkv
end
-- ==== Proof.RwkvRef.lean ====
/-
  The reference's rows 2 and 4: the sums over the tokens of the shares.
-/
module

public import proofs.«01_k».proof.Proof.Gen.ReferenceIdeal.Read
public import proofs.«01_k».proof.Proof.RwkvForm

@[expose] public section

set_option maxRecDepth 16384

noncomputable section

namespace Cert.Proof.Rwkv.Ref

open Idealize.ShloMosaic Idealize.SL.Sem
open Cert.ReferenceIdeal Cert.ReferenceIdeal.Gen Cert.ReferenceIdeal.Read

set_option maxHeartbeats 1000000

variable (X : ArrX) (M : ArrMu) (A : ArrA) (U : ArrUp) (K : ArrKa) (G : ArrG)

/-- A sum over two axes of length one is the one element. -/
theorem sum01 (h : S1x1x16x64.ReducesTo [0, 1] S16x64) (x : S1x1x16x64.Idx → EReal) (z : EReal) (a : Fin 16) (b : Fin 64) :
    Ideal.hostReduceAdd h x z (ix2 a b) = z + x (ix4 0 0 a b) := by
  unfold Ideal.hostReduceAdd
  have e : Finset.univ.filter (fun i => h.drop i = ix2 a b) = {ix4 0 0 a b} := by
    ext i
    have h0 : (h.drop i 0 : Nat) = i 2 := Shape.ReducesTo.drop_apply_val h i 0
    have h1 : (h.drop i 1 : Nat) = i 3 := Shape.ReducesTo.drop_apply_val h i 1
    simp only [Finset.mem_filter, Finset.mem_univ, true_and, Finset.mem_singleton]
    constructor
    · intro e
      rw [e] at h0 h1
      funext c
      match c with
      | ⟨0, _⟩ => exact Subsingleton.elim (α := Fin 1) _ _
      | ⟨1, _⟩ => exact Subsingleton.elim (α := Fin 1) _ _
      | ⟨2, _⟩ => exact Fin.ext h0.symm
      | ⟨3, _⟩ => exact Fin.ext h1.symm
    · rintro rfl
      funext c
      match c with
      | ⟨0, _⟩ => exact Fin.ext h0
      | ⟨1, _⟩ => exact Fin.ext h1
  rw [e, Finset.sum_singleton]

theorem sum03 (h : S1x2048x16x1.ReducesTo [0, 3] S2048x16) (x : S1x2048x16x1.Idx → EReal) (z : EReal) (a : Fin 2048) (b : Fin 16) :
    Ideal.hostReduceAdd h x z (ix2 a b) = z + x (ix4 0 a b 0) := by
  unfold Ideal.hostReduceAdd
  have e : Finset.univ.filter (fun i => h.drop i = ix2 a b) = {ix4 0 a b 0} := by
    ext i
    have h0 : (h.drop i 0 : Nat) = i 1 := Shape.ReducesTo.drop_apply_val h i 0
    have h1 : (h.drop i 1 : Nat) = i 2 := Shape.ReducesTo.drop_apply_val h i 1
    simp only [Finset.mem_filter, Finset.mem_univ, true_and, Finset.mem_singleton]
    constructor
    · intro e
      rw [e] at h0 h1
      funext c
      match c with
      | ⟨0, _⟩ => exact Subsingleton.elim (α := Fin 1) _ _
      | ⟨1, _⟩ => exact Fin.ext h0.symm
      | ⟨2, _⟩ => exact Fin.ext h1.symm
      | ⟨3, _⟩ => exact Subsingleton.elim (α := Fin 1) _ _
    · rintro rfl
      funext c
      match c with
      | ⟨0, _⟩ => exact Fin.ext h0
      | ⟨1, _⟩ => exact Fin.ext h1
  rw [e, Finset.sum_singleton]

theorem at8 (t : Fin 2048) (k : Fin 4224) : val_main_v8 (F := Ideal) X M (ix3 0 t k) = feat X M t k := by
  pointwise [val_main_v8, val_main_v7, val_main_v6, val_main_v5, val_main_v4, val_main_v3, val_main_v2, val_main_call0_v0, val_main_c, val_main_v1, val_main_v0]
  unfold feat before
  by_cases h : t.val = 0
  · rw [if_pos h, dif_neg (by omega)]
    rw [show (FloatOps.sitofp .f32 0#32 : Ideal .f32) = 0 by simp [FloatOps.sitofp]]
  · rw [if_neg h, dif_pos (by omega)]

theorem at50 (t : Fin 2048) (j : Fin 1024) : val_main_v50 (F := Ideal) X M (ix3 0 t j)
    = feat X M t ⟨3072 + j.val, by omega⟩ * Ideal.logistic (feat X M t ⟨3072 + j.val, by omega⟩) := by
  have e := at8 X M t ⟨3072 + j.val, by omega⟩
  generalize hw : val_main_v8 (F := Ideal) X M = w at e
  pointwise [val_main_v50, val_main_call1_v5, val_main_call1_v4, val_main_call1_cst_0, val_main_call1_v3, val_main_call1_v2, val_main_call1_cst, val_main_call1_v1, val_main_call1_v0, val_main_v12]
  rw [hw, e]
  rfl

theorem at54 (t : Fin 2048) (j : Fin 1024) : val_main_v54 (F := Ideal) X M G (ix3 0 t j) = gated X M G t j := by
  have e := at50 X M t j
  generalize hw : val_main_v50 (F := Ideal) X M = w at e
  pointwise [val_main_v54, val_main_v53, val_main_v52]
  rw [hw, e]
  rfl

theorem at24 (t : Fin 2048) (j : Fin 1024) : val_main_v24 (F := Ideal) X M A U (ix3 0 t j) = rate X M A U t j := by
  have e := fun x : Fin 64 => at8 X M t ⟨4160 + x.val, by omega⟩
  generalize hw : val_main_v8 (F := Ideal) X M = w at e
  pointwise [val_main_v24, val_main_v23, val_main_cst_0, val_main_v22, val_main_v21, val_main_cst, val_main_v20, val_main_v19, val_main_v18, val_main_v17, val_main_v16, val_main_v15, val_main_v14]
  rw [hw]
  simp only [e]
  rfl

theorem at32 (t : Fin 2048) (j : Fin 1024) : val_main_v32 (F := Ideal) X M A U K (ix3 0 t j) = key X M A U K t j := by
  have e := at8 X M t ⟨1024 + j.val, by omega⟩
  have e2 := at24 X M A U t j
  generalize hw : val_main_v8 (F := Ideal) X M = w at e
  generalize hu : val_main_v24 (F := Ideal) X M A U = u at e2
  pointwise [val_main_v32, val_main_v10, val_main_v31, val_main_v30, val_main_cst_2, val_main_v29, val_main_v28, val_main_v27, val_main_v26, val_main_v25, val_main_cst_1]
  rw [hw, hu, e, e2]
  rfl

/-- A column of a row of heads. -/
abbrev col (a : Fin 16) (b : Fin 64) : Fin 1024 := ⟨a.val * 64 + b.val, by omega⟩

theorem at55 (t : Fin 2048) (a : Fin 16) (b : Fin 64) : val_main_v55 (F := Ideal) X M G (ix4 0 t a b) = gated X M G t (col a b) := by
  have e := at54 X M G t (col a b)
  generalize hw : val_main_v54 (F := Ideal) X M G = w at e
  pointwise [val_main_v55]
  rw [hw, ← e]
  blk_ext []

theorem at58 (a : Fin 16) (b : Fin 64) : val_main_v58 (F := Ideal) X M G (ix2 a b) = ∑ t : Fin 2048, gated X M G t (col a b) := by
  have e := fun t => at55 X M G t a b
  generalize hw : val_main_v55 (F := Ideal) X M G = w at e
  unfold val_main_v58
  refine (sum01 _ _ _ a b).trans ?_
  pointwise [val_main_v57, val_main_v56, val_main_cst_4, val_main_cst_5]
  rw [hw]
  simp only [e]

theorem at62 (t : Fin 2048) (a : Fin 16) : val_main_v62 (F := Ideal) X M G (ix2 t a)
    = ∑ b : Fin 64, gated X M G t (col a b) * feat X M t ⟨2048 + (col a b).val, by omega⟩ := by
  have e := fun b => at55 X M G t a b
  have e8 := fun b : Fin 64 => at8 X M t ⟨2048 + (col a b).val, by omega⟩
  generalize hw : val_main_v55 (F := Ideal) X M G = w at e
  generalize h8 : val_main_v8 (F := Ideal) X M = u at e8
  unfold val_main_v62
  refine (sum03 _ _ _ t a).trans ?_
  pointwise [val_main_v61, val_main_v60, val_main_v59, val_main_v35, val_main_v11, val_main_cst_6, val_main_cst_7]
  rw [hw, h8]
  exact Finset.sum_congr rfl fun b _ => by rw [e b]; exact congrArg _ (e8 b)

theorem at68 (a : Fin 16) (b : Fin 64) : val_main_v68 (F := Ideal) X M A U K G (ix2 a b)
    = ∑ t : Fin 2048, bonus X M A U K G t (col a b) := by
  have e := fun t => at62 X M G t a
  have e8 := fun t : Fin 2048 => at8 X M t ⟨(col a b).val, by omega⟩
  have e3 := fun t : Fin 2048 => at32 X M A U K t (col a b)
  generalize hw : val_main_v62 (F := Ideal) X M G = w at e
  generalize h8 : val_main_v8 (F := Ideal) X M = u at e8
  generalize h3 : val_main_v32 (F := Ideal) X M A U K = v at e3
  unfold val_main_v68
  refine (sum01 _ _ _ a b).trans ?_
  pointwise [val_main_v67, val_main_v66, val_main_v65, val_main_v64, val_main_v63, val_main_v37, val_main_v33, val_main_v34, val_main_v9, val_main_cst_8, val_main_cst_9]
  rw [hw, h8, h3]
  refine Finset.sum_congr rfl fun t _ => ?_
  rw [e t]
  refine congrArg₂ (· * ·) (congrArg₂ (· * ·) (e8 t) (e3 t)) ?_
  refine Finset.sum_congr rfl fun x _ => ?_
  have d : (col a b).val / 64 = a.val := by show (a.val * 64 + b.val) / 64 = a.val; omega
  refine congrArg₂ (· * ·) (congrArg (gated X M G t) (Fin.ext ?_)) (congrArg (feat X M t) (Fin.ext ?_))
  · show a.val * 64 + x.val = (col a b).val / 64 * 64 + x.val; rw [d]
  · show 2048 + (a.val * 64 + x.val) = 2048 + ((col a b).val / 64 * 64 + x.val); rw [d]

theorem at84_4 (p : Fin 8) (l : Fin 128) : val_main_v84 (F := Ideal) X M A U K G (ix3 p 4 l)
    = ∑ t : Fin 2048, gated X M G t ⟨128 * p.val + l.val, by omega⟩ := by
  have e := at58 X M G
  generalize hw : val_main_v58 (F := Ideal) X M G = w at e
  pointwise [val_main_v84, val_main_v83, val_main_v82, val_main_v78, val_main_v70]
  rw [hw, e]
  refine Finset.sum_congr rfl fun t _ => congrArg (gated X M G t) (Fin.ext ?_)
  show (p.val * 128 + l.val) / 64 * 64 + (p.val * 128 + l.val) % 64 = 128 * p.val + l.val
  omega

theorem at84_2 (p : Fin 8) (l : Fin 128) : val_main_v84 (F := Ideal) X M A U K G (ix3 p 2 l)
    = ∑ t : Fin 2048, bonus X M A U K G t ⟨128 * p.val + l.val, by omega⟩ := by
  have e := at68 X M A U K G
  generalize hw : val_main_v68 (F := Ideal) X M A U K G = w at e
  pointwise [val_main_v84, val_main_v83, val_main_v82, val_main_v76, val_main_v69]
  rw [hw, e]
  refine Finset.sum_congr rfl fun t _ => congrArg (bonus X M A U K G t) (Fin.ext ?_)
  show (p.val * 128 + l.val) / 64 * 64 + (p.val * 128 + l.val) % 64 = 128 * p.val + l.val
  omega

end Cert.Proof.Rwkv.Ref
end
-- ==== Proof.Rwkv.lean ====
/-
  Rows 2 and 4 of the parameter gradients of the RWKV-7 branch: what the backward call leaves in them is what the reference gives, the
  gradient of the bonus weight and the gradient of the group norm's offset.
-/
module

public import proofs.«01_k».proof.Defs
public import proofs.«01_k».proof.Proof.RwkvSum
public import proofs.«01_k».proof.Proof.RwkvRef
public import proofs.«01_k».proof.Proof.Gen.ReferenceIdeal.Run
public import Idealize.ShloMosaic.Lib.Pipeline.ValueKit
public import Idealize.ShloMosaic.Lib.Claim

@[expose] public section

set_option maxRecDepth 16384

noncomputable section

namespace Cert.Proof.Rwkv

open Idealize.ShloMosaic Idealize.ShloMosaic.TcCoe Idealize.SL.Sem
open Idealize.ShloMosaic.Pipeline (Dat)
open Cert.KernelIdeal Cert.KernelIdeal.Gen

section
variable {F : FTy → Type} [FloatOps F]
variable (m : (ℓ : Loc nD τ sig) → Buf (Elt F) ℓ) (ρ : Dev nD → PrngReg)

theorem post17 (r : PUnit × MemSt nD τ sig (Elt F)) (h : Pipeline.FramePost cfgs (dats m) 0 (V m) r) (c : Dev nD) :
    r.2.mem ((c : Thread nD τ).loc main_v16_6) = (dats m 0 c).arrAt 17 cfg0.N :=
  (h c).1 17

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 8).trans (((dats m 0 c).arrAt_in 8 rfl _).trans ((A_eq m c 8).trans (V_main_arg11 m c)))

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 9).trans (((dats m 0 c).arrAt_in 9 rfl _).trans ((A_eq m c 9).trans (V_main_arg12 m c)))

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 10).trans (((dats m 0 c).arrAt_in 10 rfl _).trans ((A_eq m c 10).trans (V_main_arg13 m c)))

end

variable (m : (ℓ : Loc nD τ sig) → Buf (Elt Ideal) ℓ) (ρ : Dev nD → PrngReg) (c : Dev nD)

theorem idx17 : ∀ t : Fin cfg0.N, win0_17.index t = ![0, 0, 0] := by decide +kernel

/-- What the last result holds after the run: what the last point leaves. -/
theorem final17 : (dats m 0 c).arrAt 17 cfg0.N = fun i => (outsAt0 m c 31 last_lt).2.2.2.2.2.2.1 i := by
  refine (dats m 0 c).arrAt_eq_of_covers 17 _ (by decide +kernel) fun t hf x => ?_
  have h : t.val % 32 = 31 := (flush0_17 t).mp hf
  have ht : t = ⟨31, last_lt⟩ := Fin.ext (by have := lt32 t; show t.val = 31; omega)
  obtain ⟨a, b, d, rfl⟩ : ∃ a b d, x = ix3 a b d := ⟨_, _, _, eq_ix3 x⟩
  rw [after0_17, show ((cfg0.win 17).blk t).view.emb (ix3 a b d) = ix3 a b d by blk_ext [idx17 t]]
  subst ht
  dsimp only
  generalize outsAt0 m c 31 last_lt = o
  rfl

theorem maskRow (b : Fin 8) : (IntOp.ori (IntOp.cmpi .eq (BitVec.ofNat 32 b.val) 2#32) (IntOp.cmpi .eq (BitVec.ofNat 32 b.val) 4#32) = 1#1) ↔ (b.val = 2 ∨ b.val = 4) := by
  revert b; decide +kernel

abbrev refOf : FVec Ideal S8x8x128 .f32 :=
  Cert.ReferenceIdeal.Read.val_main_v84 (F := Ideal) (argX m c) (argM m c) (argA m c) (argU m c) (argK m c) (argG m c)

theorem rows (a : Fin 8) (b : Fin 8) (d : Fin 128) (h : b.val = 2 ∨ b.val = 4) :
    (dats m 0 c).arrAt 17 cfg0.N (ix3 a b d) = refOf m c (ix3 a b d) := by
  rw [final17]
  rcases h with h | h
  · obtain rfl : b = 2 := Fin.ext h
    exact (last2 m c a d).trans (Ref.at84_2 _ _ _ _ _ _ a d).symm
  · obtain rfl : b = 4 := Fin.ext h
    exact (last4 m c a d).trans (Ref.at84_4 _ _ _ _ _ _ a d).symm

/-- The mask's one side condition: a number spread over an array. -/
theorem maskFacts : Cert.On_rows_claimed.Facts := ⟨by decide⟩

end Cert.Proof.Rwkv

namespace Cert.Proof

open Idealize.ShloMosaic Idealize.SL.Sem

theorem algebraicRwkv : Cert.algebraic_KernelIdeal_ReferenceIdeal_on_rows_claimed (hKernelIdeal := Cert.KernelIdeal.Gen.facts)
    (hReferenceIdeal := Cert.ReferenceIdeal.Gen.facts) (hOn_rows_claimed := Rwkv.maskFacts) := by
  intro m g m' g' _ ha
  refine ⟨fun c => Rwkv.refOf m c, ?_, ?_⟩
  · refine (θ_run Cert.KernelIdeal.defs _ _).mono (fun r h c => ⟨fun i hi => ?_, ?_⟩) (Cert.KernelIdeal.Gen.run_main m g)
    · obtain ⟨a, b, d, rfl⟩ : ∃ a b d, i = ix3 a b d := ⟨_, _, _, eq_ix3 i⟩
      exact (congrFun (Rwkv.post17 m r h c) _).trans (Rwkv.rows m c a b d ((Rwkv.maskRow b).mp hi))
    · exact ⟨Rwkv.kept_main_arg0 m r h c, Rwkv.kept_main_arg1 m r h c, Rwkv.kept_main_arg2 m r h c, Rwkv.kept_main_arg3 m r h c, Rwkv.kept_main_arg4 m r h c, Rwkv.kept_main_arg5 m r h c, Rwkv.kept_main_arg6 m r h c, Rwkv.kept_main_arg7 m r h c, Rwkv.kept_main_arg8 m r h c, Rwkv.kept_main_arg9 m r h c, Rwkv.kept_main_arg10 m r h c, Rwkv.kept_main_arg11 m r h c, Rwkv.kept_main_arg12 m r h c, Rwkv.kept_main_arg13 m r h c⟩
  · refine (θ_run Cert.ReferenceIdeal.defs _ _).mono (fun r h c => ?_) (Cert.ReferenceIdeal.Value.run m' g')
    obtain ⟨h0, rest⟩ := h c
    obtain ⟨a0, a1, a2, a3, a4, a5, a6, a7, a8, a9, a10, a11, a12, a13⟩ := ha c
    exact ⟨fun i _ => congrFun (h0.trans ((Cert.ReferenceIdeal.Read.val_main_v84_eq m' c).trans (by rw [a0, a1, a4, a5, a7, a12]))) i, rest⟩

end Cert.Proof
end
-- ==== Proof.Dwin.lean ====
/-
  The gradient of the input product's weight, `dprojᵀ · h`: after the run the result array is the reference's product.
-/
module

public import proofs.«01_k».proof.Defs
public import proofs.«01_k».proof.Proof.Gen.DwinIdeal.Frame
public import proofs.«01_k».proof.Proof.Gen.DwinRefIdeal.Run
public import Idealize.ShloMosaic.Lib.Pipeline.ValueKit
public import Idealize.ShloMosaic.Lib.Claim

@[expose] public section

set_option maxRecDepth 16384

noncomputable section

namespace Cert.Proof.Dwin

open Idealize.ShloMosaic Idealize.ShloMosaic.TcCoe Idealize.SL.Sem
open Idealize.ShloMosaic.Pipeline (Dat)
open Cert.DwinIdeal Cert.DwinIdeal.Gen

variable (m : (ℓ : Loc nD τ sig) → Buf (Elt Ideal) ℓ)

/-- The reference's result as a function of the two arguments. -/
abbrev REF (X : FVec Ideal ⟨2, ![2048, 8320]⟩ .bf16) (W : FVec Ideal ⟨2, ![2048, 2048]⟩ .bf16) : FVec Ideal ⟨2, ![8320, 2048]⟩ .bf16 :=
  truncf .bf16 (transpose ⟨2, ![8320, 2048]⟩ [1, 0] (transpose ⟨2, ![2048, 8320]⟩ [1, 0] (Host.dotGeneral Cert.DwinRefIdeal.dot_S2048x8320_S2048x2048_S8320x2048_0_0_1_1_n_n none (extf .f32 X Cert.DwinRefIdeal.Gen.bitsLt_bf16_f32) (extf .f32 W Cert.DwinRefIdeal.Gen.bitsLt_bf16_f32)) Cert.DwinRefIdeal.Gen.transposes_S8320x2048_S2048x8320_1_0) Cert.DwinRefIdeal.Gen.transposes_S2048x8320_S8320x2048_1_0) Cert.DwinRefIdeal.Gen.bitsLt_bf16_f32

/-- Which block each window holds at each grid point. -/
theorem idx : ∀ t : Fin cfg0.N, win0_0.index t = ![0, t.val] ∧ win0_1.index t = ![0, 0] ∧ win0_2.index t = ![t.val, 0] :=
  (by decide +kernel : ∀ t : Fin grid0.N, _)

/-- The block written at a grid point is the reference's result there. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.Dwin

namespace Cert.Proof

open Idealize.ShloMosaic Idealize.SL.Sem

theorem algebraicDwin : Cert.algebraic_DwinIdeal_DwinRefIdeal (hDwinIdeal := Cert.DwinIdeal.Gen.facts) (hDwinRefIdeal := Cert.DwinRefIdeal.Gen.facts) := by
  pair_intro
  · run_from Cert.DwinIdeal.Gen.run_main m g
  · run_from Cert.DwinRefIdeal.Value.run m' g'
    exact (Cert.Proof.Dwin.final m _).symm

end Cert.Proof

end
-- ==== Proof.SumSmall.lean ====
/-
  The sum of the eight devices' packed gradients, after they were gathered: the result array is the sum over the first axis.
-/
module

public import proofs.«01_k».proof.Defs
public import proofs.«01_k».proof.Proof.Gen.SumSmallIdeal.Frame
public import proofs.«01_k».proof.Proof.Gen.SumSmallRefIdeal.Run
public import proofs.«01_k».proof.Proof.Gen.SumSmallRefIdeal.Read
public import Idealize.ShloMosaic.Lib.Pipeline.ValueKit
public import Idealize.ShloMosaic.Lib.Claim

@[expose] public section

set_option maxRecDepth 16384

noncomputable section

namespace Cert.Proof.SumSmall

open Idealize.ShloMosaic Idealize.ShloMosaic.TcCoe Idealize.SL.Sem
open Idealize.ShloMosaic.Pipeline (Dat)
open Cert.SumSmallIdeal Cert.SumSmallIdeal.Gen

variable (m : (ℓ : Loc nD τ sig) → Buf (Elt Ideal) ℓ)

/-- The gathered parts. -/
abbrev arg (c : Dev nD) : FVec Ideal ⟨3, ![8, 288, 128]⟩ .f32 := m ((c : Thread nD τ).loc main_arg0)

/-- Which block each window holds at each grid point. -/
theorem idx : ∀ t : Fin cfg0.N, win0_0.index t = ![0, t.val, 0] ∧ win0_1.index t = ![t.val, 0] :=
  (by decide +kernel : ∀ t : Fin grid0.N, _)

theorem lt (t : Fin cfg0.N) (r : Fin 32) : t.val * 32 + r.val < 288 := by
  have h : t.val < 9 := t.isLt
  omega

/-- The array's row that a tile's row is. -/
abbrev at_ (t : Fin cfg0.N) (r : Fin 32) : Fin 288 := ⟨t.val * 32 + r.val, lt t r⟩

/-- What the body makes of eight slices. -/
theorem pay (X0 X1 X2 X3 X4 X5 X6 X7 : FVec Ideal ⟨3, ![1, 32, 128]⟩ .f32) (r : Fin 32) (j : Fin 128) :
    k0_pay1 (F := Ideal) X0 X1 X2 X3 X4 X5 X6 X7 (ix2 r j)
      = X0 (ix3 0 r j) + X1 (ix3 0 r j) + X2 (ix3 0 r j) + X3 (ix3 0 r j) + X4 (ix3 0 r j) + X5 (ix3 0 r j) + X6 (ix3 0 r j) + X7 (ix3 0 r j) := by
  pointwise [k0_pay1]

/-- What the reference computes. -/
theorem ref (A : FVec Ideal ⟨3, ![8, 288, 128]⟩ .f32) (r : Fin 288) (j : Fin 128) :
    Cert.SumSmallRefIdeal.Read.val_main_v0 (F := Ideal) A (ix2 r j)
      = A (ix3 0 r j) + A (ix3 1 r j) + A (ix3 2 r j) + A (ix3 3 r j) + A (ix3 4 r j) + A (ix3 5 r j) + A (ix3 6 r j) + A (ix3 7 r j) := by
  pointwise [Cert.SumSmallRefIdeal.Read.val_main_v0, Cert.SumSmallRefIdeal.Read.val_main_cst]
  rw [Fin.sum_univ_eight]

/-- A block's entry is the gathered array's. -/
theorem read (c : Dev nD) (t : Fin cfg0.N) (q : Fin 8) (r : Fin 32) (j : Fin 128) :
    (iblk m c 0 t : FVec Ideal ⟨3, ![8, 32, 128]⟩ .f32) (ix3 q r j) = arg m c (ix3 q (at_ t r) j) := by
  blk_ext [iblk, V, idx t]

/-- The result array after the run. -/
theorem final (c : Dev nD) : (dats m 0 c).arrAt 1 (cfgs 0).N = Cert.SumSmallRefIdeal.Read.val_main_v0 (F := Ideal) (arg m c) := by
  refine (dats m 0 c).arrAt_eq_of_covers 1 _ (by decide +kernel) fun t _ x => ?_
  obtain ⟨r, j, rfl⟩ : ∃ r j, x = ix2 r j := ⟨_, _, eq_ix2 x⟩
  rw [show ((cfg0.win 1).blk t).view.emb (ix2 r j) = ix2 (at_ t r) j by blk_ext [idx t], ref, after0_1]; frame_out
  refine (pay _ _ _ _ _ _ _ _ r j).trans ?_
  rw [show View.ld (iblk m c 0 t) r0_0 (ix3 0 r j) = arg m c (ix3 0 (at_ t r) j) from (congrArg (iblk m c 0 t) (show r0_0.idx (ix3 0 r j) = ix3 0 r j by funext a; apply Fin.ext; fin_cases a <;> simp [r0_0, Rect.idx_unit_val])).trans (read m c t 0 r j),
    show View.ld (iblk m c 0 t) r0_1 (ix3 0 r j) = arg m c (ix3 1 (at_ t r) j) from (congrArg (iblk m c 0 t) (show r0_1.idx (ix3 0 r j) = ix3 1 r j by funext a; apply Fin.ext; fin_cases a <;> simp [r0_1, Rect.idx_unit_val])).trans (read m c t 1 r j),
    show View.ld (iblk m c 0 t) r0_2 (ix3 0 r j) = arg m c (ix3 2 (at_ t r) j) from (congrArg (iblk m c 0 t) (show r0_2.idx (ix3 0 r j) = ix3 2 r j by funext a; apply Fin.ext; fin_cases a <;> simp [r0_2, Rect.idx_unit_val])).trans (read m c t 2 r j),
    show View.ld (iblk m c 0 t) r0_3 (ix3 0 r j) = arg m c (ix3 3 (at_ t r) j) from (congrArg (iblk m c 0 t) (show r0_3.idx (ix3 0 r j) = ix3 3 r j by funext a; apply Fin.ext; fin_cases a <;> simp [r0_3, Rect.idx_unit_val])).trans (read m c t 3 r j),
    show View.ld (iblk m c 0 t) r0_4 (ix3 0 r j) = arg m c (ix3 4 (at_ t r) j) from (congrArg (iblk m c 0 t) (show r0_4.idx (ix3 0 r j) = ix3 4 r j by funext a; apply Fin.ext; fin_cases a <;> simp [r0_4, Rect.idx_unit_val])).trans (read m c t 4 r j),
    show View.ld (iblk m c 0 t) r0_5 (ix3 0 r j) = arg m c (ix3 5 (at_ t r) j) from (congrArg (iblk m c 0 t) (show r0_5.idx (ix3 0 r j) = ix3 5 r j by funext a; apply Fin.ext; fin_cases a <;> simp [r0_5, Rect.idx_unit_val])).trans (read m c t 5 r j),
    show View.ld (iblk m c 0 t) r0_6 (ix3 0 r j) = arg m c (ix3 6 (at_ t r) j) from (congrArg (iblk m c 0 t) (show r0_6.idx (ix3 0 r j) = ix3 6 r j by funext a; apply Fin.ext; fin_cases a <;> simp [r0_6, Rect.idx_unit_val])).trans (read m c t 6 r j),
    show View.ld (iblk m c 0 t) r0_7 (ix3 0 r j) = arg m c (ix3 7 (at_ t r) j) from (congrArg (iblk m c 0 t) (show r0_7.idx (ix3 0 r j) = ix3 7 r j by funext a; apply Fin.ext; fin_cases a <;> simp [r0_7, Rect.idx_unit_val])).trans (read m c t 7 r j)]

end Cert.Proof.SumSmall

namespace Cert.Proof

open Idealize.ShloMosaic Idealize.SL.Sem

theorem algebraicSumSmall : Cert.algebraic_SumSmallIdeal_SumSmallRefIdeal (hSumSmallIdeal := Cert.SumSmallIdeal.Gen.facts) (hSumSmallRefIdeal := Cert.SumSmallRefIdeal.Gen.facts) := by
  pair_intro
  · run_from Cert.SumSmallIdeal.Gen.run_main m g
  · run_from Cert.SumSmallRefIdeal.Value.run m' g'
    exact (Cert.Proof.SumSmall.final m _).symm

end Cert.Proof

end
-- ==== Proof.SibPackFirst.lean ====
/-
  The sum of the first layer's packed small gradients with the sibling place: of every pair of parts this place's own half, and the part that arrived.
-/
module

public import proofs.«01_k».proof.Defs
public import proofs.«01_k».proof.Proof.SibPackFirstIdealOk
public import proofs.«01_k».proof.Proof.Gen.SibPackFirstIdeal.Frame
public import proofs.«01_k».proof.Proof.Gen.SibPackFirstRefIdeal.Run
public import proofs.«01_k».proof.Proof.Gen.SibPackFirstRefIdeal.Read
public import Idealize.ShloMosaic.Lib.Pipeline.ValueKit
public import Idealize.ShloMosaic.Lib.Claim

@[expose] public section

set_option maxRecDepth 16384

noncomputable section

namespace Cert.Proof.SibPackFirst

open Idealize.ShloMosaic Idealize.ShloMosaic.TcCoe Idealize.SL.Sem
open Idealize.ShloMosaic.Pipeline (Dat)
open Cert.SibPackFirstIdeal Cert.SibPackFirstIdeal.Gen

variable (m : (ℓ : Loc nD τ sig) → Buf (Elt Ideal) ℓ)

/-- This place's rows: four pairs of parts. -/
abbrev own (c : Dev nD) : FVec Ideal ⟨2, ![1024, 128]⟩ .bf16 := m ((c : Thread nD τ).loc main_arg0)

/-- The four parts that came from the sibling place. -/
abbrev got (c : Dev nD) : FVec Ideal ⟨3, ![4, 128, 128]⟩ .bf16 := m ((c : Thread nD τ).loc main_arg1)

/-- The pipeline, its table read. -/
abbrev hO : Ok m := Cert.Proof.SibPackFirstIdealOk.ok m
abbrev cf : Pipeline.Cfg sig Λ₀ := cfgM m (hO m)

/-- The coordinates of a grid point. -/
theorem coords : ∀ t : Fin grid0.N, (grid0.coords t 0).val = t.val / 1 ∧ (grid0.coords t 1).val = t.val % 1 := by decide +kernel

/-- Which block each window holds at each grid point. -/
theorem idx0 (t : Fin (cf m).N) : ((cf m).win 0).index t = ![t.val / 1, 0, t.val % 1, 0] := by
  show cc0_transform_0 Facts₀.inb_S1_S1_0 Facts₀.numel1_S1 (tbl m) (grid0.coords t) = _
  rw [Cert.Proof.SibPackFirstIdealOk.tblZero, Cert.Proof.SibPackFirstIdealOk.at0, (coords t).1, (coords t).2]

theorem tr1 : ∀ t : Fin grid0.N, cc0_transform_1 (grid0.coords t) = ![t.val / 1, t.val % 1, 0] := by decide +kernel

theorem tr2 : ∀ t : Fin grid0.N, cc0_transform_2 (grid0.coords t) = ![t.val, 0] := by decide +kernel

theorem idx1 (t : Fin (cf m).N) : ((cf m).win 1).index t = ![t.val / 1, t.val % 1, 0] := tr1 t

theorem idx2 (t : Fin (cf m).N) : ((cf m).win 2).index t = ![t.val, 0] := tr2 t

theorem lt (t : Fin (cf m).N) : t.val < 4 := t.isLt

/-- The part, the row of it, and the row of the result, that a tile's row is. -/
abbrev q_ (t : Fin (cf m).N) : Fin 4 := ⟨t.val / 1, by have := lt m t; omega⟩
abbrev at_ (t : Fin (cf m).N) (r : Fin 128) : Fin 128 := ⟨t.val % 1 * 128 + r.val, by omega⟩
abbrev to_ (t : Fin (cf m).N) (r : Fin 128) : Fin 512 := ⟨t.val * 128 + r.val, by have := lt m t; omega⟩

/-- A row of the first part of a pair, among all rows. -/
abbrev up (q : Fin 4) (r : Fin 128) : Fin 1024 := ⟨q.val * 256 + r.val, by omega⟩

/-- What the body makes of its slices. -/
theorem pay (X : FVec Ideal ⟨4, ![1, 1, 128, 128]⟩ .bf16) (Y : FVec Ideal ⟨3, ![1, 128, 128]⟩ .bf16) (r : Fin 128) (j : Fin 128) :
    k0_pay1 (F := Ideal) X Y (ix2 r j) = X (ix4 0 0 r j) + Y (ix3 0 r j) := by
  pointwise [k0_pay1]

open Cert.SibPackFirstRefIdeal.Read in
/-- What the reference computes. -/
theorem ref (G : FVec Ideal ⟨2, ![1024, 128]⟩ .bf16) (R : FVec Ideal ⟨3, ![4, 128, 128]⟩ .bf16) (k : Fin 512) (j : Fin 128) :
    Cert.SibPackFirstRefIdeal.Read.val_main_v7 (F := Ideal) G R (ix2 k j)
      = G (ix2 (up ⟨k.val / 128, by omega⟩ ⟨k.val % 128, by omega⟩) j) + R (ix3 ⟨k.val / 128, by omega⟩ ⟨k.val % 128, by omega⟩ j) := by
  pointwise [val_main_v0, val_main_v1, val_main_v2, val_main_v3, val_main_v4, val_main_v5, val_main_v6, val_main_v7]

/-- The rows after they were split in parts. -/
theorem split (c : Dev nD) (q : Fin 4) (r : Fin 128) (j : Fin 128) : (V m c main_v2 : FVec Ideal ⟨4, ![4, 2, 128, 128]⟩ .bf16) (ix4 q 0 r j) = own m c (ix2 (up q r) j) := by
  entry_read
  pointwise

theorem readOwn (c : Dev nD) (t : Fin (cf m).N) (r : Fin 128) (j : Fin 128) :
    (iblk m (hO m) c 0 t : FVec Ideal ⟨4, ![1, 1, 128, 128]⟩ .bf16) (ix4 0 0 r j) = own m c (ix2 (up (q_ m t) (at_ m t r)) j) := by
  refine Eq.trans ?_ (split m c (q_ m t) (at_ m t r) j)
  blk_ext [iblk, idx0 m t]

theorem readGot (c : Dev nD) (t : Fin (cf m).N) (r : Fin 128) (j : Fin 128) :
    (iblk m (hO m) c 1 t : FVec Ideal ⟨3, ![1, 128, 128]⟩ .bf16) (ix3 0 r j) = got m c (ix3 (q_ m t) (at_ m t r) j) := by
  blk_ext [iblk, V, idx1 m t]

/-- Every block of the result is written. -/
theorem covers : ((cf m).win 2).Covers := by
  have key : ∀ a : (pcfg0 (F := Ideal)).Adm, a = ⟨Cert.Proof.SibPackFirstIdealOk.zeros, Cert.Proof.SibPackFirstIdealOk.okZeros⟩ → ((cfg0 a).win 2).Covers := by
    rintro _ rfl
    decide +kernel
  exact key _ (Subtype.ext (Cert.Proof.SibPackFirstIdealOk.tblZero m))

/-- What a grid point leaves of its tile. -/
theorem out (c : Dev nD) (t : Fin (cf m).N) (r : Fin 128) (j : Fin 128) :
    (outsAt0 m (hO m) c t : FVec Ideal ⟨2, ![128, 128]⟩ .bf16) (ix2 r j) = own m c (ix2 (up (q_ m t) (at_ m t r)) j) + got m c (ix3 (q_ m t) (at_ m t r) j) := by
  unfold outsAt0
  frame_out
  refine (pay _ _ r j).trans ?_
  exact congrArg₂ (fun a b : EReal => a + b) ((congrFun ((hs0_0 m (hO m) t).read_unread (Val := Elt Ideal) (iblk m (hO m) c 0 t)) (ix4 0 0 r j)).trans (readOwn m c t r j))
    ((congrFun ((hs0_1 m (hO m) t).read_unread (Val := Elt Ideal) (iblk m (hO m) c 1 t)) (ix3 0 r j)).trans (readGot m c t r j))

/-- Where a tile's element lies in the result. -/
theorem dest (t : Fin (cf m).N) (r : Fin 128) (j : Fin 128) : (((cf m).win 2).blk t).view.emb (ix2 r j) = ix2 (to_ m t r) j := by
  blk_ext [idx2 m t]

theorem place (t : Fin (cf m).N) (r : Fin 128) : (to_ m t r).val / 128 = (q_ m t).val ∧ (to_ m t r).val % 128 = (at_ m t r).val := by
  have h := lt m t
  have h' := r.isLt
  show (t.val * 128 + r.val) / 128 = t.val / 1 ∧ (t.val * 128 + r.val) % 128 = t.val % 1 * 128 + r.val
  omega

theorem want (c : Dev nD) (t : Fin (cf m).N) (r : Fin 128) (j : Fin 128) :
    Cert.SibPackFirstRefIdeal.Read.val_main_v7 (F := Ideal) (own m c) (got m c) (ix2 (to_ m t r) j) = own m c (ix2 (up (q_ m t) (at_ m t r)) j) + got m c (ix3 (q_ m t) (at_ m t r) j) := by
  rw [ref, show (⟨(to_ m t r).val / 128, by omega⟩ : Fin 4) = q_ m t from Fin.ext (place m t r).1, show (⟨(to_ m t r).val % 128, by omega⟩ : Fin 128) = at_ m t r from Fin.ext (place m t r).2]

theorem pt (c : Dev nD) (t : Fin (cf m).N) (x : (⟨2, ![128, 128]⟩ : Shape).Idx) :
    (outsAt0 m (hO m) c t : FVec Ideal ⟨2, ![128, 128]⟩ .bf16) x = Cert.SibPackFirstRefIdeal.Read.val_main_v7 (F := Ideal) (own m c) (got m c) ((((cf m).win 2).blk t).view.emb x) := by
  obtain ⟨r, j, rfl⟩ : ∃ r j, x = ix2 r j := ⟨x 0, x 1, eq_ix2 x⟩
  rw [out, dest, want]

set_option maxHeartbeats 4000000 in
/-- The result array after the run. -/
theorem final (c : Dev nD) : (dats m (hO m) 0 c).arrAt 2 (cf m).N = Cert.SibPackFirstRefIdeal.Read.val_main_v7 (F := Ideal) (own m c) (got m c) := by
  refine (dats m (hO m) 0 c).arrAt_eq_of_covers 2 _ (covers m) ?_
  intro t ht x
  exact pt m c t x

/-- The run, its result read. -/
theorem ends (g : Dev nD → PrngReg) : θ_run defs (onTc (τ := τ) (main (F := Ideal))) ⟨m, fun _ => 0, g⟩ (fun r => ∀ c : Dev nD,
      r.2.mem ((c : Thread nD τ).loc main_v3) = Cert.SibPackFirstRefIdeal.Read.val_main_v7 (F := Ideal) (own m c) (got m c)) :=
  (θ_run defs _ _).mono (fun _ h c => ((h c).1 2).trans (final m c)) (run_main m g (hO m))

end Cert.Proof.SibPackFirst

namespace Cert.Proof

open Idealize.ShloMosaic Idealize.SL.Sem

theorem algebraicSibPackFirst : Cert.algebraic_SibPackFirstIdeal_SibPackFirstRefIdeal (hSibPackFirstIdeal := Cert.SibPackFirstIdeal.Gen.facts) (hSibPackFirstRefIdeal := Cert.SibPackFirstRefIdeal.Gen.facts) := by
  pair_intro
  · run_from Cert.Proof.SibPackFirst.ends m g & Cert.SibPackFirstIdeal.Gen.unchanged m g (Cert.Proof.SibPackFirstIdealOk.ok m)
  · run_from Cert.SibPackFirstRefIdeal.Value.run m' g'
    rfl

end Cert.Proof

end
-- ==== Proof.AdamWin.lean ====
/-
  The optimiser on the input weight, the rows of the layers one below the other: after the run the three result arrays are the
  reference's.
-/
module

public import proofs.«01_k».proof.Defs
public import proofs.«01_k».proof.Proof.Gen.AdamWinIdeal.Value
public import proofs.«01_k».proof.Proof.Gen.AdamWinRefIdeal.Run
public import proofs.«01_k».proof.Proof.Gen.AdamWinRefIdeal.Read
public import proofs.«01_k».proof.Proof.Adam
public import Idealize.ShloMosaic.Lib.Pipeline.ValueKit
public import Idealize.ShloMosaic.Lib.Claim

@[expose] public section

set_option maxRecDepth 16384

noncomputable section

namespace Cert.Proof.AdamWin

open Idealize.ShloMosaic Idealize.ShloMosaic.TcCoe Idealize.SL.Sem
open Idealize.ShloMosaic.Pipeline (Dat)
open Cert.AdamWinIdeal Cert.AdamWinIdeal.Gen Cert.Proof.Adam

abbrev Arr := FVec Ideal ⟨2, ![2080, 2048]⟩ .f32
abbrev Blk := FVec Ideal ⟨2, ![208, 2048]⟩ .f32

section
variable (W G M V : Blk) (r : Fin 208) (j : Fin 2048)

theorem pay1 : k0_pay1 (F := Ideal) G M (ix2 r j) = mom (G (ix2 r j)) (M (ix2 r j)) := by
  unfold mom; pointwise [k0_pay1]

theorem pay2 : k0_pay2 (F := Ideal) G V (ix2 r j) = sec (G (ix2 r j)) (V (ix2 r j)) := by
  unfold sec; pointwise [k0_pay2]

theorem pay3 : k0_pay3 (F := Ideal) W G M V (ix2 r j) = delta (W (ix2 r j)) (G (ix2 r j)) (M (ix2 r j)) (V (ix2 r j)) := by
  unfold delta; pointwise [k0_pay3]; simp only [pay1, pay2]

end

namespace Ref
open Cert.AdamWinRefIdeal.Read
variable (W G M V : Arr) (r : Fin 2080) (j : Fin 2048)

theorem at4 : val_main_v4 (F := Ideal) G M (ix2 r j) = mom (G (ix2 r j)) (M (ix2 r j)) := by
  unfold mom; pointwise [val_main_v4, val_main_v3, val_main_v2, val_main_v1, val_main_v0, val_main_cst, val_main_cst_0]

theorem at10 : val_main_v10 (F := Ideal) G V (ix2 r j) = sec (G (ix2 r j)) (V (ix2 r j)) := by
  unfold sec; pointwise [val_main_v10, val_main_v9, val_main_v8, val_main_v7, val_main_v6, val_main_v5, val_main_cst_1, val_main_cst_2]

theorem at23 : val_main_v23 (F := Ideal) W G M V (ix2 r j) = delta (W (ix2 r j)) (G (ix2 r j)) (M (ix2 r j)) (V (ix2 r j)) := by
  unfold delta
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  simp only [at4, at10]

end Ref

variable (m : (ℓ : Loc nD τ sig) → Buf (Elt Ideal) ℓ)

/-- The argument arrays, as arrays of extended reals. -/
abbrev argW (c : Dev nD) : Arr := m ((c : Thread nD τ).loc main_arg0)
abbrev argG (c : Dev nD) : Arr := m ((c : Thread nD τ).loc main_arg1)
abbrev argM (c : Dev nD) : Arr := m ((c : Thread nD τ).loc main_arg2)
abbrev argV (c : Dev nD) : Arr := m ((c : Thread nD τ).loc main_arg3)

/-- Which block each window holds at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem lt (t : Fin cfg0.N) (r : Fin 208) : t.val * 208 + r.val < 2080 := by
  have h : t.val < 10 := t.isLt
  omega

/-- The array's row that a tile's row is. -/
abbrev at_ (t : Fin cfg0.N) (r : Fin 208) : Fin 2080 := ⟨t.val * 208 + r.val, lt t r⟩

theorem readW (c : Dev nD) (t : Fin cfg0.N) (r : Fin 208) (j : Fin 2048) : (iblk m c 0 t : Blk) (ix2 r j) = argW m c (ix2 (at_ t r) j) := by
  blk_ext [iblk, V, idx t]

theorem readG (c : Dev nD) (t : Fin cfg0.N) (r : Fin 208) (j : Fin 2048) : (iblk m c 1 t : Blk) (ix2 r j) = argG m c (ix2 (at_ t r) j) := by
  blk_ext [iblk, V, idx t]

theorem readM (c : Dev nD) (t : Fin cfg0.N) (r : Fin 208) (j : Fin 2048) : (iblk m c 2 t : Blk) (ix2 r j) = argM m c (ix2 (at_ t r) j) := by
  blk_ext [iblk, V, idx t]

theorem readV (c : Dev nD) (t : Fin cfg0.N) (r : Fin 208) (j : Fin 2048) : (iblk m c 3 t : Blk) (ix2 r j) = argV m c (ix2 (at_ t r) j) := by
  blk_ext [iblk, V, idx t]

/-- The change of the weight after the run. -/
theorem final4 (c : Dev nD) : (dats m 0 c).arrAt 4 (cfgs 0).N = Cert.AdamWinRefIdeal.Read.val_main_v23 (F := Ideal) (argW m c) (argG m c) (argM m c) (argV m c) := by
  refine (dats m 0 c).arrAt_eq_of_covers 4 _ (by decide +kernel) fun t _ x => ?_
  obtain ⟨r, j, rfl⟩ : ∃ r j, x = ix2 r j := ⟨_, _, eq_ix2 x⟩
  rw [show ((cfg0.win 4).blk t).view.emb (ix2 r j) = ix2 (at_ t r) j by blk_ext [idx t], Ref.at23, after0_4]; frame_out
  refine (pay3 _ _ _ _ r j).trans ?_
  rw [readW m c t r j, readG m c t r j, readM m c t r j, readV m c t r j]

/-- The first moment after the run. -/
theorem final5 (c : Dev nD) : (dats m 0 c).arrAt 5 (cfgs 0).N = Cert.AdamWinRefIdeal.Read.val_main_v4 (F := Ideal) (argG m c) (argM m c) := by
  refine (dats m 0 c).arrAt_eq_of_covers 5 _ (by decide +kernel) fun t _ x => ?_
  obtain ⟨r, j, rfl⟩ : ∃ r j, x = ix2 r j := ⟨_, _, eq_ix2 x⟩
  rw [show ((cfg0.win 5).blk t).view.emb (ix2 r j) = ix2 (at_ t r) j by blk_ext [idx t], Ref.at4, after0_5]; frame_out
  refine (pay1 _ _ r j).trans ?_
  rw [readG m c t r j, readM m c t r j]

/-- The second moment after the run. -/
theorem final6 (c : Dev nD) : (dats m 0 c).arrAt 6 (cfgs 0).N = Cert.AdamWinRefIdeal.Read.val_main_v10 (F := Ideal) (argG m c) (argV m c) := by
  refine (dats m 0 c).arrAt_eq_of_covers 6 _ (by decide +kernel) fun t _ x => ?_
  obtain ⟨r, j, rfl⟩ : ∃ r j, x = ix2 r j := ⟨_, _, eq_ix2 x⟩
  rw [show ((cfg0.win 6).blk t).view.emb (ix2 r j) = ix2 (at_ t r) j by blk_ext [idx t], Ref.at10, after0_6]; frame_out
  refine (pay2 _ _ r j).trans ?_
  rw [readG m c t r j, readV m c t r j]

end Cert.Proof.AdamWin

namespace Cert.Proof

open Idealize.ShloMosaic Idealize.SL.Sem

theorem algebraicAdamWin : Cert.algebraic_AdamWinIdeal_AdamWinRefIdeal (hAdamWinIdeal := Cert.AdamWinIdeal.Gen.facts) (hAdamWinRefIdeal := Cert.AdamWinRefIdeal.Gen.facts) := by
  intro m g m' g' _ ha
  refine ⟨fun c => Cert.AdamWinRefIdeal.Read.val_main_v23 (F := Ideal) (AdamWin.argW m c) (AdamWin.argG m c) (AdamWin.argM m c) (AdamWin.argV m c),
    fun c => Cert.AdamWinRefIdeal.Read.val_main_v4 (F := Ideal) (AdamWin.argG m c) (AdamWin.argM m c),
    fun c => Cert.AdamWinRefIdeal.Read.val_main_v10 (F := Ideal) (AdamWin.argG m c) (AdamWin.argV m c), ?_, ?_⟩
  · refine (θ_run Cert.AdamWinIdeal.defs _ _).mono (fun r h c => ?_) (Cert.AdamWinIdeal.Value.run_blocks m g)
    obtain ⟨h0, h1, h2, rest⟩ := h c
    exact ⟨h0.trans (AdamWin.final4 m c), h1.trans (AdamWin.final5 m c), h2.trans (AdamWin.final6 m c), rest⟩
  · refine (θ_run Cert.AdamWinRefIdeal.defs _ _).mono (fun r h c => ?_) (Cert.AdamWinRefIdeal.Value.run m' g')
    obtain ⟨h0, h1, h2, rest⟩ := h c
    obtain ⟨a0, a1, a2, a3⟩ := ha c
    exact ⟨h0.trans ((Cert.AdamWinRefIdeal.Read.val_main_v23_eq _ _ _ _).trans (by rw [a0, a1, a2, a3])),
      h1.trans ((Cert.AdamWinRefIdeal.Read.val_main_v4_eq _ _).trans (by rw [a1, a2])),
      h2.trans ((Cert.AdamWinRefIdeal.Read.val_main_v10_eq _ _).trans (by rw [a1, a3])), rest⟩

end Cert.Proof

end
-- ==== Proof.lean ====
/- The claims of `Cert.Claim`, put together: the frames of the calls and of the references, and the equations that the
   modules beside this one prove. -/
module

public import proofs.«01_k».proof.Defs
public import proofs.«01_k».proof.Proof.RwkvFrame
public import proofs.«01_k».proof.Proof.RwkvIdealFrame
public import proofs.«01_k».proof.Proof.Gen.ReferenceIdeal.Run
public import proofs.«01_k».proof.Proof.Gen.Dcat.Frame
public import proofs.«01_k».proof.Proof.Gen.DcatIdeal.Frame
public import proofs.«01_k».proof.Proof.Gen.DcatRefIdeal.Run
public import proofs.«01_k».proof.Proof.Gen.Dwout.Frame
public import proofs.«01_k».proof.Proof.Gen.DwoutIdeal.Frame
public import proofs.«01_k».proof.Proof.Gen.DwoutRefIdeal.Run
public import proofs.«01_k».proof.Proof.Gen.Dwin.Frame
public import proofs.«01_k».proof.Proof.Gen.DwinIdeal.Frame
public import proofs.«01_k».proof.Proof.Gen.DwinRefIdeal.Run
public import proofs.«01_k».proof.Proof.Gen.Dh.Frame
public import proofs.«01_k».proof.Proof.Gen.DhIdeal.Frame
public import proofs.«01_k».proof.Proof.Gen.DhRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.LnBwd.Frame
public import proofs.«01_k».proof.Proof.Gen.LnBwdIdeal.Frame
public import proofs.«01_k».proof.Proof.Gen.LnBwdRefIdeal.Run
public import proofs.«01_k».proof.Proof.Gen.LnLoss.Frame
public import proofs.«01_k».proof.Proof.Gen.LnLossIdeal.Frame
public import proofs.«01_k».proof.Proof.Gen.LnLossRefIdeal.Run
public import proofs.«01_k».proof.Proof.Gen.AdamWin.Frame
public import proofs.«01_k».proof.Proof.Gen.AdamWinIdeal.Frame
public import proofs.«01_k».proof.Proof.Gen.AdamWinRefIdeal.Run
public import proofs.«01_k».proof.Proof.Gen.AdamWout.Frame
public import proofs.«01_k».proof.Proof.Gen.AdamWoutIdeal.Frame
public import proofs.«01_k».proof.Proof.Gen.AdamWoutRefIdeal.Run
public import proofs.«01_k».proof.Proof.Gen.SumSmall.Frame
public import proofs.«01_k».proof.Proof.Gen.SumSmallIdeal.Frame
public import proofs.«01_k».proof.Proof.Gen.SumSmallRefIdeal.Run
public import proofs.«01_k».proof.Proof.Gen.SumWin.Frame
public import proofs.«01_k».proof.Proof.Gen.SumWinIdeal.Frame
public import proofs.«01_k».proof.Proof.Gen.SumWinRefIdeal.Run
public import proofs.«01_k».proof.Proof.Gen.SumWout.Frame
public import proofs.«01_k».proof.Proof.Gen.SumWoutIdeal.Frame
public import proofs.«01_k».proof.Proof.Gen.SumWoutRefIdeal.Run
public import proofs.«01_k».proof.Proof.Gen.SumPack.Frame
public import proofs.«01_k».proof.Proof.Gen.SumPackIdeal.Frame
public import proofs.«01_k».proof.Proof.Gen.SumPackRefIdeal.Run
public import proofs.«01_k».proof.Proof.Gen.LnFwd.Frame
public import proofs.«01_k».proof.Proof.Gen.LnFwdIdeal.Frame
public import proofs.«01_k».proof.Proof.Gen.LnFwdRefIdeal.Run
public import proofs.«01_k».proof.Proof.Gen.SibWin.Frame
public import proofs.«01_k».proof.Proof.SibWinOk
public import proofs.«01_k».proof.Proof.Gen.SibWinIdeal.Frame
public import proofs.«01_k».proof.Proof.SibWinIdealOk
public import proofs.«01_k».proof.Proof.Gen.SibWinRefIdeal.Run
public import proofs.«01_k».proof.Proof.Gen.SibWout.Frame
public import proofs.«01_k».proof.Proof.SibWoutOk
public import proofs.«01_k».proof.Proof.Gen.SibWoutIdeal.Frame
public import proofs.«01_k».proof.Proof.SibWoutIdealOk
public import proofs.«01_k».proof.Proof.Gen.SibWoutRefIdeal.Run
public import proofs.«01_k».proof.Proof.Gen.SibPack.Frame
public import proofs.«01_k».proof.Proof.SibPackOk
public import proofs.«01_k».proof.Proof.Gen.SibPackIdeal.Frame
public import proofs.«01_k».proof.Proof.SibPackIdealOk
public import proofs.«01_k».proof.Proof.Gen.SibPackRefIdeal.Run
public import proofs.«01_k».proof.Proof.Gen.SibPackFirst.Frame
public import proofs.«01_k».proof.Proof.SibPackFirstOk
public import proofs.«01_k».proof.Proof.Gen.SibPackFirstIdeal.Frame
public import proofs.«01_k».proof.Proof.SibPackFirstIdealOk
public import proofs.«01_k».proof.Proof.Gen.SibPackFirstRefIdeal.Run
public import proofs.«01_k».proof.Proof.Gen.SumPackFirst.Frame
public import proofs.«01_k».proof.Proof.Gen.SumPackFirstIdeal.Frame
public import proofs.«01_k».proof.Proof.Gen.SumPackFirstRefIdeal.Run
public import proofs.«01_k».proof.Proof.Out
public import proofs.«01_k».proof.Proof.Dwout
public import proofs.«01_k».proof.Proof.SibWout
public import proofs.«01_k».proof.Proof.LnFwd
public import proofs.«01_k».proof.Proof.Proj
public import proofs.«01_k».proof.Proof.Dcat
public import proofs.«01_k».proof.Proof.SumWout
public import proofs.«01_k».proof.Proof.LnBwd
public import proofs.«01_k».proof.Proof.SibPack
public import proofs.«01_k».proof.Proof.LnLoss
public import proofs.«01_k».proof.Proof.SumPack
public import proofs.«01_k».proof.Proof.AdamWout
public import proofs.«01_k».proof.Proof.SibWin
public import proofs.«01_k».proof.Proof.Dh
public import proofs.«01_k».proof.Proof.SumWin
public import proofs.«01_k».proof.Proof.SumPackFirst
public import proofs.«01_k».proof.Proof.Rwkv
public import proofs.«01_k».proof.Proof.Dwin
public import proofs.«01_k».proof.Proof.SumSmall
public import proofs.«01_k».proof.Proof.SibPackFirst
public import proofs.«01_k».proof.Proof.AdamWin
public import Idealize.ShloMosaic.Lib.Pipeline.ValueKit
public import Idealize.ShloMosaic.Lib.Claim

@[expose] public section

noncomputable section

namespace Cert.Proof

open Idealize.ShloMosaic Idealize.SL.Sem

/-- The reference `ReferenceIdeal` runs, keeps its arguments and leaves every counter at zero. -/
theorem frameReferenceIdeal : Cert.quiescent_ReferenceIdeal (hReferenceIdeal := Cert.ReferenceIdeal.Gen.facts) := by
  intro m g _
  refine (θ_run Cert.ReferenceIdeal.defs _ _).mono (fun r h => ⟨fun c => (h c).2, funext fun s => ?_⟩) (Cert.ReferenceIdeal.Value.run m g)
  rcases s with ⟨_, i | i⟩ <;> exact i.elim0

/-- The reference `DcatRefIdeal` runs, keeps its arguments and leaves every counter at zero. -/
theorem frameDcatRefIdeal : Cert.quiescent_DcatRefIdeal (hDcatRefIdeal := Cert.DcatRefIdeal.Gen.facts) := by
  intro m g _
  refine (θ_run Cert.DcatRefIdeal.defs _ _).mono (fun r h => ⟨fun c => (h c).2, funext fun s => ?_⟩) (Cert.DcatRefIdeal.Value.run m g)
  rcases s with ⟨_, i | i⟩ <;> exact i.elim0

/-- The reference `DwoutRefIdeal` runs, keeps its arguments and leaves every counter at zero. -/
theorem frameDwoutRefIdeal : Cert.quiescent_DwoutRefIdeal (hDwoutRefIdeal := Cert.DwoutRefIdeal.Gen.facts) := by
  intro m g _
  refine (θ_run Cert.DwoutRefIdeal.defs _ _).mono (fun r h => ⟨fun c => (h c).2, funext fun s => ?_⟩) (Cert.DwoutRefIdeal.Value.run m g)
  rcases s with ⟨_, i | i⟩ <;> exact i.elim0

/-- The reference `DwinRefIdeal` runs, keeps its arguments and leaves every counter at zero. -/
theorem frameDwinRefIdeal : Cert.quiescent_DwinRefIdeal (hDwinRefIdeal := Cert.DwinRefIdeal.Gen.facts) := by
  intro m g _
  refine (θ_run Cert.DwinRefIdeal.defs _ _).mono (fun r h => ⟨fun c => (h c).2, funext fun s => ?_⟩) (Cert.DwinRefIdeal.Value.run m g)
  rcases s with ⟨_, i | i⟩ <;> exact i.elim0

/-- The reference `DhRefIdeal` runs, keeps its arguments and leaves every counter at zero. -/
theorem frameDhRefIdeal : Cert.quiescent_DhRefIdeal (hDhRefIdeal := Cert.DhRefIdeal.Gen.facts) := by
  intro m g _
  refine (θ_run Cert.DhRefIdeal.defs _ _).mono (fun r h => ⟨fun c => (h c).2, funext fun s => ?_⟩) (Cert.DhRefIdeal.Value.run m g)
  rcases s with ⟨_, i | i⟩ <;> exact i.elim0

/-- The reference `ProjRefIdeal` runs, keeps its arguments and leaves every counter at zero. -/
theorem frameProjRefIdeal : Cert.quiescent_ProjRefIdeal (hProjRefIdeal := Cert.ProjRefIdeal.Gen.facts) := by
  intro m g _
  refine (θ_run Cert.ProjRefIdeal.defs _ _).mono (fun r h => ⟨fun c => (h c).2, funext fun s => ?_⟩) (Cert.ProjRefIdeal.Value.run m g)
  rcases s with ⟨_, i | i⟩ <;> exact i.elim0

/-- The reference `OutRefIdeal` runs, keeps its arguments and leaves every counter at zero. -/
theorem frameOutRefIdeal : Cert.quiescent_OutRefIdeal (hOutRefIdeal := Cert.OutRefIdeal.Gen.facts) := by
  intro m g _
  refine (θ_run Cert.OutRefIdeal.defs _ _).mono (fun r h => ⟨fun c => (h c).2, funext fun s => ?_⟩) (Cert.OutRefIdeal.Value.run m g)
  rcases s with ⟨_, i | i⟩ <;> exact i.elim0

/-- The reference `LnBwdRefIdeal` runs, keeps its arguments and leaves every counter at zero. -/
theorem frameLnBwdRefIdeal : Cert.quiescent_LnBwdRefIdeal (hLnBwdRefIdeal := Cert.LnBwdRefIdeal.Gen.facts) := by
  intro m g _
  refine (θ_run Cert.LnBwdRefIdeal.defs _ _).mono (fun r h => ⟨fun c => (h c).2.2.2.2, funext fun s => ?_⟩) (Cert.LnBwdRefIdeal.Value.run m g)
  rcases s with ⟨_, i | i⟩ <;> exact i.elim0

/-- The reference `LnLossRefIdeal` runs, keeps its arguments and leaves every counter at zero. -/
theorem frameLnLossRefIdeal : Cert.quiescent_LnLossRefIdeal (hLnLossRefIdeal := Cert.LnLossRefIdeal.Gen.facts) := by
  intro m g _
  refine (θ_run Cert.LnLossRefIdeal.defs _ _).mono (fun r h => ⟨fun c => (h c).2.2.2.2.2, funext fun s => ?_⟩) (Cert.LnLossRefIdeal.Value.run m g)
  rcases s with ⟨_, i | i⟩ <;> exact i.elim0

/-- The reference `AdamWinRefIdeal` runs, keeps its arguments and leaves every counter at zero. -/
theorem frameAdamWinRefIdeal : Cert.quiescent_AdamWinRefIdeal (hAdamWinRefIdeal := Cert.AdamWinRefIdeal.Gen.facts) := by
  intro m g _
  refine (θ_run Cert.AdamWinRefIdeal.defs _ _).mono (fun r h => ⟨fun c => (h c).2.2.2, funext fun s => ?_⟩) (Cert.AdamWinRefIdeal.Value.run m g)
  rcases s with ⟨_, i | i⟩ <;> exact i.elim0

/-- The reference `AdamWoutRefIdeal` runs, keeps its arguments and leaves every counter at zero. -/
theorem frameAdamWoutRefIdeal : Cert.quiescent_AdamWoutRefIdeal (hAdamWoutRefIdeal := Cert.AdamWoutRefIdeal.Gen.facts) := by
  intro m g _
  refine (θ_run Cert.AdamWoutRefIdeal.defs _ _).mono (fun r h => ⟨fun c => (h c).2.2.2, funext fun s => ?_⟩) (Cert.AdamWoutRefIdeal.Value.run m g)
  rcases s with ⟨_, i | i⟩ <;> exact i.elim0

/-- The reference `SumSmallRefIdeal` runs, keeps its arguments and leaves every counter at zero. -/
theorem frameSumSmallRefIdeal : Cert.quiescent_SumSmallRefIdeal (hSumSmallRefIdeal := Cert.SumSmallRefIdeal.Gen.facts) := by
  intro m g _
  refine (θ_run Cert.SumSmallRefIdeal.defs _ _).mono (fun r h => ⟨fun c => (h c).2, funext fun s => ?_⟩) (Cert.SumSmallRefIdeal.Value.run m g)
  rcases s with ⟨_, i | i⟩ <;> exact i.elim0

/-- The reference `SumWinRefIdeal` runs, keeps its arguments and leaves every counter at zero. -/
theorem frameSumWinRefIdeal : Cert.quiescent_SumWinRefIdeal (hSumWinRefIdeal := Cert.SumWinRefIdeal.Gen.facts) := by
  intro m g _
  refine (θ_run Cert.SumWinRefIdeal.defs _ _).mono (fun r h => ⟨fun c => (h c).2, funext fun s => ?_⟩) (Cert.SumWinRefIdeal.Value.run m g)
  rcases s with ⟨_, i | i⟩ <;> exact i.elim0

/-- The reference `SumWoutRefIdeal` runs, keeps its arguments and leaves every counter at zero. -/
theorem frameSumWoutRefIdeal : Cert.quiescent_SumWoutRefIdeal (hSumWoutRefIdeal := Cert.SumWoutRefIdeal.Gen.facts) := by
  intro m g _
  refine (θ_run Cert.SumWoutRefIdeal.defs _ _).mono (fun r h => ⟨fun c => (h c).2, funext fun s => ?_⟩) (Cert.SumWoutRefIdeal.Value.run m g)
  rcases s with ⟨_, i | i⟩ <;> exact i.elim0

/-- The reference `SumPackRefIdeal` runs, keeps its arguments and leaves every counter at zero. -/
theorem frameSumPackRefIdeal : Cert.quiescent_SumPackRefIdeal (hSumPackRefIdeal := Cert.SumPackRefIdeal.Gen.facts) := by
  intro m g _
  refine (θ_run Cert.SumPackRefIdeal.defs _ _).mono (fun r h => ⟨fun c => (h c).2, funext fun s => ?_⟩) (Cert.SumPackRefIdeal.Value.run m g)
  rcases s with ⟨_, i | i⟩ <;> exact i.elim0

/-- The reference `LnFwdRefIdeal` runs, keeps its arguments and leaves every counter at zero. -/
theorem frameLnFwdRefIdeal : Cert.quiescent_LnFwdRefIdeal (hLnFwdRefIdeal := Cert.LnFwdRefIdeal.Gen.facts) := by
  intro m g _
  refine (θ_run Cert.LnFwdRefIdeal.defs _ _).mono (fun r h => ⟨fun c => (h c).2.2, funext fun s => ?_⟩) (Cert.LnFwdRefIdeal.Value.run m g)
  rcases s with ⟨_, i | i⟩ <;> exact i.elim0

/-- The reference `SibWinRefIdeal` runs, keeps its arguments and leaves every counter at zero. -/
theorem frameSibWinRefIdeal : Cert.quiescent_SibWinRefIdeal (hSibWinRefIdeal := Cert.SibWinRefIdeal.Gen.facts) := by
  intro m g _
  refine (θ_run Cert.SibWinRefIdeal.defs _ _).mono (fun r h => ⟨fun c => (h c).2, funext fun s => ?_⟩) (Cert.SibWinRefIdeal.Value.run m g)
  rcases s with ⟨_, i | i⟩ <;> exact i.elim0

/-- The reference `SibWoutRefIdeal` runs, keeps its arguments and leaves every counter at zero. -/
theorem frameSibWoutRefIdeal : Cert.quiescent_SibWoutRefIdeal (hSibWoutRefIdeal := Cert.SibWoutRefIdeal.Gen.facts) := by
  intro m g _
  refine (θ_run Cert.SibWoutRefIdeal.defs _ _).mono (fun r h => ⟨fun c => (h c).2, funext fun s => ?_⟩) (Cert.SibWoutRefIdeal.Value.run m g)
  rcases s with ⟨_, i | i⟩ <;> exact i.elim0

/-- The reference `SibPackRefIdeal` runs, keeps its arguments and leaves every counter at zero. -/
theorem frameSibPackRefIdeal : Cert.quiescent_SibPackRefIdeal (hSibPackRefIdeal := Cert.SibPackRefIdeal.Gen.facts) := by
  intro m g _
  refine (θ_run Cert.SibPackRefIdeal.defs _ _).mono (fun r h => ⟨fun c => (h c).2, funext fun s => ?_⟩) (Cert.SibPackRefIdeal.Value.run m g)
  rcases s with ⟨_, i | i⟩ <;> exact i.elim0

/-- The reference `SibPackFirstRefIdeal` runs, keeps its arguments and leaves every counter at zero. -/
theorem frameSibPackFirstRefIdeal : Cert.quiescent_SibPackFirstRefIdeal (hSibPackFirstRefIdeal := Cert.SibPackFirstRefIdeal.Gen.facts) := by
  intro m g _
  refine (θ_run Cert.SibPackFirstRefIdeal.defs _ _).mono (fun r h => ⟨fun c => (h c).2, funext fun s => ?_⟩) (Cert.SibPackFirstRefIdeal.Value.run m g)
  rcases s with ⟨_, i | i⟩ <;> exact i.elim0

/-- The reference `SumPackFirstRefIdeal` runs, keeps its arguments and leaves every counter at zero. -/
theorem frameSumPackFirstRefIdeal : Cert.quiescent_SumPackFirstRefIdeal (hSumPackFirstRefIdeal := Cert.SumPackFirstRefIdeal.Gen.facts) := by
  intro m g _
  refine (θ_run Cert.SumPackFirstRefIdeal.defs _ _).mono (fun r h => ⟨fun c => (h c).2, funext fun s => ?_⟩) (Cert.SumPackFirstRefIdeal.Value.run m g)
  rcases s with ⟨_, i | i⟩ <;> exact i.elim0

theorem claim : Cert.Claim :=
  ⟨Cert.Kernel.Gen.facts, Cert.KernelIdeal.Gen.facts, Cert.ReferenceIdeal.Gen.facts, Cert.Dcat.Gen.facts,
   Cert.DcatIdeal.Gen.facts, Cert.DcatRefIdeal.Gen.facts, Cert.Dwout.Gen.facts, Cert.DwoutIdeal.Gen.facts,
   Cert.DwoutRefIdeal.Gen.facts, Cert.Dwin.Gen.facts, Cert.DwinIdeal.Gen.facts, Cert.DwinRefIdeal.Gen.facts,
   Cert.Dh.Gen.facts, Cert.DhIdeal.Gen.facts, Cert.DhRefIdeal.Gen.facts, Cert.Proj.Gen.facts,
   Cert.ProjIdeal.Gen.facts, Cert.ProjRefIdeal.Gen.facts, Cert.Out.Gen.facts, Cert.OutIdeal.Gen.facts,
   Cert.OutRefIdeal.Gen.facts, Cert.LnBwd.Gen.facts, Cert.LnBwdIdeal.Gen.facts, Cert.LnBwdRefIdeal.Gen.facts,
   Cert.LnLoss.Gen.facts, Cert.LnLossIdeal.Gen.facts, Cert.LnLossRefIdeal.Gen.facts, Cert.AdamWin.Gen.facts,
   Cert.AdamWinIdeal.Gen.facts, Cert.AdamWinRefIdeal.Gen.facts, Cert.AdamWout.Gen.facts, Cert.AdamWoutIdeal.Gen.facts,
   Cert.AdamWoutRefIdeal.Gen.facts, Cert.SumSmall.Gen.facts, Cert.SumSmallIdeal.Gen.facts, Cert.SumSmallRefIdeal.Gen.facts,
   Cert.SumWin.Gen.facts, Cert.SumWinIdeal.Gen.facts, Cert.SumWinRefIdeal.Gen.facts, Cert.SumWout.Gen.facts,
   Cert.SumWoutIdeal.Gen.facts, Cert.SumWoutRefIdeal.Gen.facts, Cert.SumPack.Gen.facts, Cert.SumPackIdeal.Gen.facts,
   Cert.SumPackRefIdeal.Gen.facts, Cert.LnFwd.Gen.facts, Cert.LnFwdIdeal.Gen.facts, Cert.LnFwdRefIdeal.Gen.facts,
   Cert.SibWin.Gen.facts, Cert.SibWinIdeal.Gen.facts, Cert.SibWinRefIdeal.Gen.facts, Cert.SibWout.Gen.facts,
   Cert.SibWoutIdeal.Gen.facts, Cert.SibWoutRefIdeal.Gen.facts, Cert.SibPack.Gen.facts, Cert.SibPackIdeal.Gen.facts,
   Cert.SibPackRefIdeal.Gen.facts, Cert.SibPackFirst.Gen.facts, Cert.SibPackFirstIdeal.Gen.facts, Cert.SibPackFirstRefIdeal.Gen.facts,
   Cert.SumPackFirst.Gen.facts, Cert.SumPackFirstIdeal.Gen.facts, Cert.SumPackFirstRefIdeal.Gen.facts, Cert.Proof.Rwkv.maskFacts,
   fun m g _ => Cert.Kernel.Gen.frame m g,
   fun m g _ => Cert.KernelIdeal.Gen.frame m g,
   frameReferenceIdeal,
   fun m g _ => Cert.Dcat.Gen.frame m g,
   fun m g _ => Cert.DcatIdeal.Gen.frame m g,
   frameDcatRefIdeal,
   fun m g _ => Cert.Dwout.Gen.frame m g,
   fun m g _ => Cert.DwoutIdeal.Gen.frame m g,
   frameDwoutRefIdeal,
   fun m g _ => Cert.Dwin.Gen.frame m g,
   fun m g _ => Cert.DwinIdeal.Gen.frame m g,
   frameDwinRefIdeal,
   fun m g _ => Cert.Dh.Gen.frame m g,
   fun m g _ => Cert.DhIdeal.Gen.frame m g,
   frameDhRefIdeal,
   fun m g _ => Cert.Proj.Gen.frame m g,
   fun m g _ => Cert.ProjIdeal.Gen.frame m g,
   frameProjRefIdeal,
   fun m g _ => Cert.Out.Gen.frame m g,
   fun m g _ => Cert.OutIdeal.Gen.frame m g,
   frameOutRefIdeal,
   fun m g _ => Cert.LnBwd.Gen.frame m g,
   fun m g _ => Cert.LnBwdIdeal.Gen.frame m g,
   frameLnBwdRefIdeal,
   fun m g _ => Cert.LnLoss.Gen.frame m g,
   fun m g _ => Cert.LnLossIdeal.Gen.frame m g,
   frameLnLossRefIdeal,
   fun m g _ => Cert.AdamWin.Gen.frame m g,
   fun m g _ => Cert.AdamWinIdeal.Gen.frame m g,
   frameAdamWinRefIdeal,
   fun m g _ => Cert.AdamWout.Gen.frame m g,
   fun m g _ => Cert.AdamWoutIdeal.Gen.frame m g,
   frameAdamWoutRefIdeal,
   fun m g _ => Cert.SumSmall.Gen.frame m g,
   fun m g _ => Cert.SumSmallIdeal.Gen.frame m g,
   frameSumSmallRefIdeal,
   fun m g _ => Cert.SumWin.Gen.frame m g,
   fun m g _ => Cert.SumWinIdeal.Gen.frame m g,
   frameSumWinRefIdeal,
   fun m g _ => Cert.SumWout.Gen.frame m g,
   fun m g _ => Cert.SumWoutIdeal.Gen.frame m g,
   frameSumWoutRefIdeal,
   fun m g _ => Cert.SumPack.Gen.frame m g,
   fun m g _ => Cert.SumPackIdeal.Gen.frame m g,
   frameSumPackRefIdeal,
   fun m g _ => Cert.LnFwd.Gen.frame m g,
   fun m g _ => Cert.LnFwdIdeal.Gen.frame m g,
   frameLnFwdRefIdeal,
   fun m g _ => Cert.SibWin.Gen.frame m g (Cert.Proof.SibWinOk.ok m),
   fun m g _ => Cert.SibWinIdeal.Gen.frame m g (Cert.Proof.SibWinIdealOk.ok m),
   frameSibWinRefIdeal,
   fun m g _ => Cert.SibWout.Gen.frame m g (Cert.Proof.SibWoutOk.ok m),
   fun m g _ => Cert.SibWoutIdeal.Gen.frame m g (Cert.Proof.SibWoutIdealOk.ok m),
   frameSibWoutRefIdeal,
   fun m g _ => Cert.SibPack.Gen.frame m g (Cert.Proof.SibPackOk.ok m),
   fun m g _ => Cert.SibPackIdeal.Gen.frame m g (Cert.Proof.SibPackIdealOk.ok m),
   frameSibPackRefIdeal,
   fun m g _ => Cert.SibPackFirst.Gen.frame m g (Cert.Proof.SibPackFirstOk.ok m),
   fun m g _ => Cert.SibPackFirstIdeal.Gen.frame m g (Cert.Proof.SibPackFirstIdealOk.ok m),
   frameSibPackFirstRefIdeal,
   fun m g _ => Cert.SumPackFirst.Gen.frame m g,
   fun m g _ => Cert.SumPackFirstIdeal.Gen.frame m g,
   frameSumPackFirstRefIdeal,
   trivial,
   algebraicRwkv,
   trivial,
   algebraicDcat,
   trivial,
   algebraicDwout,
   trivial,
   algebraicDwin,
   trivial,
   algebraicDh,
   trivial,
   algebraicProj,
   trivial,
   algebraicOut,
   trivial,
   algebraicLnBwd,
   trivial,
   algebraicLnLoss,
   trivial,
   algebraicAdamWin,
   trivial,
   algebraicAdamWout,
   trivial,
   algebraicSumSmall,
   trivial,
   algebraicSumWin,
   trivial,
   algebraicSumWout,
   trivial,
   algebraicSumPack,
   trivial,
   algebraicLnFwd,
   trivial,
   algebraicSibWin,
   trivial,
   algebraicSibWout,
   trivial,
   algebraicSibPack,
   trivial,
   algebraicSibPackFirst,
   trivial,
   algebraicSumPackFirst⟩

end Cert.Proof

end
